-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 49152]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S32x24x768 : Shape := ⟨3, ![32, 24, 768]⟩
abbrev S32 : Shape := ⟨1, ![32]⟩
abbrev S_ : Shape := ⟨0, ![]⟩
abbrev S192x768 : Shape := ⟨2, ![192, 768]⟩
abbrev S192x1536 : Shape := ⟨2, ![192, 1536]⟩
abbrev S24x768 : Shape := ⟨2, ![24, 768]⟩
abbrev S1x24x768 : Shape := ⟨3, ![1, 24, 768]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S768x768, .bf16⟩
  | .hbm, ⟨1, _⟩ => ⟨S768x1536, .bf16⟩
  | .hbm, ⟨2, _⟩ => ⟨S1536x768, .bf16⟩
  | .hbm, ⟨3, _⟩ => ⟨S768x768, .f32⟩
  | .local _ .vmem, ⟨0, _⟩ => ⟨S768x768, .bf16⟩
  | .local _ .vmem, ⟨1, _⟩ => ⟨S768x1536, .bf16⟩
  | .local _ .vmem, ⟨2, _⟩ => ⟨S1536x768, .bf16⟩
  | .local _ .vmem, ⟨3, _⟩ => ⟨S768x768, .f32⟩
  | .local _ .vmem, ⟨4, _⟩ => ⟨S32x24x768, .bf16⟩
  | .local _ .vmem, ⟨5, _⟩ => ⟨S32x24x768, .bf16⟩
  | .local _ .vmem, ⟨6, _⟩ => ⟨S32x24x768, .bf16⟩
  | _, _ => ⟨S768x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v21 : BitVec 1 := Scalar.cmpi .ne v2 c0_i32_5
  let v22 : BitVec 32 := Scalar.extui v21
  let c0_i32_6 : BitVec 32 := 0#32
  let v23 : BitVec 1 := Scalar.cmpi .ne v22 c0_i32_6
  v23

def k0_dev1 : Nat :=
  let c0_i32_871 : BitVec 32 := 0#32
  let c0_i32_869 : BitVec 32 := 0#32
  let c1_i32_870 : BitVec 32 := 1#32
  let v1600 : BitVec 32 := Scalar.muli c0_i32_869 c1_i32_870
  let v1601 : BitVec 32 := Scalar.addi c0_i32_871 v1600
  v1601.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v24 : BitVec 1 := Scalar.cmpi .ne v2 c1_i32_7
  let v25 : BitVec 32 := Scalar.extui v24
  let c0_i32_8 : BitVec 32 := 0#32
  let v26 : BitVec 1 := Scalar.cmpi .ne v25 c0_i32_8
  v26

def k0_dev2 : Nat :=
  let c0_i32_871 : BitVec 32 := 0#32
  let c1_i32_869 : BitVec 32 := 1#32
  let c1_i32_870 : BitVec 32 := 1#32
  let v1600 : BitVec 32 := Scalar.muli c1_i32_869 c1_i32_870
  let v1601 : BitVec 32 := Scalar.addi c0_i32_871 v1600
  v1601.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v27 : BitVec 1 := Scalar.cmpi .ne v2 c2_i32
  let v28 : BitVec 32 := Scalar.extui v27
  let c0_i32_9 : BitVec 32 := 0#32
  let v29 : BitVec 1 := Scalar.cmpi .ne v28 c0_i32_9
  v29

def k0_dev3 : Nat :=
  let c0_i32_871 : BitVec 32 := 0#32
  let c2_i32_869 : BitVec 32 := 2#32
  let c1_i32_870 : BitVec 32 := 1#32
  let v1600 : BitVec 32 := Scalar.muli c2_i32_869 c1_i32_870
  let v1601 : BitVec 32 := Scalar.addi c0_i32_871 v1600
  v1601.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 1 := Scalar.cmpi .ne v2 c3_i32
  let v31 : BitVec 32 := Scalar.extui v30
  let c0_i32_10 : BitVec 32 := 0#32
  let v32 : BitVec 1 := Scalar.cmpi .ne v31 c0_i32_10
  v32

def k0_dev4 : Nat :=
  let c0_i32_871 : BitVec 32 := 0#32
  let c3_i32_869 : BitVec 32 := 3#32
  let c1_i32_870 : BitVec 32 := 1#32
  let v1600 : BitVec 32 := Scalar.muli c3_i32_869 c1_i32_870
  let v1601 : BitVec 32 := Scalar.addi c0_i32_871 v1600
  v1601.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v33 : BitVec 1 := Scalar.cmpi .ne v2 c4_i32
  let v34 : BitVec 32 := Scalar.extui v33
  let c0_i32_11 : BitVec 32 := 0#32
  let v35 : BitVec 1 := Scalar.cmpi .ne v34 c0_i32_11
  v35

def k0_dev5 : Nat :=
  let c0_i32_871 : BitVec 32 := 0#32
  let c4_i32_869 : BitVec 32 := 4#32
  let c1_i32_870 : BitVec 32 := 1#32
  let v1600 : BitVec 32 := Scalar.muli c4_i32_869 c1_i32_870
  let v1601 : BitVec 32 := Scalar.addi c0_i32_871 v1600
  v1601.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v36 : BitVec 1 := Scalar.cmpi .ne v2 c5_i32
  let v37 : BitVec 32 := Scalar.extui v36
  let c0_i32_12 : BitVec 32 := 0#32
  let v38 : BitVec 1 := Scalar.cmpi .ne v37 c0_i32_12
  v38

def k0_dev6 : Nat :=
  let c0_i32_871 : BitVec 32 := 0#32
  let c5_i32_869 : BitVec 32 := 5#32
  let c1_i32_870 : BitVec 32 := 1#32
  let v1600 : BitVec 32 := Scalar.muli c5_i32_869 c1_i32_870
  let v1601 : BitVec 32 := Scalar.addi c0_i32_871 v1600
  v1601.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v39 : BitVec 1 := Scalar.cmpi .ne v2 c6_i32
  let v40 : BitVec 32 := Scalar.extui v39
  let c0_i32_13 : BitVec 32 := 0#32
  let v41 : BitVec 1 := Scalar.cmpi .ne v40 c0_i32_13
  v41

def k0_dev7 : Nat :=
  let c0_i32_871 : BitVec 32 := 0#32
  let c6_i32_869 : BitVec 32 := 6#32
  let c1_i32_870 : BitVec 32 := 1#32
  let v1600 : BitVec 32 := Scalar.muli c6_i32_869 c1_i32_870
  let v1601 : BitVec 32 := Scalar.addi c0_i32_871 v1600
  v1601.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v42 : BitVec 1 := Scalar.cmpi .ne v2 c7_i32
  let v43 : BitVec 32 := Scalar.extui v42
  let c0_i32_14 : BitVec 32 := 0#32
  let v44 : BitVec 1 := Scalar.cmpi .ne v43 c0_i32_14
  v44

def k0_dev8 : Nat :=
  let c0_i32_871 : BitVec 32 := 0#32
  let c7_i32_869 : BitVec 32 := 7#32
  let c1_i32_870 : BitVec 32 := 1#32
  let v1600 : BitVec 32 := Scalar.muli c7_i32_869 c1_i32_870
  let v1601 : BitVec 32 := Scalar.addi c0_i32_871 v1600
  v1601.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_15 : BitVec 32 := 8#32
  let v45 : BitVec 1 := Scalar.cmpi .ne v2 c8_i32_15
  let v46 : BitVec 32 := Scalar.extui v45
  let c0_i32_16 : BitVec 32 := 0#32
  let v47 : BitVec 1 := Scalar.cmpi .ne v46 c0_i32_16
  v47

def k0_dev9 : Nat :=
  let c0_i32_871 : BitVec 32 := 0#32
  let c8_i32_869 : BitVec 32 := 8#32
  let c1_i32_870 : BitVec 32 := 1#32
  let v1600 : BitVec 32 := Scalar.muli c8_i32_869 c1_i32_870
  let v1601 : BitVec 32 := Scalar.addi c0_i32_871 v1600
  v1601.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v48 : BitVec 1 := Scalar.cmpi .ne v2 c9_i32
  let v49 : BitVec 32 := Scalar.extui v48
  let c0_i32_17 : BitVec 32 := 0#32
  let v50 : BitVec 1 := Scalar.cmpi .ne v49 c0_i32_17
  v50

def k0_dev10 : Nat :=
  let c0_i32_871 : BitVec 32 := 0#32
  let c9_i32_869 : BitVec 32 := 9#32
  let c1_i32_870 : BitVec 32 := 1#32
  let v1600 : BitVec 32 := Scalar.muli c9_i32_869 c1_i32_870
  let v1601 : BitVec 32 := Scalar.addi c0_i32_871 v1600
  v1601.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v51 : BitVec 1 := Scalar.cmpi .ne v2 c10_i32
  let v52 : BitVec 32 := Scalar.extui v51
  let c0_i32_18 : BitVec 32 := 0#32
  let v53 : BitVec 1 := Scalar.cmpi .ne v52 c0_i32_18
  v53

def k0_dev11 : Nat :=
  let c0_i32_871 : BitVec 32 := 0#32
  let c10_i32_869 : BitVec 32 := 10#32
  let c1_i32_870 : BitVec 32 := 1#32
  let v1600 : BitVec 32 := Scalar.muli c10_i32_869 c1_i32_870
  let v1601 : BitVec 32 := Scalar.addi c0_i32_871 v1600
  v1601.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v54 : BitVec 1 := Scalar.cmpi .ne v2 c11_i32
  let v55 : BitVec 32 := Scalar.extui v54
  let c0_i32_19 : BitVec 32 := 0#32
  let v56 : BitVec 1 := Scalar.cmpi .ne v55 c0_i32_19
  v56

def k0_dev12 : Nat :=
  let c0_i32_871 : BitVec 32 := 0#32
  let c11_i32_869 : BitVec 32 := 11#32
  let c1_i32_870 : BitVec 32 := 1#32
  let v1600 : BitVec 32 := Scalar.muli c11_i32_869 c1_i32_870
  let v1601 : BitVec 32 := Scalar.addi c0_i32_871 v1600
  v1601.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v57 : BitVec 1 := Scalar.cmpi .ne v2 c12_i32
  let v58 : BitVec 32 := Scalar.extui v57
  let c0_i32_20 : BitVec 32 := 0#32
  let v59 : BitVec 1 := Scalar.cmpi .ne v58 c0_i32_20
  v59

def k0_dev13 : Nat :=
  let c0_i32_871 : BitVec 32 := 0#32
  let c12_i32_869 : BitVec 32 := 12#32
  let c1_i32_870 : BitVec 32 := 1#32
  let v1600 : BitVec 32 := Scalar.muli c12_i32_869 c1_i32_870
  let v1601 : BitVec 32 := Scalar.addi c0_i32_871 v1600
  v1601.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v60 : BitVec 1 := Scalar.cmpi .ne v2 c13_i32
  let v61 : BitVec 32 := Scalar.extui v60
  let c0_i32_21 : BitVec 32 := 0#32
  let v62 : BitVec 1 := Scalar.cmpi .ne v61 c0_i32_21
  v62

def k0_dev14 : Nat :=
  let c0_i32_871 : BitVec 32 := 0#32
  let c13_i32_869 : BitVec 32 := 13#32
  let c1_i32_870 : BitVec 32 := 1#32
  let v1600 : BitVec 32 := Scalar.muli c13_i32_869 c1_i32_870
  let v1601 : BitVec 32 := Scalar.addi c0_i32_871 v1600
  v1601.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v63 : BitVec 1 := Scalar.cmpi .ne v2 c14_i32
  let v64 : BitVec 32 := Scalar.extui v63
  let c0_i32_22 : BitVec 32 := 0#32
  let v65 : BitVec 1 := Scalar.cmpi .ne v64 c0_i32_22
  v65

def k0_dev15 : Nat :=
  let c0_i32_871 : BitVec 32 := 0#32
  let c14_i32_869 : BitVec 32 := 14#32
  let c1_i32_870 : BitVec 32 := 1#32
  let v1600 : BitVec 32 := Scalar.muli c14_i32_869 c1_i32_870
  let v1601 : BitVec 32 := Scalar.addi c0_i32_871 v1600
  v1601.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v66 : BitVec 1 := Scalar.cmpi .ne v2 c15_i32
  let v67 : BitVec 32 := Scalar.extui v66
  let c0_i32_23 : BitVec 32 := 0#32
  let v68 : BitVec 1 := Scalar.cmpi .ne v67 c0_i32_23
  v68

def k0_dev16 : Nat :=
  let c0_i32_871 : BitVec 32 := 0#32
  let c15_i32_869 : BitVec 32 := 15#32
  let c1_i32_870 : BitVec 32 := 1#32
  let v1600 : BitVec 32 := Scalar.muli c15_i32_869 c1_i32_870
  let v1601 : BitVec 32 := Scalar.addi c0_i32_871 v1600
  v1601.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v69 : BitVec 1 := Scalar.cmpi .ne v2 c16_i32
  let v70 : BitVec 32 := Scalar.extui v69
  let c0_i32_24 : BitVec 32 := 0#32
  let v71 : BitVec 1 := Scalar.cmpi .ne v70 c0_i32_24
  v71

def k0_dev17 : Nat :=
  let c0_i32_871 : BitVec 32 := 0#32
  let c16_i32_869 : BitVec 32 := 16#32
  let c1_i32_870 : BitVec 32 := 1#32
  let v1600 : BitVec 32 := Scalar.muli c16_i32_869 c1_i32_870
  let v1601 : BitVec 32 := Scalar.addi c0_i32_871 v1600
  v1601.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v72 : BitVec 1 := Scalar.cmpi .ne v2 c17_i32
  let v73 : BitVec 32 := Scalar.extui v72
  let c0_i32_25 : BitVec 32 := 0#32
  let v74 : BitVec 1 := Scalar.cmpi .ne v73 c0_i32_25
  v74

def k0_dev18 : Nat :=
  let c0_i32_871 : BitVec 32 := 0#32
  let c17_i32_869 : BitVec 32 := 17#32
  let c1_i32_870 : BitVec 32 := 1#32
  let v1600 : BitVec 32 := Scalar.muli c17_i32_869 c1_i32_870
  let v1601 : BitVec 32 := Scalar.addi c0_i32_871 v1600
  v1601.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v75 : BitVec 1 := Scalar.cmpi .ne v2 c18_i32
  let v76 : BitVec 32 := Scalar.extui v75
  let c0_i32_26 : BitVec 32 := 0#32
  let v77 : BitVec 1 := Scalar.cmpi .ne v76 c0_i32_26
  v77

def k0_dev19 : Nat :=
  let c0_i32_871 : BitVec 32 := 0#32
  let c18_i32_869 : BitVec 32 := 18#32
  let c1_i32_870 : BitVec 32 := 1#32
  let v1600 : BitVec 32 := Scalar.muli c18_i32_869 c1_i32_870
  let v1601 : BitVec 32 := Scalar.addi c0_i32_871 v1600
  v1601.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v78 : BitVec 1 := Scalar.cmpi .ne v2 c19_i32
  let v79 : BitVec 32 := Scalar.extui v78
  let c0_i32_27 : BitVec 32 := 0#32
  let v80 : BitVec 1 := Scalar.cmpi .ne v79 c0_i32_27
  v80

def k0_dev20 : Nat :=
  let c0_i32_871 : BitVec 32 := 0#32
  let c19_i32_869 : BitVec 32 := 19#32
  let c1_i32_870 : BitVec 32 := 1#32
  let v1600 : BitVec 32 := Scalar.muli c19_i32_869 c1_i32_870
  let v1601 : BitVec 32 := Scalar.addi c0_i32_871 v1600
  v1601.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v81 : BitVec 1 := Scalar.cmpi .ne v2 c20_i32
  let v82 : BitVec 32 := Scalar.extui v81
  let c0_i32_28 : BitVec 32 := 0#32
  let v83 : BitVec 1 := Scalar.cmpi .ne v82 c0_i32_28
  v83

def k0_dev21 : Nat :=
  let c0_i32_871 : BitVec 32 := 0#32
  let c20_i32_869 : BitVec 32 := 20#32
  let c1_i32_870 : BitVec 32 := 1#32
  let v1600 : BitVec 32 := Scalar.muli c20_i32_869 c1_i32_870
  let v1601 : BitVec 32 := Scalar.addi c0_i32_871 v1600
  v1601.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 1 := Scalar.cmpi .ne v2 c21_i32
  let v85 : BitVec 32 := Scalar.extui v84
  let c0_i32_29 : BitVec 32 := 0#32
  let v86 : BitVec 1 := Scalar.cmpi .ne v85 c0_i32_29
  v86

def k0_dev22 : Nat :=
  let c0_i32_871 : BitVec 32 := 0#32
  let c21_i32_869 : BitVec 32 := 21#32
  let c1_i32_870 : BitVec 32 := 1#32
  let v1600 : BitVec 32 := Scalar.muli c21_i32_869 c1_i32_870
  let v1601 : BitVec 32 := Scalar.addi c0_i32_871 v1600
  v1601.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v87 : BitVec 1 := Scalar.cmpi .ne v2 c22_i32
  let v88 : BitVec 32 := Scalar.extui v87
  let c0_i32_30 : BitVec 32 := 0#32
  let v89 : BitVec 1 := Scalar.cmpi .ne v88 c0_i32_30
  v89

def k0_dev23 : Nat :=
  let c0_i32_871 : BitVec 32 := 0#32
  let c22_i32_869 : BitVec 32 := 22#32
  let c1_i32_870 : BitVec 32 := 1#32
  let v1600 : BitVec 32 := Scalar.muli c22_i32_869 c1_i32_870
  let v1601 : BitVec 32 := Scalar.addi c0_i32_871 v1600
  v1601.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v90 : BitVec 1 := Scalar.cmpi .ne v2 c23_i32
  let v91 : BitVec 32 := Scalar.extui v90
  let c0_i32_31 : BitVec 32 := 0#32
  let v92 : BitVec 1 := Scalar.cmpi .ne v91 c0_i32_31
  v92

def k0_dev24 : Nat :=
  let c0_i32_871 : BitVec 32 := 0#32
  let c23_i32_869 : BitVec 32 := 23#32
  let c1_i32_870 : BitVec 32 := 1#32
  let v1600 : BitVec 32 := Scalar.muli c23_i32_869 c1_i32_870
  let v1601 : BitVec 32 := Scalar.addi c0_i32_871 v1600
  v1601.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v93 : BitVec 1 := Scalar.cmpi .ne v2 c24_i32
  let v94 : BitVec 32 := Scalar.extui v93
  let c0_i32_32 : BitVec 32 := 0#32
  let v95 : BitVec 1 := Scalar.cmpi .ne v94 c0_i32_32
  v95

def k0_dev25 : Nat :=
  let c0_i32_871 : BitVec 32 := 0#32
  let c24_i32_869 : BitVec 32 := 24#32
  let c1_i32_870 : BitVec 32 := 1#32
  let v1600 : BitVec 32 := Scalar.muli c24_i32_869 c1_i32_870
  let v1601 : BitVec 32 := Scalar.addi c0_i32_871 v1600
  v1601.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v96 : BitVec 1 := Scalar.cmpi .ne v2 c25_i32
  let v97 : BitVec 32 := Scalar.extui v96
  let c0_i32_33 : BitVec 32 := 0#32
  let v98 : BitVec 1 := Scalar.cmpi .ne v97 c0_i32_33
  v98

def k0_dev26 : Nat :=
  let c0_i32_871 : BitVec 32 := 0#32
  let c25_i32_869 : BitVec 32 := 25#32
  let c1_i32_870 : BitVec 32 := 1#32
  let v1600 : BitVec 32 := Scalar.muli c25_i32_869 c1_i32_870
  let v1601 : BitVec 32 := Scalar.addi c0_i32_871 v1600
  v1601.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v99 : BitVec 1 := Scalar.cmpi .ne v2 c26_i32
  let v100 : BitVec 32 := Scalar.extui v99
  let c0_i32_34 : BitVec 32 := 0#32
  let v101 : BitVec 1 := Scalar.cmpi .ne v100 c0_i32_34
  v101

def k0_dev27 : Nat :=
  let c0_i32_871 : BitVec 32 := 0#32
  let c26_i32_869 : BitVec 32 := 26#32
  let c1_i32_870 : BitVec 32 := 1#32
  let v1600 : BitVec 32 := Scalar.muli c26_i32_869 c1_i32_870
  let v1601 : BitVec 32 := Scalar.addi c0_i32_871 v1600
  v1601.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v102 : BitVec 1 := Scalar.cmpi .ne v2 c27_i32
  let v103 : BitVec 32 := Scalar.extui v102
  let c0_i32_35 : BitVec 32 := 0#32
  let v104 : BitVec 1 := Scalar.cmpi .ne v103 c0_i32_35
  v104

def k0_dev28 : Nat :=
  let c0_i32_871 : BitVec 32 := 0#32
  let c27_i32_869 : BitVec 32 := 27#32
  let c1_i32_870 : BitVec 32 := 1#32
  let v1600 : BitVec 32 := Scalar.muli c27_i32_869 c1_i32_870
  let v1601 : BitVec 32 := Scalar.addi c0_i32_871 v1600
  v1601.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v105 : BitVec 1 := Scalar.cmpi .ne v2 c28_i32
  let v106 : BitVec 32 := Scalar.extui v105
  let c0_i32_36 : BitVec 32 := 0#32
  let v107 : BitVec 1 := Scalar.cmpi .ne v106 c0_i32_36
  v107

def k0_dev29 : Nat :=
  let c0_i32_871 : BitVec 32 := 0#32
  let c28_i32_869 : BitVec 32 := 28#32
  let c1_i32_870 : BitVec 32 := 1#32
  let v1600 : BitVec 32 := Scalar.muli c28_i32_869 c1_i32_870
  let v1601 : BitVec 32 := Scalar.addi c0_i32_871 v1600
  v1601.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v108 : BitVec 1 := Scalar.cmpi .ne v2 c29_i32
  let v109 : BitVec 32 := Scalar.extui v108
  let c0_i32_37 : BitVec 32 := 0#32
  let v110 : BitVec 1 := Scalar.cmpi .ne v109 c0_i32_37
  v110

def k0_dev30 : Nat :=
  let c0_i32_871 : BitVec 32 := 0#32
  let c29_i32_869 : BitVec 32 := 29#32
  let c1_i32_870 : BitVec 32 := 1#32
  let v1600 : BitVec 32 := Scalar.muli c29_i32_869 c1_i32_870
  let v1601 : BitVec 32 := Scalar.addi c0_i32_871 v1600
  v1601.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v111 : BitVec 1 := Scalar.cmpi .ne v2 c30_i32
  let v112 : BitVec 32 := Scalar.extui v111
  let c0_i32_38 : BitVec 32 := 0#32
  let v113 : BitVec 1 := Scalar.cmpi .ne v112 c0_i32_38
  v113

def k0_dev31 : Nat :=
  let c0_i32_871 : BitVec 32 := 0#32
  let c30_i32_869 : BitVec 32 := 30#32
  let c1_i32_870 : BitVec 32 := 1#32
  let v1600 : BitVec 32 := Scalar.muli c30_i32_869 c1_i32_870
  let v1601 : BitVec 32 := Scalar.addi c0_i32_871 v1600
  v1601.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v114 : BitVec 1 := Scalar.cmpi .ne v2 c31_i32
  let v115 : BitVec 32 := Scalar.extui v114
  let c0_i32_39 : BitVec 32 := 0#32
  let v116 : BitVec 1 := Scalar.cmpi .ne v115 c0_i32_39
  v116

def k0_dev32 : Nat :=
  let c0_i32_871 : BitVec 32 := 0#32
  let c31_i32_869 : BitVec 32 := 31#32
  let c1_i32_870 : BitVec 32 := 1#32
  let v1600 : BitVec 32 := Scalar.muli c31_i32_869 c1_i32_870
  let v1601 : BitVec 32 := Scalar.addi c0_i32_871 v1600
  v1601.toNat
def k0_off1 (d0 : Dev nD) (c0_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c192_i32 : BitVec 32 := 192#32
  let v132 : BitVec 32 := Scalar.muli v131 c192_i32
  let v133 : Index := Scalar.indexCast v132
  let c0_50 : Index := 0#32
  ![v133.toNat, 0]
def k0_off2 (d0 : Dev nD) (c0_i32_43 : BitVec 32) (c0_i32_55 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_54 : BitVec 32 := 8#32
  let v142 : BitVec 32 := Scalar.muli v131 c8_i32_54
  let v143 : BitVec 32 := Scalar.addi v142 c0_i32_55
  let v145 : Index := Scalar.indexCast v143
  let c0_56 : Index := 0#32
  let c0_57 : Index := 0#32
  ![v145.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_54 : BitVec 32 := 8#32
  let v142 : BitVec 32 := Scalar.muli v131 c8_i32_54
  let c0_i32_55 : BitVec 32 := 0#32
  let v143 : BitVec 32 := Scalar.addi v142 c0_i32_55
  let v149 : BitVec 1 := Scalar.cmpi .ne v143 v2
  let v150 : BitVec 32 := Scalar.extui v149
  let c0_i32_58 : BitVec 32 := 0#32
  let v151 : BitVec 1 := Scalar.cmpi .ne v150 c0_i32_58
  v151

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_54 : BitVec 32 := 8#32
  let v142 : BitVec 32 := Scalar.muli v131 c8_i32_54
  let c0_i32_55 : BitVec 32 := 0#32
  let v143 : BitVec 32 := Scalar.addi v142 c0_i32_55
  ![v143.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_54 : BitVec 32 := 8#32
  let v142 : BitVec 32 := Scalar.muli v131 c8_i32_54
  let c0_i32_55 : BitVec 32 := 0#32
  let v143 : BitVec 32 := Scalar.addi v142 c0_i32_55
  let c0_i32_872 : BitVec 32 := 0#32
  let c0_i32_873 : BitVec 32 := 0#32
  ![v143.toNat, 0, 0]
def k0_dev33 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_54 : BitVec 32 := 8#32
  let v142 : BitVec 32 := Scalar.muli v131 c8_i32_54
  let c0_i32_55 : BitVec 32 := 0#32
  let v143 : BitVec 32 := Scalar.addi v142 c0_i32_55
  let c1_i32_868 : BitVec 32 := 1#32
  let v1600 : BitVec 32 := Scalar.muli v143 c1_i32_868
  let v1601 : BitVec 32 := Scalar.addi c0_i32_869 v1600
  v1601.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_59 : BitVec 32 := 8#32
  let v152 : BitVec 32 := Scalar.muli v131 c8_i32_59
  let c1_i32_60 : BitVec 32 := 1#32
  let v153 : BitVec 32 := Scalar.addi v152 c1_i32_60
  let v159 : BitVec 1 := Scalar.cmpi .ne v153 v2
  let v160 : BitVec 32 := Scalar.extui v159
  let c0_i32_63 : BitVec 32 := 0#32
  let v161 : BitVec 1 := Scalar.cmpi .ne v160 c0_i32_63
  v161

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_59 : BitVec 32 := 8#32
  let v152 : BitVec 32 := Scalar.muli v131 c8_i32_59
  let c1_i32_60 : BitVec 32 := 1#32
  let v153 : BitVec 32 := Scalar.addi v152 c1_i32_60
  ![v153.toNat]
def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_59 : BitVec 32 := 8#32
  let v152 : BitVec 32 := Scalar.muli v131 c8_i32_59
  let c1_i32_60 : BitVec 32 := 1#32
  let v153 : BitVec 32 := Scalar.addi v152 c1_i32_60
  let c0_i32_872 : BitVec 32 := 0#32
  let c0_i32_873 : BitVec 32 := 0#32
  ![v153.toNat, 0, 0]
def k0_dev34 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_59 : BitVec 32 := 8#32
  let v152 : BitVec 32 := Scalar.muli v131 c8_i32_59
  let c1_i32_60 : BitVec 32 := 1#32
  let v153 : BitVec 32 := Scalar.addi v152 c1_i32_60
  let c1_i32_868 : BitVec 32 := 1#32
  let v1600 : BitVec 32 := Scalar.muli v153 c1_i32_868
  let v1601 : BitVec 32 := Scalar.addi c0_i32_869 v1600
  v1601.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_64 : BitVec 32 := 8#32
  let v162 : BitVec 32 := Scalar.muli v131 c8_i32_64
  let c2_i32_65 : BitVec 32 := 2#32
  let v163 : BitVec 32 := Scalar.addi v162 c2_i32_65
  let v169 : BitVec 1 := Scalar.cmpi .ne v163 v2
  let v170 : BitVec 32 := Scalar.extui v169
  let c0_i32_68 : BitVec 32 := 0#32
  let v171 : BitVec 1 := Scalar.cmpi .ne v170 c0_i32_68
  v171

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_64 : BitVec 32 := 8#32
  let v162 : BitVec 32 := Scalar.muli v131 c8_i32_64
  let c2_i32_65 : BitVec 32 := 2#32
  let v163 : BitVec 32 := Scalar.addi v162 c2_i32_65
  ![v163.toNat]
def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_64 : BitVec 32 := 8#32
  let v162 : BitVec 32 := Scalar.muli v131 c8_i32_64
  let c2_i32_65 : BitVec 32 := 2#32
  let v163 : BitVec 32 := Scalar.addi v162 c2_i32_65
  let c0_i32_872 : BitVec 32 := 0#32
  let c0_i32_873 : BitVec 32 := 0#32
  ![v163.toNat, 0, 0]
def k0_dev35 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_64 : BitVec 32 := 8#32
  let v162 : BitVec 32 := Scalar.muli v131 c8_i32_64
  let c2_i32_65 : BitVec 32 := 2#32
  let v163 : BitVec 32 := Scalar.addi v162 c2_i32_65
  let c1_i32_868 : BitVec 32 := 1#32
  let v1600 : BitVec 32 := Scalar.muli v163 c1_i32_868
  let v1601 : BitVec 32 := Scalar.addi c0_i32_869 v1600
  v1601.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_69 : BitVec 32 := 8#32
  let v172 : BitVec 32 := Scalar.muli v131 c8_i32_69
  let c3_i32_70 : BitVec 32 := 3#32
  let v173 : BitVec 32 := Scalar.addi v172 c3_i32_70
  let v179 : BitVec 1 := Scalar.cmpi .ne v173 v2
  let v180 : BitVec 32 := Scalar.extui v179
  let c0_i32_73 : BitVec 32 := 0#32
  let v181 : BitVec 1 := Scalar.cmpi .ne v180 c0_i32_73
  v181

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_69 : BitVec 32 := 8#32
  let v172 : BitVec 32 := Scalar.muli v131 c8_i32_69
  let c3_i32_70 : BitVec 32 := 3#32
  let v173 : BitVec 32 := Scalar.addi v172 c3_i32_70
  ![v173.toNat]
def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_69 : BitVec 32 := 8#32
  let v172 : BitVec 32 := Scalar.muli v131 c8_i32_69
  let c3_i32_70 : BitVec 32 := 3#32
  let v173 : BitVec 32 := Scalar.addi v172 c3_i32_70
  let c0_i32_872 : BitVec 32 := 0#32
  let c0_i32_873 : BitVec 32 := 0#32
  ![v173.toNat, 0, 0]
def k0_dev36 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_69 : BitVec 32 := 8#32
  let v172 : BitVec 32 := Scalar.muli v131 c8_i32_69
  let c3_i32_70 : BitVec 32 := 3#32
  let v173 : BitVec 32 := Scalar.addi v172 c3_i32_70
  let c1_i32_868 : BitVec 32 := 1#32
  let v1600 : BitVec 32 := Scalar.muli v173 c1_i32_868
  let v1601 : BitVec 32 := Scalar.addi c0_i32_869 v1600
  v1601.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_74 : BitVec 32 := 8#32
  let v182 : BitVec 32 := Scalar.muli v131 c8_i32_74
  let c4_i32_75 : BitVec 32 := 4#32
  let v183 : BitVec 32 := Scalar.addi v182 c4_i32_75
  let v189 : BitVec 1 := Scalar.cmpi .ne v183 v2
  let v190 : BitVec 32 := Scalar.extui v189
  let c0_i32_78 : BitVec 32 := 0#32
  let v191 : BitVec 1 := Scalar.cmpi .ne v190 c0_i32_78
  v191

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_74 : BitVec 32 := 8#32
  let v182 : BitVec 32 := Scalar.muli v131 c8_i32_74
  let c4_i32_75 : BitVec 32 := 4#32
  let v183 : BitVec 32 := Scalar.addi v182 c4_i32_75
  ![v183.toNat]
def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_74 : BitVec 32 := 8#32
  let v182 : BitVec 32 := Scalar.muli v131 c8_i32_74
  let c4_i32_75 : BitVec 32 := 4#32
  let v183 : BitVec 32 := Scalar.addi v182 c4_i32_75
  let c0_i32_872 : BitVec 32 := 0#32
  let c0_i32_873 : BitVec 32 := 0#32
  ![v183.toNat, 0, 0]
def k0_dev37 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_74 : BitVec 32 := 8#32
  let v182 : BitVec 32 := Scalar.muli v131 c8_i32_74
  let c4_i32_75 : BitVec 32 := 4#32
  let v183 : BitVec 32 := Scalar.addi v182 c4_i32_75
  let c1_i32_868 : BitVec 32 := 1#32
  let v1600 : BitVec 32 := Scalar.muli v183 c1_i32_868
  let v1601 : BitVec 32 := Scalar.addi c0_i32_869 v1600
  v1601.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_79 : BitVec 32 := 8#32
  let v192 : BitVec 32 := Scalar.muli v131 c8_i32_79
  let c5_i32_80 : BitVec 32 := 5#32
  let v193 : BitVec 32 := Scalar.addi v192 c5_i32_80
  let v199 : BitVec 1 := Scalar.cmpi .ne v193 v2
  let v200 : BitVec 32 := Scalar.extui v199
  let c0_i32_83 : BitVec 32 := 0#32
  let v201 : BitVec 1 := Scalar.cmpi .ne v200 c0_i32_83
  v201

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_79 : BitVec 32 := 8#32
  let v192 : BitVec 32 := Scalar.muli v131 c8_i32_79
  let c5_i32_80 : BitVec 32 := 5#32
  let v193 : BitVec 32 := Scalar.addi v192 c5_i32_80
  ![v193.toNat]
def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_79 : BitVec 32 := 8#32
  let v192 : BitVec 32 := Scalar.muli v131 c8_i32_79
  let c5_i32_80 : BitVec 32 := 5#32
  let v193 : BitVec 32 := Scalar.addi v192 c5_i32_80
  let c0_i32_872 : BitVec 32 := 0#32
  let c0_i32_873 : BitVec 32 := 0#32
  ![v193.toNat, 0, 0]
def k0_dev38 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_79 : BitVec 32 := 8#32
  let v192 : BitVec 32 := Scalar.muli v131 c8_i32_79
  let c5_i32_80 : BitVec 32 := 5#32
  let v193 : BitVec 32 := Scalar.addi v192 c5_i32_80
  let c1_i32_868 : BitVec 32 := 1#32
  let v1600 : BitVec 32 := Scalar.muli v193 c1_i32_868
  let v1601 : BitVec 32 := Scalar.addi c0_i32_869 v1600
  v1601.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_84 : BitVec 32 := 8#32
  let v202 : BitVec 32 := Scalar.muli v131 c8_i32_84
  let c6_i32_85 : BitVec 32 := 6#32
  let v203 : BitVec 32 := Scalar.addi v202 c6_i32_85
  let v209 : BitVec 1 := Scalar.cmpi .ne v203 v2
  let v210 : BitVec 32 := Scalar.extui v209
  let c0_i32_88 : BitVec 32 := 0#32
  let v211 : BitVec 1 := Scalar.cmpi .ne v210 c0_i32_88
  v211

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_84 : BitVec 32 := 8#32
  let v202 : BitVec 32 := Scalar.muli v131 c8_i32_84
  let c6_i32_85 : BitVec 32 := 6#32
  let v203 : BitVec 32 := Scalar.addi v202 c6_i32_85
  ![v203.toNat]
def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_84 : BitVec 32 := 8#32
  let v202 : BitVec 32 := Scalar.muli v131 c8_i32_84
  let c6_i32_85 : BitVec 32 := 6#32
  let v203 : BitVec 32 := Scalar.addi v202 c6_i32_85
  let c0_i32_872 : BitVec 32 := 0#32
  let c0_i32_873 : BitVec 32 := 0#32
  ![v203.toNat, 0, 0]
def k0_dev39 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_84 : BitVec 32 := 8#32
  let v202 : BitVec 32 := Scalar.muli v131 c8_i32_84
  let c6_i32_85 : BitVec 32 := 6#32
  let v203 : BitVec 32 := Scalar.addi v202 c6_i32_85
  let c1_i32_868 : BitVec 32 := 1#32
  let v1600 : BitVec 32 := Scalar.muli v203 c1_i32_868
  let v1601 : BitVec 32 := Scalar.addi c0_i32_869 v1600
  v1601.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_89 : BitVec 32 := 8#32
  let v212 : BitVec 32 := Scalar.muli v131 c8_i32_89
  let c7_i32_90 : BitVec 32 := 7#32
  let v213 : BitVec 32 := Scalar.addi v212 c7_i32_90
  let v219 : BitVec 1 := Scalar.cmpi .ne v213 v2
  let v220 : BitVec 32 := Scalar.extui v219
  let c0_i32_93 : BitVec 32 := 0#32
  let v221 : BitVec 1 := Scalar.cmpi .ne v220 c0_i32_93
  v221

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_89 : BitVec 32 := 8#32
  let v212 : BitVec 32 := Scalar.muli v131 c8_i32_89
  let c7_i32_90 : BitVec 32 := 7#32
  let v213 : BitVec 32 := Scalar.addi v212 c7_i32_90
  ![v213.toNat]
def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_89 : BitVec 32 := 8#32
  let v212 : BitVec 32 := Scalar.muli v131 c8_i32_89
  let c7_i32_90 : BitVec 32 := 7#32
  let v213 : BitVec 32 := Scalar.addi v212 c7_i32_90
  let c0_i32_872 : BitVec 32 := 0#32
  let c0_i32_873 : BitVec 32 := 0#32
  ![v213.toNat, 0, 0]
def k0_dev40 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_43 : BitVec 32 := 0#32
  let v121 : BitVec 32 := Scalar.addi v19 c0_i32_43
  let c4_i32_44 : BitVec 32 := 4#32
  let c0_i32_45 : BitVec 32 := 0#32
  let v122 : BitVec 1 := Scalar.cmpi .eq c4_i32_44 c0_i32_45
  let c1_i32_46 : BitVec 32 := 1#32
  let v123 : BitVec 32 := Scalar.select v122 c1_i32_46 c4_i32_44
  let v124 : BitVec 32 := Scalar.remsi v121 v123
  let c0_i32_48 : BitVec 32 := 0#32
  let v126 : BitVec 1 := Scalar.cmpi .slt v124 c0_i32_48
  let c0_i32_49 : BitVec 32 := 0#32
  let v127 : BitVec 1 := Scalar.cmpi .slt v123 c0_i32_49
  let v128 : BitVec 1 := Scalar.xori v126 v127
  let c0_i32_47 : BitVec 32 := 0#32
  let v125 : BitVec 1 := Scalar.cmpi .ne v124 c0_i32_47
  let v129 : BitVec 1 := Scalar.andi v128 v125
  let v130 : BitVec 32 := Scalar.addi v124 v123
  let v131 : BitVec 32 := Scalar.select v129 v130 v124
  let c8_i32_89 : BitVec 32 := 8#32
  let v212 : BitVec 32 := Scalar.muli v131 c8_i32_89
  let c7_i32_90 : BitVec 32 := 7#32
  let v213 : BitVec 32 := Scalar.addi v212 c7_i32_90
  let c1_i32_868 : BitVec 32 := 1#32
  let v1600 : BitVec 32 := Scalar.muli v213 c1_i32_868
  let v1601 : BitVec 32 := Scalar.addi c0_i32_869 v1600
  v1601.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_106 : BitVec 32 := 8#32
  let v243 : BitVec 32 := Scalar.muli v232 c8_i32_106
  let c0_i32_107 : BitVec 32 := 0#32
  let v244 : BitVec 32 := Scalar.addi v243 c0_i32_107
  let v250 : BitVec 1 := Scalar.cmpi .ne v244 v2
  let v251 : BitVec 32 := Scalar.extui v250
  let c0_i32_110 : BitVec 32 := 0#32
  let v252 : BitVec 1 := Scalar.cmpi .ne v251 c0_i32_110
  v252

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_106 : BitVec 32 := 8#32
  let v243 : BitVec 32 := Scalar.muli v232 c8_i32_106
  let c0_i32_107 : BitVec 32 := 0#32
  let v244 : BitVec 32 := Scalar.addi v243 c0_i32_107
  ![v244.toNat]
def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_106 : BitVec 32 := 8#32
  let v243 : BitVec 32 := Scalar.muli v232 c8_i32_106
  let c0_i32_107 : BitVec 32 := 0#32
  let v244 : BitVec 32 := Scalar.addi v243 c0_i32_107
  let c0_i32_872 : BitVec 32 := 0#32
  let c0_i32_873 : BitVec 32 := 0#32
  ![v244.toNat, 0, 0]
def k0_dev41 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_106 : BitVec 32 := 8#32
  let v243 : BitVec 32 := Scalar.muli v232 c8_i32_106
  let c0_i32_107 : BitVec 32 := 0#32
  let v244 : BitVec 32 := Scalar.addi v243 c0_i32_107
  let c1_i32_868 : BitVec 32 := 1#32
  let v1600 : BitVec 32 := Scalar.muli v244 c1_i32_868
  let v1601 : BitVec 32 := Scalar.addi c0_i32_869 v1600
  v1601.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_111 : BitVec 32 := 8#32
  let v253 : BitVec 32 := Scalar.muli v232 c8_i32_111
  let c1_i32_112 : BitVec 32 := 1#32
  let v254 : BitVec 32 := Scalar.addi v253 c1_i32_112
  let v260 : BitVec 1 := Scalar.cmpi .ne v254 v2
  let v261 : BitVec 32 := Scalar.extui v260
  let c0_i32_115 : BitVec 32 := 0#32
  let v262 : BitVec 1 := Scalar.cmpi .ne v261 c0_i32_115
  v262

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_111 : BitVec 32 := 8#32
  let v253 : BitVec 32 := Scalar.muli v232 c8_i32_111
  let c1_i32_112 : BitVec 32 := 1#32
  let v254 : BitVec 32 := Scalar.addi v253 c1_i32_112
  ![v254.toNat]
def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_111 : BitVec 32 := 8#32
  let v253 : BitVec 32 := Scalar.muli v232 c8_i32_111
  let c1_i32_112 : BitVec 32 := 1#32
  let v254 : BitVec 32 := Scalar.addi v253 c1_i32_112
  let c0_i32_872 : BitVec 32 := 0#32
  let c0_i32_873 : BitVec 32 := 0#32
  ![v254.toNat, 0, 0]
def k0_dev42 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_111 : BitVec 32 := 8#32
  let v253 : BitVec 32 := Scalar.muli v232 c8_i32_111
  let c1_i32_112 : BitVec 32 := 1#32
  let v254 : BitVec 32 := Scalar.addi v253 c1_i32_112
  let c1_i32_868 : BitVec 32 := 1#32
  let v1600 : BitVec 32 := Scalar.muli v254 c1_i32_868
  let v1601 : BitVec 32 := Scalar.addi c0_i32_869 v1600
  v1601.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_116 : BitVec 32 := 8#32
  let v263 : BitVec 32 := Scalar.muli v232 c8_i32_116
  let c2_i32_117 : BitVec 32 := 2#32
  let v264 : BitVec 32 := Scalar.addi v263 c2_i32_117
  let v270 : BitVec 1 := Scalar.cmpi .ne v264 v2
  let v271 : BitVec 32 := Scalar.extui v270
  let c0_i32_120 : BitVec 32 := 0#32
  let v272 : BitVec 1 := Scalar.cmpi .ne v271 c0_i32_120
  v272

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_116 : BitVec 32 := 8#32
  let v263 : BitVec 32 := Scalar.muli v232 c8_i32_116
  let c2_i32_117 : BitVec 32 := 2#32
  let v264 : BitVec 32 := Scalar.addi v263 c2_i32_117
  ![v264.toNat]
def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_116 : BitVec 32 := 8#32
  let v263 : BitVec 32 := Scalar.muli v232 c8_i32_116
  let c2_i32_117 : BitVec 32 := 2#32
  let v264 : BitVec 32 := Scalar.addi v263 c2_i32_117
  let c0_i32_872 : BitVec 32 := 0#32
  let c0_i32_873 : BitVec 32 := 0#32
  ![v264.toNat, 0, 0]
def k0_dev43 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_116 : BitVec 32 := 8#32
  let v263 : BitVec 32 := Scalar.muli v232 c8_i32_116
  let c2_i32_117 : BitVec 32 := 2#32
  let v264 : BitVec 32 := Scalar.addi v263 c2_i32_117
  let c1_i32_868 : BitVec 32 := 1#32
  let v1600 : BitVec 32 := Scalar.muli v264 c1_i32_868
  let v1601 : BitVec 32 := Scalar.addi c0_i32_869 v1600
  v1601.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_121 : BitVec 32 := 8#32
  let v273 : BitVec 32 := Scalar.muli v232 c8_i32_121
  let c3_i32_122 : BitVec 32 := 3#32
  let v274 : BitVec 32 := Scalar.addi v273 c3_i32_122
  let v280 : BitVec 1 := Scalar.cmpi .ne v274 v2
  let v281 : BitVec 32 := Scalar.extui v280
  let c0_i32_125 : BitVec 32 := 0#32
  let v282 : BitVec 1 := Scalar.cmpi .ne v281 c0_i32_125
  v282

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_121 : BitVec 32 := 8#32
  let v273 : BitVec 32 := Scalar.muli v232 c8_i32_121
  let c3_i32_122 : BitVec 32 := 3#32
  let v274 : BitVec 32 := Scalar.addi v273 c3_i32_122
  ![v274.toNat]
def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_121 : BitVec 32 := 8#32
  let v273 : BitVec 32 := Scalar.muli v232 c8_i32_121
  let c3_i32_122 : BitVec 32 := 3#32
  let v274 : BitVec 32 := Scalar.addi v273 c3_i32_122
  let c0_i32_872 : BitVec 32 := 0#32
  let c0_i32_873 : BitVec 32 := 0#32
  ![v274.toNat, 0, 0]
def k0_dev44 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_121 : BitVec 32 := 8#32
  let v273 : BitVec 32 := Scalar.muli v232 c8_i32_121
  let c3_i32_122 : BitVec 32 := 3#32
  let v274 : BitVec 32 := Scalar.addi v273 c3_i32_122
  let c1_i32_868 : BitVec 32 := 1#32
  let v1600 : BitVec 32 := Scalar.muli v274 c1_i32_868
  let v1601 : BitVec 32 := Scalar.addi c0_i32_869 v1600
  v1601.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_126 : BitVec 32 := 8#32
  let v283 : BitVec 32 := Scalar.muli v232 c8_i32_126
  let c4_i32_127 : BitVec 32 := 4#32
  let v284 : BitVec 32 := Scalar.addi v283 c4_i32_127
  let v290 : BitVec 1 := Scalar.cmpi .ne v284 v2
  let v291 : BitVec 32 := Scalar.extui v290
  let c0_i32_130 : BitVec 32 := 0#32
  let v292 : BitVec 1 := Scalar.cmpi .ne v291 c0_i32_130
  v292

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_126 : BitVec 32 := 8#32
  let v283 : BitVec 32 := Scalar.muli v232 c8_i32_126
  let c4_i32_127 : BitVec 32 := 4#32
  let v284 : BitVec 32 := Scalar.addi v283 c4_i32_127
  ![v284.toNat]
def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_126 : BitVec 32 := 8#32
  let v283 : BitVec 32 := Scalar.muli v232 c8_i32_126
  let c4_i32_127 : BitVec 32 := 4#32
  let v284 : BitVec 32 := Scalar.addi v283 c4_i32_127
  let c0_i32_872 : BitVec 32 := 0#32
  let c0_i32_873 : BitVec 32 := 0#32
  ![v284.toNat, 0, 0]
def k0_dev45 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_126 : BitVec 32 := 8#32
  let v283 : BitVec 32 := Scalar.muli v232 c8_i32_126
  let c4_i32_127 : BitVec 32 := 4#32
  let v284 : BitVec 32 := Scalar.addi v283 c4_i32_127
  let c1_i32_868 : BitVec 32 := 1#32
  let v1600 : BitVec 32 := Scalar.muli v284 c1_i32_868
  let v1601 : BitVec 32 := Scalar.addi c0_i32_869 v1600
  v1601.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_131 : BitVec 32 := 8#32
  let v293 : BitVec 32 := Scalar.muli v232 c8_i32_131
  let c5_i32_132 : BitVec 32 := 5#32
  let v294 : BitVec 32 := Scalar.addi v293 c5_i32_132
  let v300 : BitVec 1 := Scalar.cmpi .ne v294 v2
  let v301 : BitVec 32 := Scalar.extui v300
  let c0_i32_135 : BitVec 32 := 0#32
  let v302 : BitVec 1 := Scalar.cmpi .ne v301 c0_i32_135
  v302

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_131 : BitVec 32 := 8#32
  let v293 : BitVec 32 := Scalar.muli v232 c8_i32_131
  let c5_i32_132 : BitVec 32 := 5#32
  let v294 : BitVec 32 := Scalar.addi v293 c5_i32_132
  ![v294.toNat]
def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_131 : BitVec 32 := 8#32
  let v293 : BitVec 32 := Scalar.muli v232 c8_i32_131
  let c5_i32_132 : BitVec 32 := 5#32
  let v294 : BitVec 32 := Scalar.addi v293 c5_i32_132
  let c0_i32_872 : BitVec 32 := 0#32
  let c0_i32_873 : BitVec 32 := 0#32
  ![v294.toNat, 0, 0]
def k0_dev46 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_131 : BitVec 32 := 8#32
  let v293 : BitVec 32 := Scalar.muli v232 c8_i32_131
  let c5_i32_132 : BitVec 32 := 5#32
  let v294 : BitVec 32 := Scalar.addi v293 c5_i32_132
  let c1_i32_868 : BitVec 32 := 1#32
  let v1600 : BitVec 32 := Scalar.muli v294 c1_i32_868
  let v1601 : BitVec 32 := Scalar.addi c0_i32_869 v1600
  v1601.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_136 : BitVec 32 := 8#32
  let v303 : BitVec 32 := Scalar.muli v232 c8_i32_136
  let c6_i32_137 : BitVec 32 := 6#32
  let v304 : BitVec 32 := Scalar.addi v303 c6_i32_137
  let v310 : BitVec 1 := Scalar.cmpi .ne v304 v2
  let v311 : BitVec 32 := Scalar.extui v310
  let c0_i32_140 : BitVec 32 := 0#32
  let v312 : BitVec 1 := Scalar.cmpi .ne v311 c0_i32_140
  v312

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_136 : BitVec 32 := 8#32
  let v303 : BitVec 32 := Scalar.muli v232 c8_i32_136
  let c6_i32_137 : BitVec 32 := 6#32
  let v304 : BitVec 32 := Scalar.addi v303 c6_i32_137
  ![v304.toNat]
def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_136 : BitVec 32 := 8#32
  let v303 : BitVec 32 := Scalar.muli v232 c8_i32_136
  let c6_i32_137 : BitVec 32 := 6#32
  let v304 : BitVec 32 := Scalar.addi v303 c6_i32_137
  let c0_i32_872 : BitVec 32 := 0#32
  let c0_i32_873 : BitVec 32 := 0#32
  ![v304.toNat, 0, 0]
def k0_dev47 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_136 : BitVec 32 := 8#32
  let v303 : BitVec 32 := Scalar.muli v232 c8_i32_136
  let c6_i32_137 : BitVec 32 := 6#32
  let v304 : BitVec 32 := Scalar.addi v303 c6_i32_137
  let c1_i32_868 : BitVec 32 := 1#32
  let v1600 : BitVec 32 := Scalar.muli v304 c1_i32_868
  let v1601 : BitVec 32 := Scalar.addi c0_i32_869 v1600
  v1601.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_141 : BitVec 32 := 8#32
  let v313 : BitVec 32 := Scalar.muli v232 c8_i32_141
  let c7_i32_142 : BitVec 32 := 7#32
  let v314 : BitVec 32 := Scalar.addi v313 c7_i32_142
  let v320 : BitVec 1 := Scalar.cmpi .ne v314 v2
  let v321 : BitVec 32 := Scalar.extui v320
  let c0_i32_145 : BitVec 32 := 0#32
  let v322 : BitVec 1 := Scalar.cmpi .ne v321 c0_i32_145
  v322

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_141 : BitVec 32 := 8#32
  let v313 : BitVec 32 := Scalar.muli v232 c8_i32_141
  let c7_i32_142 : BitVec 32 := 7#32
  let v314 : BitVec 32 := Scalar.addi v313 c7_i32_142
  ![v314.toNat]
def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_141 : BitVec 32 := 8#32
  let v313 : BitVec 32 := Scalar.muli v232 c8_i32_141
  let c7_i32_142 : BitVec 32 := 7#32
  let v314 : BitVec 32 := Scalar.addi v313 c7_i32_142
  let c0_i32_872 : BitVec 32 := 0#32
  let c0_i32_873 : BitVec 32 := 0#32
  ![v314.toNat, 0, 0]
def k0_dev48 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v222 : BitVec 32 := Scalar.addi v19 c1_i32_94
  let c4_i32_95 : BitVec 32 := 4#32
  let c0_i32_96 : BitVec 32 := 0#32
  let v223 : BitVec 1 := Scalar.cmpi .eq c4_i32_95 c0_i32_96
  let c1_i32_97 : BitVec 32 := 1#32
  let v224 : BitVec 32 := Scalar.select v223 c1_i32_97 c4_i32_95
  let v225 : BitVec 32 := Scalar.remsi v222 v224
  let c0_i32_99 : BitVec 32 := 0#32
  let v227 : BitVec 1 := Scalar.cmpi .slt v225 c0_i32_99
  let c0_i32_100 : BitVec 32 := 0#32
  let v228 : BitVec 1 := Scalar.cmpi .slt v224 c0_i32_100
  let v229 : BitVec 1 := Scalar.xori v227 v228
  let c0_i32_98 : BitVec 32 := 0#32
  let v226 : BitVec 1 := Scalar.cmpi .ne v225 c0_i32_98
  let v230 : BitVec 1 := Scalar.andi v229 v226
  let v231 : BitVec 32 := Scalar.addi v225 v224
  let v232 : BitVec 32 := Scalar.select v230 v231 v225
  let c8_i32_141 : BitVec 32 := 8#32
  let v313 : BitVec 32 := Scalar.muli v232 c8_i32_141
  let c7_i32_142 : BitVec 32 := 7#32
  let v314 : BitVec 32 := Scalar.addi v313 c7_i32_142
  let c1_i32_868 : BitVec 32 := 1#32
  let v1600 : BitVec 32 := Scalar.muli v314 c1_i32_868
  let v1601 : BitVec 32 := Scalar.addi c0_i32_869 v1600
  v1601.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_158 : BitVec 32 := 8#32
  let v344 : BitVec 32 := Scalar.muli v333 c8_i32_158
  let c0_i32_159 : BitVec 32 := 0#32
  let v345 : BitVec 32 := Scalar.addi v344 c0_i32_159
  let v351 : BitVec 1 := Scalar.cmpi .ne v345 v2
  let v352 : BitVec 32 := Scalar.extui v351
  let c0_i32_162 : BitVec 32 := 0#32
  let v353 : BitVec 1 := Scalar.cmpi .ne v352 c0_i32_162
  v353

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_158 : BitVec 32 := 8#32
  let v344 : BitVec 32 := Scalar.muli v333 c8_i32_158
  let c0_i32_159 : BitVec 32 := 0#32
  let v345 : BitVec 32 := Scalar.addi v344 c0_i32_159
  ![v345.toNat]
def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_158 : BitVec 32 := 8#32
  let v344 : BitVec 32 := Scalar.muli v333 c8_i32_158
  let c0_i32_159 : BitVec 32 := 0#32
  let v345 : BitVec 32 := Scalar.addi v344 c0_i32_159
  let c0_i32_872 : BitVec 32 := 0#32
  let c0_i32_873 : BitVec 32 := 0#32
  ![v345.toNat, 0, 0]
def k0_dev49 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_158 : BitVec 32 := 8#32
  let v344 : BitVec 32 := Scalar.muli v333 c8_i32_158
  let c0_i32_159 : BitVec 32 := 0#32
  let v345 : BitVec 32 := Scalar.addi v344 c0_i32_159
  let c1_i32_868 : BitVec 32 := 1#32
  let v1600 : BitVec 32 := Scalar.muli v345 c1_i32_868
  let v1601 : BitVec 32 := Scalar.addi c0_i32_869 v1600
  v1601.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_163 : BitVec 32 := 8#32
  let v354 : BitVec 32 := Scalar.muli v333 c8_i32_163
  let c1_i32_164 : BitVec 32 := 1#32
  let v355 : BitVec 32 := Scalar.addi v354 c1_i32_164
  let v361 : BitVec 1 := Scalar.cmpi .ne v355 v2
  let v362 : BitVec 32 := Scalar.extui v361
  let c0_i32_167 : BitVec 32 := 0#32
  let v363 : BitVec 1 := Scalar.cmpi .ne v362 c0_i32_167
  v363

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_163 : BitVec 32 := 8#32
  let v354 : BitVec 32 := Scalar.muli v333 c8_i32_163
  let c1_i32_164 : BitVec 32 := 1#32
  let v355 : BitVec 32 := Scalar.addi v354 c1_i32_164
  ![v355.toNat]
def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_163 : BitVec 32 := 8#32
  let v354 : BitVec 32 := Scalar.muli v333 c8_i32_163
  let c1_i32_164 : BitVec 32 := 1#32
  let v355 : BitVec 32 := Scalar.addi v354 c1_i32_164
  let c0_i32_872 : BitVec 32 := 0#32
  let c0_i32_873 : BitVec 32 := 0#32
  ![v355.toNat, 0, 0]
def k0_dev50 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_163 : BitVec 32 := 8#32
  let v354 : BitVec 32 := Scalar.muli v333 c8_i32_163
  let c1_i32_164 : BitVec 32 := 1#32
  let v355 : BitVec 32 := Scalar.addi v354 c1_i32_164
  let c1_i32_868 : BitVec 32 := 1#32
  let v1600 : BitVec 32 := Scalar.muli v355 c1_i32_868
  let v1601 : BitVec 32 := Scalar.addi c0_i32_869 v1600
  v1601.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_168 : BitVec 32 := 8#32
  let v364 : BitVec 32 := Scalar.muli v333 c8_i32_168
  let c2_i32_169 : BitVec 32 := 2#32
  let v365 : BitVec 32 := Scalar.addi v364 c2_i32_169
  let v371 : BitVec 1 := Scalar.cmpi .ne v365 v2
  let v372 : BitVec 32 := Scalar.extui v371
  let c0_i32_172 : BitVec 32 := 0#32
  let v373 : BitVec 1 := Scalar.cmpi .ne v372 c0_i32_172
  v373

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_168 : BitVec 32 := 8#32
  let v364 : BitVec 32 := Scalar.muli v333 c8_i32_168
  let c2_i32_169 : BitVec 32 := 2#32
  let v365 : BitVec 32 := Scalar.addi v364 c2_i32_169
  ![v365.toNat]
def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_168 : BitVec 32 := 8#32
  let v364 : BitVec 32 := Scalar.muli v333 c8_i32_168
  let c2_i32_169 : BitVec 32 := 2#32
  let v365 : BitVec 32 := Scalar.addi v364 c2_i32_169
  let c0_i32_872 : BitVec 32 := 0#32
  let c0_i32_873 : BitVec 32 := 0#32
  ![v365.toNat, 0, 0]
def k0_dev51 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_168 : BitVec 32 := 8#32
  let v364 : BitVec 32 := Scalar.muli v333 c8_i32_168
  let c2_i32_169 : BitVec 32 := 2#32
  let v365 : BitVec 32 := Scalar.addi v364 c2_i32_169
  let c1_i32_868 : BitVec 32 := 1#32
  let v1600 : BitVec 32 := Scalar.muli v365 c1_i32_868
  let v1601 : BitVec 32 := Scalar.addi c0_i32_869 v1600
  v1601.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_173 : BitVec 32 := 8#32
  let v374 : BitVec 32 := Scalar.muli v333 c8_i32_173
  let c3_i32_174 : BitVec 32 := 3#32
  let v375 : BitVec 32 := Scalar.addi v374 c3_i32_174
  let v381 : BitVec 1 := Scalar.cmpi .ne v375 v2
  let v382 : BitVec 32 := Scalar.extui v381
  let c0_i32_177 : BitVec 32 := 0#32
  let v383 : BitVec 1 := Scalar.cmpi .ne v382 c0_i32_177
  v383

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_173 : BitVec 32 := 8#32
  let v374 : BitVec 32 := Scalar.muli v333 c8_i32_173
  let c3_i32_174 : BitVec 32 := 3#32
  let v375 : BitVec 32 := Scalar.addi v374 c3_i32_174
  ![v375.toNat]
def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_173 : BitVec 32 := 8#32
  let v374 : BitVec 32 := Scalar.muli v333 c8_i32_173
  let c3_i32_174 : BitVec 32 := 3#32
  let v375 : BitVec 32 := Scalar.addi v374 c3_i32_174
  let c0_i32_872 : BitVec 32 := 0#32
  let c0_i32_873 : BitVec 32 := 0#32
  ![v375.toNat, 0, 0]
def k0_dev52 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_173 : BitVec 32 := 8#32
  let v374 : BitVec 32 := Scalar.muli v333 c8_i32_173
  let c3_i32_174 : BitVec 32 := 3#32
  let v375 : BitVec 32 := Scalar.addi v374 c3_i32_174
  let c1_i32_868 : BitVec 32 := 1#32
  let v1600 : BitVec 32 := Scalar.muli v375 c1_i32_868
  let v1601 : BitVec 32 := Scalar.addi c0_i32_869 v1600
  v1601.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_178 : BitVec 32 := 8#32
  let v384 : BitVec 32 := Scalar.muli v333 c8_i32_178
  let c4_i32_179 : BitVec 32 := 4#32
  let v385 : BitVec 32 := Scalar.addi v384 c4_i32_179
  let v391 : BitVec 1 := Scalar.cmpi .ne v385 v2
  let v392 : BitVec 32 := Scalar.extui v391
  let c0_i32_182 : BitVec 32 := 0#32
  let v393 : BitVec 1 := Scalar.cmpi .ne v392 c0_i32_182
  v393

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_178 : BitVec 32 := 8#32
  let v384 : BitVec 32 := Scalar.muli v333 c8_i32_178
  let c4_i32_179 : BitVec 32 := 4#32
  let v385 : BitVec 32 := Scalar.addi v384 c4_i32_179
  ![v385.toNat]
def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_178 : BitVec 32 := 8#32
  let v384 : BitVec 32 := Scalar.muli v333 c8_i32_178
  let c4_i32_179 : BitVec 32 := 4#32
  let v385 : BitVec 32 := Scalar.addi v384 c4_i32_179
  let c0_i32_872 : BitVec 32 := 0#32
  let c0_i32_873 : BitVec 32 := 0#32
  ![v385.toNat, 0, 0]
def k0_dev53 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_178 : BitVec 32 := 8#32
  let v384 : BitVec 32 := Scalar.muli v333 c8_i32_178
  let c4_i32_179 : BitVec 32 := 4#32
  let v385 : BitVec 32 := Scalar.addi v384 c4_i32_179
  let c1_i32_868 : BitVec 32 := 1#32
  let v1600 : BitVec 32 := Scalar.muli v385 c1_i32_868
  let v1601 : BitVec 32 := Scalar.addi c0_i32_869 v1600
  v1601.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_183 : BitVec 32 := 8#32
  let v394 : BitVec 32 := Scalar.muli v333 c8_i32_183
  let c5_i32_184 : BitVec 32 := 5#32
  let v395 : BitVec 32 := Scalar.addi v394 c5_i32_184
  let v401 : BitVec 1 := Scalar.cmpi .ne v395 v2
  let v402 : BitVec 32 := Scalar.extui v401
  let c0_i32_187 : BitVec 32 := 0#32
  let v403 : BitVec 1 := Scalar.cmpi .ne v402 c0_i32_187
  v403

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_183 : BitVec 32 := 8#32
  let v394 : BitVec 32 := Scalar.muli v333 c8_i32_183
  let c5_i32_184 : BitVec 32 := 5#32
  let v395 : BitVec 32 := Scalar.addi v394 c5_i32_184
  ![v395.toNat]
def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_183 : BitVec 32 := 8#32
  let v394 : BitVec 32 := Scalar.muli v333 c8_i32_183
  let c5_i32_184 : BitVec 32 := 5#32
  let v395 : BitVec 32 := Scalar.addi v394 c5_i32_184
  let c0_i32_872 : BitVec 32 := 0#32
  let c0_i32_873 : BitVec 32 := 0#32
  ![v395.toNat, 0, 0]
def k0_dev54 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_183 : BitVec 32 := 8#32
  let v394 : BitVec 32 := Scalar.muli v333 c8_i32_183
  let c5_i32_184 : BitVec 32 := 5#32
  let v395 : BitVec 32 := Scalar.addi v394 c5_i32_184
  let c1_i32_868 : BitVec 32 := 1#32
  let v1600 : BitVec 32 := Scalar.muli v395 c1_i32_868
  let v1601 : BitVec 32 := Scalar.addi c0_i32_869 v1600
  v1601.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_188 : BitVec 32 := 8#32
  let v404 : BitVec 32 := Scalar.muli v333 c8_i32_188
  let c6_i32_189 : BitVec 32 := 6#32
  let v405 : BitVec 32 := Scalar.addi v404 c6_i32_189
  let v411 : BitVec 1 := Scalar.cmpi .ne v405 v2
  let v412 : BitVec 32 := Scalar.extui v411
  let c0_i32_192 : BitVec 32 := 0#32
  let v413 : BitVec 1 := Scalar.cmpi .ne v412 c0_i32_192
  v413

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_188 : BitVec 32 := 8#32
  let v404 : BitVec 32 := Scalar.muli v333 c8_i32_188
  let c6_i32_189 : BitVec 32 := 6#32
  let v405 : BitVec 32 := Scalar.addi v404 c6_i32_189
  ![v405.toNat]
def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_188 : BitVec 32 := 8#32
  let v404 : BitVec 32 := Scalar.muli v333 c8_i32_188
  let c6_i32_189 : BitVec 32 := 6#32
  let v405 : BitVec 32 := Scalar.addi v404 c6_i32_189
  let c0_i32_872 : BitVec 32 := 0#32
  let c0_i32_873 : BitVec 32 := 0#32
  ![v405.toNat, 0, 0]
def k0_dev55 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_188 : BitVec 32 := 8#32
  let v404 : BitVec 32 := Scalar.muli v333 c8_i32_188
  let c6_i32_189 : BitVec 32 := 6#32
  let v405 : BitVec 32 := Scalar.addi v404 c6_i32_189
  let c1_i32_868 : BitVec 32 := 1#32
  let v1600 : BitVec 32 := Scalar.muli v405 c1_i32_868
  let v1601 : BitVec 32 := Scalar.addi c0_i32_869 v1600
  v1601.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_193 : BitVec 32 := 8#32
  let v414 : BitVec 32 := Scalar.muli v333 c8_i32_193
  let c7_i32_194 : BitVec 32 := 7#32
  let v415 : BitVec 32 := Scalar.addi v414 c7_i32_194
  let v421 : BitVec 1 := Scalar.cmpi .ne v415 v2
  let v422 : BitVec 32 := Scalar.extui v421
  let c0_i32_197 : BitVec 32 := 0#32
  let v423 : BitVec 1 := Scalar.cmpi .ne v422 c0_i32_197
  v423

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_193 : BitVec 32 := 8#32
  let v414 : BitVec 32 := Scalar.muli v333 c8_i32_193
  let c7_i32_194 : BitVec 32 := 7#32
  let v415 : BitVec 32 := Scalar.addi v414 c7_i32_194
  ![v415.toNat]
def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_193 : BitVec 32 := 8#32
  let v414 : BitVec 32 := Scalar.muli v333 c8_i32_193
  let c7_i32_194 : BitVec 32 := 7#32
  let v415 : BitVec 32 := Scalar.addi v414 c7_i32_194
  let c0_i32_872 : BitVec 32 := 0#32
  let c0_i32_873 : BitVec 32 := 0#32
  ![v415.toNat, 0, 0]
def k0_dev56 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_146 : BitVec 32 := 2#32
  let v323 : BitVec 32 := Scalar.addi v19 c2_i32_146
  let c4_i32_147 : BitVec 32 := 4#32
  let c0_i32_148 : BitVec 32 := 0#32
  let v324 : BitVec 1 := Scalar.cmpi .eq c4_i32_147 c0_i32_148
  let c1_i32_149 : BitVec 32 := 1#32
  let v325 : BitVec 32 := Scalar.select v324 c1_i32_149 c4_i32_147
  let v326 : BitVec 32 := Scalar.remsi v323 v325
  let c0_i32_151 : BitVec 32 := 0#32
  let v328 : BitVec 1 := Scalar.cmpi .slt v326 c0_i32_151
  let c0_i32_152 : BitVec 32 := 0#32
  let v329 : BitVec 1 := Scalar.cmpi .slt v325 c0_i32_152
  let v330 : BitVec 1 := Scalar.xori v328 v329
  let c0_i32_150 : BitVec 32 := 0#32
  let v327 : BitVec 1 := Scalar.cmpi .ne v326 c0_i32_150
  let v331 : BitVec 1 := Scalar.andi v330 v327
  let v332 : BitVec 32 := Scalar.addi v326 v325
  let v333 : BitVec 32 := Scalar.select v331 v332 v326
  let c8_i32_193 : BitVec 32 := 8#32
  let v414 : BitVec 32 := Scalar.muli v333 c8_i32_193
  let c7_i32_194 : BitVec 32 := 7#32
  let v415 : BitVec 32 := Scalar.addi v414 c7_i32_194
  let c1_i32_868 : BitVec 32 := 1#32
  let v1600 : BitVec 32 := Scalar.muli v415 c1_i32_868
  let v1601 : BitVec 32 := Scalar.addi c0_i32_869 v1600
  v1601.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_210 : BitVec 32 := 8#32
  let v445 : BitVec 32 := Scalar.muli v434 c8_i32_210
  let c0_i32_211 : BitVec 32 := 0#32
  let v446 : BitVec 32 := Scalar.addi v445 c0_i32_211
  let v452 : BitVec 1 := Scalar.cmpi .ne v446 v2
  let v453 : BitVec 32 := Scalar.extui v452
  let c0_i32_214 : BitVec 32 := 0#32
  let v454 : BitVec 1 := Scalar.cmpi .ne v453 c0_i32_214
  v454

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_210 : BitVec 32 := 8#32
  let v445 : BitVec 32 := Scalar.muli v434 c8_i32_210
  let c0_i32_211 : BitVec 32 := 0#32
  let v446 : BitVec 32 := Scalar.addi v445 c0_i32_211
  ![v446.toNat]
def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_210 : BitVec 32 := 8#32
  let v445 : BitVec 32 := Scalar.muli v434 c8_i32_210
  let c0_i32_211 : BitVec 32 := 0#32
  let v446 : BitVec 32 := Scalar.addi v445 c0_i32_211
  let c0_i32_872 : BitVec 32 := 0#32
  let c0_i32_873 : BitVec 32 := 0#32
  ![v446.toNat, 0, 0]
def k0_dev57 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_210 : BitVec 32 := 8#32
  let v445 : BitVec 32 := Scalar.muli v434 c8_i32_210
  let c0_i32_211 : BitVec 32 := 0#32
  let v446 : BitVec 32 := Scalar.addi v445 c0_i32_211
  let c1_i32_868 : BitVec 32 := 1#32
  let v1600 : BitVec 32 := Scalar.muli v446 c1_i32_868
  let v1601 : BitVec 32 := Scalar.addi c0_i32_869 v1600
  v1601.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_215 : BitVec 32 := 8#32
  let v455 : BitVec 32 := Scalar.muli v434 c8_i32_215
  let c1_i32_216 : BitVec 32 := 1#32
  let v456 : BitVec 32 := Scalar.addi v455 c1_i32_216
  let v462 : BitVec 1 := Scalar.cmpi .ne v456 v2
  let v463 : BitVec 32 := Scalar.extui v462
  let c0_i32_219 : BitVec 32 := 0#32
  let v464 : BitVec 1 := Scalar.cmpi .ne v463 c0_i32_219
  v464

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_215 : BitVec 32 := 8#32
  let v455 : BitVec 32 := Scalar.muli v434 c8_i32_215
  let c1_i32_216 : BitVec 32 := 1#32
  let v456 : BitVec 32 := Scalar.addi v455 c1_i32_216
  ![v456.toNat]
def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_215 : BitVec 32 := 8#32
  let v455 : BitVec 32 := Scalar.muli v434 c8_i32_215
  let c1_i32_216 : BitVec 32 := 1#32
  let v456 : BitVec 32 := Scalar.addi v455 c1_i32_216
  let c0_i32_872 : BitVec 32 := 0#32
  let c0_i32_873 : BitVec 32 := 0#32
  ![v456.toNat, 0, 0]
def k0_dev58 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_215 : BitVec 32 := 8#32
  let v455 : BitVec 32 := Scalar.muli v434 c8_i32_215
  let c1_i32_216 : BitVec 32 := 1#32
  let v456 : BitVec 32 := Scalar.addi v455 c1_i32_216
  let c1_i32_868 : BitVec 32 := 1#32
  let v1600 : BitVec 32 := Scalar.muli v456 c1_i32_868
  let v1601 : BitVec 32 := Scalar.addi c0_i32_869 v1600
  v1601.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_220 : BitVec 32 := 8#32
  let v465 : BitVec 32 := Scalar.muli v434 c8_i32_220
  let c2_i32_221 : BitVec 32 := 2#32
  let v466 : BitVec 32 := Scalar.addi v465 c2_i32_221
  let v472 : BitVec 1 := Scalar.cmpi .ne v466 v2
  let v473 : BitVec 32 := Scalar.extui v472
  let c0_i32_224 : BitVec 32 := 0#32
  let v474 : BitVec 1 := Scalar.cmpi .ne v473 c0_i32_224
  v474

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_220 : BitVec 32 := 8#32
  let v465 : BitVec 32 := Scalar.muli v434 c8_i32_220
  let c2_i32_221 : BitVec 32 := 2#32
  let v466 : BitVec 32 := Scalar.addi v465 c2_i32_221
  ![v466.toNat]
def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_220 : BitVec 32 := 8#32
  let v465 : BitVec 32 := Scalar.muli v434 c8_i32_220
  let c2_i32_221 : BitVec 32 := 2#32
  let v466 : BitVec 32 := Scalar.addi v465 c2_i32_221
  let c0_i32_872 : BitVec 32 := 0#32
  let c0_i32_873 : BitVec 32 := 0#32
  ![v466.toNat, 0, 0]
def k0_dev59 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_220 : BitVec 32 := 8#32
  let v465 : BitVec 32 := Scalar.muli v434 c8_i32_220
  let c2_i32_221 : BitVec 32 := 2#32
  let v466 : BitVec 32 := Scalar.addi v465 c2_i32_221
  let c1_i32_868 : BitVec 32 := 1#32
  let v1600 : BitVec 32 := Scalar.muli v466 c1_i32_868
  let v1601 : BitVec 32 := Scalar.addi c0_i32_869 v1600
  v1601.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_225 : BitVec 32 := 8#32
  let v475 : BitVec 32 := Scalar.muli v434 c8_i32_225
  let c3_i32_226 : BitVec 32 := 3#32
  let v476 : BitVec 32 := Scalar.addi v475 c3_i32_226
  let v482 : BitVec 1 := Scalar.cmpi .ne v476 v2
  let v483 : BitVec 32 := Scalar.extui v482
  let c0_i32_229 : BitVec 32 := 0#32
  let v484 : BitVec 1 := Scalar.cmpi .ne v483 c0_i32_229
  v484

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_225 : BitVec 32 := 8#32
  let v475 : BitVec 32 := Scalar.muli v434 c8_i32_225
  let c3_i32_226 : BitVec 32 := 3#32
  let v476 : BitVec 32 := Scalar.addi v475 c3_i32_226
  ![v476.toNat]
def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_225 : BitVec 32 := 8#32
  let v475 : BitVec 32 := Scalar.muli v434 c8_i32_225
  let c3_i32_226 : BitVec 32 := 3#32
  let v476 : BitVec 32 := Scalar.addi v475 c3_i32_226
  let c0_i32_872 : BitVec 32 := 0#32
  let c0_i32_873 : BitVec 32 := 0#32
  ![v476.toNat, 0, 0]
def k0_dev60 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_225 : BitVec 32 := 8#32
  let v475 : BitVec 32 := Scalar.muli v434 c8_i32_225
  let c3_i32_226 : BitVec 32 := 3#32
  let v476 : BitVec 32 := Scalar.addi v475 c3_i32_226
  let c1_i32_868 : BitVec 32 := 1#32
  let v1600 : BitVec 32 := Scalar.muli v476 c1_i32_868
  let v1601 : BitVec 32 := Scalar.addi c0_i32_869 v1600
  v1601.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_230 : BitVec 32 := 8#32
  let v485 : BitVec 32 := Scalar.muli v434 c8_i32_230
  let c4_i32_231 : BitVec 32 := 4#32
  let v486 : BitVec 32 := Scalar.addi v485 c4_i32_231
  let v492 : BitVec 1 := Scalar.cmpi .ne v486 v2
  let v493 : BitVec 32 := Scalar.extui v492
  let c0_i32_234 : BitVec 32 := 0#32
  let v494 : BitVec 1 := Scalar.cmpi .ne v493 c0_i32_234
  v494

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_230 : BitVec 32 := 8#32
  let v485 : BitVec 32 := Scalar.muli v434 c8_i32_230
  let c4_i32_231 : BitVec 32 := 4#32
  let v486 : BitVec 32 := Scalar.addi v485 c4_i32_231
  ![v486.toNat]
def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_230 : BitVec 32 := 8#32
  let v485 : BitVec 32 := Scalar.muli v434 c8_i32_230
  let c4_i32_231 : BitVec 32 := 4#32
  let v486 : BitVec 32 := Scalar.addi v485 c4_i32_231
  let c0_i32_872 : BitVec 32 := 0#32
  let c0_i32_873 : BitVec 32 := 0#32
  ![v486.toNat, 0, 0]
def k0_dev61 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_230 : BitVec 32 := 8#32
  let v485 : BitVec 32 := Scalar.muli v434 c8_i32_230
  let c4_i32_231 : BitVec 32 := 4#32
  let v486 : BitVec 32 := Scalar.addi v485 c4_i32_231
  let c1_i32_868 : BitVec 32 := 1#32
  let v1600 : BitVec 32 := Scalar.muli v486 c1_i32_868
  let v1601 : BitVec 32 := Scalar.addi c0_i32_869 v1600
  v1601.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_235 : BitVec 32 := 8#32
  let v495 : BitVec 32 := Scalar.muli v434 c8_i32_235
  let c5_i32_236 : BitVec 32 := 5#32
  let v496 : BitVec 32 := Scalar.addi v495 c5_i32_236
  let v502 : BitVec 1 := Scalar.cmpi .ne v496 v2
  let v503 : BitVec 32 := Scalar.extui v502
  let c0_i32_239 : BitVec 32 := 0#32
  let v504 : BitVec 1 := Scalar.cmpi .ne v503 c0_i32_239
  v504

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_235 : BitVec 32 := 8#32
  let v495 : BitVec 32 := Scalar.muli v434 c8_i32_235
  let c5_i32_236 : BitVec 32 := 5#32
  let v496 : BitVec 32 := Scalar.addi v495 c5_i32_236
  ![v496.toNat]
def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_235 : BitVec 32 := 8#32
  let v495 : BitVec 32 := Scalar.muli v434 c8_i32_235
  let c5_i32_236 : BitVec 32 := 5#32
  let v496 : BitVec 32 := Scalar.addi v495 c5_i32_236
  let c0_i32_872 : BitVec 32 := 0#32
  let c0_i32_873 : BitVec 32 := 0#32
  ![v496.toNat, 0, 0]
def k0_dev62 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_235 : BitVec 32 := 8#32
  let v495 : BitVec 32 := Scalar.muli v434 c8_i32_235
  let c5_i32_236 : BitVec 32 := 5#32
  let v496 : BitVec 32 := Scalar.addi v495 c5_i32_236
  let c1_i32_868 : BitVec 32 := 1#32
  let v1600 : BitVec 32 := Scalar.muli v496 c1_i32_868
  let v1601 : BitVec 32 := Scalar.addi c0_i32_869 v1600
  v1601.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_240 : BitVec 32 := 8#32
  let v505 : BitVec 32 := Scalar.muli v434 c8_i32_240
  let c6_i32_241 : BitVec 32 := 6#32
  let v506 : BitVec 32 := Scalar.addi v505 c6_i32_241
  let v512 : BitVec 1 := Scalar.cmpi .ne v506 v2
  let v513 : BitVec 32 := Scalar.extui v512
  let c0_i32_244 : BitVec 32 := 0#32
  let v514 : BitVec 1 := Scalar.cmpi .ne v513 c0_i32_244
  v514

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_240 : BitVec 32 := 8#32
  let v505 : BitVec 32 := Scalar.muli v434 c8_i32_240
  let c6_i32_241 : BitVec 32 := 6#32
  let v506 : BitVec 32 := Scalar.addi v505 c6_i32_241
  ![v506.toNat]
def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_240 : BitVec 32 := 8#32
  let v505 : BitVec 32 := Scalar.muli v434 c8_i32_240
  let c6_i32_241 : BitVec 32 := 6#32
  let v506 : BitVec 32 := Scalar.addi v505 c6_i32_241
  let c0_i32_872 : BitVec 32 := 0#32
  let c0_i32_873 : BitVec 32 := 0#32
  ![v506.toNat, 0, 0]
def k0_dev63 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_240 : BitVec 32 := 8#32
  let v505 : BitVec 32 := Scalar.muli v434 c8_i32_240
  let c6_i32_241 : BitVec 32 := 6#32
  let v506 : BitVec 32 := Scalar.addi v505 c6_i32_241
  let c1_i32_868 : BitVec 32 := 1#32
  let v1600 : BitVec 32 := Scalar.muli v506 c1_i32_868
  let v1601 : BitVec 32 := Scalar.addi c0_i32_869 v1600
  v1601.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_245 : BitVec 32 := 8#32
  let v515 : BitVec 32 := Scalar.muli v434 c8_i32_245
  let c7_i32_246 : BitVec 32 := 7#32
  let v516 : BitVec 32 := Scalar.addi v515 c7_i32_246
  let v522 : BitVec 1 := Scalar.cmpi .ne v516 v2
  let v523 : BitVec 32 := Scalar.extui v522
  let c0_i32_249 : BitVec 32 := 0#32
  let v524 : BitVec 1 := Scalar.cmpi .ne v523 c0_i32_249
  v524

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_245 : BitVec 32 := 8#32
  let v515 : BitVec 32 := Scalar.muli v434 c8_i32_245
  let c7_i32_246 : BitVec 32 := 7#32
  let v516 : BitVec 32 := Scalar.addi v515 c7_i32_246
  ![v516.toNat]
def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_870 : BitVec 32 := 0#32
  let c0_i32_871 : BitVec 32 := 0#32
  ![v2.toNat, 0, 0]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_245 : BitVec 32 := 8#32
  let v515 : BitVec 32 := Scalar.muli v434 c8_i32_245
  let c7_i32_246 : BitVec 32 := 7#32
  let v516 : BitVec 32 := Scalar.addi v515 c7_i32_246
  let c0_i32_872 : BitVec 32 := 0#32
  let c0_i32_873 : BitVec 32 := 0#32
  ![v516.toNat, 0, 0]
def k0_dev64 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_198 : BitVec 32 := 3#32
  let v424 : BitVec 32 := Scalar.addi v19 c3_i32_198
  let c4_i32_199 : BitVec 32 := 4#32
  let c0_i32_200 : BitVec 32 := 0#32
  let v425 : BitVec 1 := Scalar.cmpi .eq c4_i32_199 c0_i32_200
  let c1_i32_201 : BitVec 32 := 1#32
  let v426 : BitVec 32 := Scalar.select v425 c1_i32_201 c4_i32_199
  let v427 : BitVec 32 := Scalar.remsi v424 v426
  let c0_i32_203 : BitVec 32 := 0#32
  let v429 : BitVec 1 := Scalar.cmpi .slt v427 c0_i32_203
  let c0_i32_204 : BitVec 32 := 0#32
  let v430 : BitVec 1 := Scalar.cmpi .slt v426 c0_i32_204
  let v431 : BitVec 1 := Scalar.xori v429 v430
  let c0_i32_202 : BitVec 32 := 0#32
  let v428 : BitVec 1 := Scalar.cmpi .ne v427 c0_i32_202
  let v432 : BitVec 1 := Scalar.andi v431 v428
  let v433 : BitVec 32 := Scalar.addi v427 v426
  let v434 : BitVec 32 := Scalar.select v432 v433 v427
  let c8_i32_245 : BitVec 32 := 8#32
  let v515 : BitVec 32 := Scalar.muli v434 c8_i32_245
  let c7_i32_246 : BitVec 32 := 7#32
  let v516 : BitVec 32 := Scalar.addi v515 c7_i32_246
  let c1_i32_868 : BitVec 32 := 1#32
  let v1600 : BitVec 32 := Scalar.muli v516 c1_i32_868
  let v1601 : BitVec 32 := Scalar.addi c0_i32_869 v1600
  v1601.toNat
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v525 : Index := Scalar.indexCast v2
  let c0_250 : Index := 0#32
  let c0_251 : Index := 0#32
  ![v525.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_256 : BitVec 32 := 0#32
  let v536 : BitVec 32 := Scalar.subi v19 c0_i32_256
  let c4_i32_257 : BitVec 32 := 4#32
  let c0_i32_258 : BitVec 32 := 0#32
  let v537 : BitVec 1 := Scalar.cmpi .eq c4_i32_257 c0_i32_258
  let c1_i32_259 : BitVec 32 := 1#32
  let v538 : BitVec 32 := Scalar.select v537 c1_i32_259 c4_i32_257
  let v539 : BitVec 32 := Scalar.remsi v536 v538
  let c0_i32_261 : BitVec 32 := 0#32
  let v541 : BitVec 1 := Scalar.cmpi .slt v539 c0_i32_261
  let c0_i32_262 : BitVec 32 := 0#32
  let v542 : BitVec 1 := Scalar.cmpi .slt v538 c0_i32_262
  let v543 : BitVec 1 := Scalar.xori v541 v542
  let c0_i32_260 : BitVec 32 := 0#32
  let v540 : BitVec 1 := Scalar.cmpi .ne v539 c0_i32_260
  let v544 : BitVec 1 := Scalar.andi v543 v540
  let v545 : BitVec 32 := Scalar.addi v539 v538
  let v546 : BitVec 32 := Scalar.select v544 v545 v539
  let c8_i32_263 : BitVec 32 := 8#32
  let v547 : BitVec 32 := Scalar.muli v546 c8_i32_263
  let c0_i32_264 : BitVec 32 := 0#32
  let v548 : BitVec 32 := Scalar.addi v547 c0_i32_264
  let v549 : BitVec 1 := Scalar.cmpi .ne v548 v2
  let v550 : BitVec 32 := Scalar.extui v549
  let c0_i32_265 : BitVec 32 := 0#32
  let v551 : BitVec 1 := Scalar.cmpi .ne v550 c0_i32_265
  v551

def k0_off132 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_256 : BitVec 32 := 0#32
  let v536 : BitVec 32 := Scalar.subi v19 c0_i32_256
  let c4_i32_257 : BitVec 32 := 4#32
  let c0_i32_258 : BitVec 32 := 0#32
  let v537 : BitVec 1 := Scalar.cmpi .eq c4_i32_257 c0_i32_258
  let c1_i32_259 : BitVec 32 := 1#32
  let v538 : BitVec 32 := Scalar.select v537 c1_i32_259 c4_i32_257
  let v539 : BitVec 32 := Scalar.remsi v536 v538
  let c0_i32_261 : BitVec 32 := 0#32
  let v541 : BitVec 1 := Scalar.cmpi .slt v539 c0_i32_261
  let c0_i32_262 : BitVec 32 := 0#32
  let v542 : BitVec 1 := Scalar.cmpi .slt v538 c0_i32_262
  let v543 : BitVec 1 := Scalar.xori v541 v542
  let c0_i32_260 : BitVec 32 := 0#32
  let v540 : BitVec 1 := Scalar.cmpi .ne v539 c0_i32_260
  let v544 : BitVec 1 := Scalar.andi v543 v540
  let v545 : BitVec 32 := Scalar.addi v539 v538
  let v546 : BitVec 32 := Scalar.select v544 v545 v539
  let c8_i32_263 : BitVec 32 := 8#32
  let v547 : BitVec 32 := Scalar.muli v546 c8_i32_263
  let c0_i32_264 : BitVec 32 := 0#32
  let v548 : BitVec 32 := Scalar.addi v547 c0_i32_264
  ![v548.toNat]
def k0_off133 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_256 : BitVec 32 := 0#32
  let v536 : BitVec 32 := Scalar.subi v19 c0_i32_256
  let c4_i32_257 : BitVec 32 := 4#32
  let c0_i32_258 : BitVec 32 := 0#32
  let v537 : BitVec 1 := Scalar.cmpi .eq c4_i32_257 c0_i32_258
  let c1_i32_259 : BitVec 32 := 1#32
  let v538 : BitVec 32 := Scalar.select v537 c1_i32_259 c4_i32_257
  let v539 : BitVec 32 := Scalar.remsi v536 v538
  let c0_i32_261 : BitVec 32 := 0#32
  let v541 : BitVec 1 := Scalar.cmpi .slt v539 c0_i32_261
  let c0_i32_262 : BitVec 32 := 0#32
  let v542 : BitVec 1 := Scalar.cmpi .slt v538 c0_i32_262
  let v543 : BitVec 1 := Scalar.xori v541 v542
  let c0_i32_260 : BitVec 32 := 0#32
  let v540 : BitVec 1 := Scalar.cmpi .ne v539 c0_i32_260
  let v544 : BitVec 1 := Scalar.andi v543 v540
  let v545 : BitVec 32 := Scalar.addi v539 v538
  let v546 : BitVec 32 := Scalar.select v544 v545 v539
  let c8_i32_263 : BitVec 32 := 8#32
  let v547 : BitVec 32 := Scalar.muli v546 c8_i32_263
  let c0_i32_264 : BitVec 32 := 0#32
  let v548 : BitVec 32 := Scalar.addi v547 c0_i32_264
  let c0_i32_870 : BitVec 32 := 0#32
  let c0_i32_871 : BitVec 32 := 0#32
  ![v548.toNat, 0, 0]
def k0_off134 (d0 : Dev nD) (c0_i32_256 : BitVec 32) (c0_i32_264 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v536 : BitVec 32 := Scalar.subi v19 c0_i32_256
  let c4_i32_257 : BitVec 32 := 4#32
  let c0_i32_258 : BitVec 32 := 0#32
  let v537 : BitVec 1 := Scalar.cmpi .eq c4_i32_257 c0_i32_258
  let c1_i32_259 : BitVec 32 := 1#32
  let v538 : BitVec 32 := Scalar.select v537 c1_i32_259 c4_i32_257
  let v539 : BitVec 32 := Scalar.remsi v536 v538
  let c0_i32_261 : BitVec 32 := 0#32
  let v541 : BitVec 1 := Scalar.cmpi .slt v539 c0_i32_261
  let c0_i32_262 : BitVec 32 := 0#32
  let v542 : BitVec 1 := Scalar.cmpi .slt v538 c0_i32_262
  let v543 : BitVec 1 := Scalar.xori v541 v542
  let c0_i32_260 : BitVec 32 := 0#32
  let v540 : BitVec 1 := Scalar.cmpi .ne v539 c0_i32_260
  let v544 : BitVec 1 := Scalar.andi v543 v540
  let v545 : BitVec 32 := Scalar.addi v539 v538
  let v546 : BitVec 32 := Scalar.select v544 v545 v539
  let c8_i32_263 : BitVec 32 := 8#32
  let v547 : BitVec 32 := Scalar.muli v546 c8_i32_263
  let v548 : BitVec 32 := Scalar.addi v547 c0_i32_264
  let v554 : Index := Scalar.indexCast v548
  let c0_267 : Index := 0#32
  let c0_268 : Index := 0#32
  ![v554.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_269 : BitVec 32 := 0#32
  let v560 : BitVec 32 := Scalar.subi v19 c0_i32_269
  let c4_i32_270 : BitVec 32 := 4#32
  let c0_i32_271 : BitVec 32 := 0#32
  let v561 : BitVec 1 := Scalar.cmpi .eq c4_i32_270 c0_i32_271
  let c1_i32_272 : BitVec 32 := 1#32
  let v562 : BitVec 32 := Scalar.select v561 c1_i32_272 c4_i32_270
  let v563 : BitVec 32 := Scalar.remsi v560 v562
  let c0_i32_274 : BitVec 32 := 0#32
  let v565 : BitVec 1 := Scalar.cmpi .slt v563 c0_i32_274
  let c0_i32_275 : BitVec 32 := 0#32
  let v566 : BitVec 1 := Scalar.cmpi .slt v562 c0_i32_275
  let v567 : BitVec 1 := Scalar.xori v565 v566
  let c0_i32_273 : BitVec 32 := 0#32
  let v564 : BitVec 1 := Scalar.cmpi .ne v563 c0_i32_273
  let v568 : BitVec 1 := Scalar.andi v567 v564
  let v569 : BitVec 32 := Scalar.addi v563 v562
  let v570 : BitVec 32 := Scalar.select v568 v569 v563
  let c8_i32_276 : BitVec 32 := 8#32
  let v571 : BitVec 32 := Scalar.muli v570 c8_i32_276
  let c1_i32_277 : BitVec 32 := 1#32
  let v572 : BitVec 32 := Scalar.addi v571 c1_i32_277
  let v573 : BitVec 1 := Scalar.cmpi .ne v572 v2
  let v574 : BitVec 32 := Scalar.extui v573
  let c0_i32_278 : BitVec 32 := 0#32
  let v575 : BitVec 1 := Scalar.cmpi .ne v574 c0_i32_278
  v575

def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_269 : BitVec 32 := 0#32
  let v560 : BitVec 32 := Scalar.subi v19 c0_i32_269
  let c4_i32_270 : BitVec 32 := 4#32
  let c0_i32_271 : BitVec 32 := 0#32
  let v561 : BitVec 1 := Scalar.cmpi .eq c4_i32_270 c0_i32_271
  let c1_i32_272 : BitVec 32 := 1#32
  let v562 : BitVec 32 := Scalar.select v561 c1_i32_272 c4_i32_270
  let v563 : BitVec 32 := Scalar.remsi v560 v562
  let c0_i32_274 : BitVec 32 := 0#32
  let v565 : BitVec 1 := Scalar.cmpi .slt v563 c0_i32_274
  let c0_i32_275 : BitVec 32 := 0#32
  let v566 : BitVec 1 := Scalar.cmpi .slt v562 c0_i32_275
  let v567 : BitVec 1 := Scalar.xori v565 v566
  let c0_i32_273 : BitVec 32 := 0#32
  let v564 : BitVec 1 := Scalar.cmpi .ne v563 c0_i32_273
  let v568 : BitVec 1 := Scalar.andi v567 v564
  let v569 : BitVec 32 := Scalar.addi v563 v562
  let v570 : BitVec 32 := Scalar.select v568 v569 v563
  let c8_i32_276 : BitVec 32 := 8#32
  let v571 : BitVec 32 := Scalar.muli v570 c8_i32_276
  let c1_i32_277 : BitVec 32 := 1#32
  let v572 : BitVec 32 := Scalar.addi v571 c1_i32_277
  ![v572.toNat]
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_269 : BitVec 32 := 0#32
  let v560 : BitVec 32 := Scalar.subi v19 c0_i32_269
  let c4_i32_270 : BitVec 32 := 4#32
  let c0_i32_271 : BitVec 32 := 0#32
  let v561 : BitVec 1 := Scalar.cmpi .eq c4_i32_270 c0_i32_271
  let c1_i32_272 : BitVec 32 := 1#32
  let v562 : BitVec 32 := Scalar.select v561 c1_i32_272 c4_i32_270
  let v563 : BitVec 32 := Scalar.remsi v560 v562
  let c0_i32_274 : BitVec 32 := 0#32
  let v565 : BitVec 1 := Scalar.cmpi .slt v563 c0_i32_274
  let c0_i32_275 : BitVec 32 := 0#32
  let v566 : BitVec 1 := Scalar.cmpi .slt v562 c0_i32_275
  let v567 : BitVec 1 := Scalar.xori v565 v566
  let c0_i32_273 : BitVec 32 := 0#32
  let v564 : BitVec 1 := Scalar.cmpi .ne v563 c0_i32_273
  let v568 : BitVec 1 := Scalar.andi v567 v564
  let v569 : BitVec 32 := Scalar.addi v563 v562
  let v570 : BitVec 32 := Scalar.select v568 v569 v563
  let c8_i32_276 : BitVec 32 := 8#32
  let v571 : BitVec 32 := Scalar.muli v570 c8_i32_276
  let c1_i32_277 : BitVec 32 := 1#32
  let v572 : BitVec 32 := Scalar.addi v571 c1_i32_277
  let c0_i32_870 : BitVec 32 := 0#32
  let c0_i32_871 : BitVec 32 := 0#32
  ![v572.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_282 : BitVec 32 := 0#32
  let v584 : BitVec 32 := Scalar.subi v19 c0_i32_282
  let c4_i32_283 : BitVec 32 := 4#32
  let c0_i32_284 : BitVec 32 := 0#32
  let v585 : BitVec 1 := Scalar.cmpi .eq c4_i32_283 c0_i32_284
  let c1_i32_285 : BitVec 32 := 1#32
  let v586 : BitVec 32 := Scalar.select v585 c1_i32_285 c4_i32_283
  let v587 : BitVec 32 := Scalar.remsi v584 v586
  let c0_i32_287 : BitVec 32 := 0#32
  let v589 : BitVec 1 := Scalar.cmpi .slt v587 c0_i32_287
  let c0_i32_288 : BitVec 32 := 0#32
  let v590 : BitVec 1 := Scalar.cmpi .slt v586 c0_i32_288
  let v591 : BitVec 1 := Scalar.xori v589 v590
  let c0_i32_286 : BitVec 32 := 0#32
  let v588 : BitVec 1 := Scalar.cmpi .ne v587 c0_i32_286
  let v592 : BitVec 1 := Scalar.andi v591 v588
  let v593 : BitVec 32 := Scalar.addi v587 v586
  let v594 : BitVec 32 := Scalar.select v592 v593 v587
  let c8_i32_289 : BitVec 32 := 8#32
  let v595 : BitVec 32 := Scalar.muli v594 c8_i32_289
  let c2_i32_290 : BitVec 32 := 2#32
  let v596 : BitVec 32 := Scalar.addi v595 c2_i32_290
  let v597 : BitVec 1 := Scalar.cmpi .ne v596 v2
  let v598 : BitVec 32 := Scalar.extui v597
  let c0_i32_291 : BitVec 32 := 0#32
  let v599 : BitVec 1 := Scalar.cmpi .ne v598 c0_i32_291
  v599

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_282 : BitVec 32 := 0#32
  let v584 : BitVec 32 := Scalar.subi v19 c0_i32_282
  let c4_i32_283 : BitVec 32 := 4#32
  let c0_i32_284 : BitVec 32 := 0#32
  let v585 : BitVec 1 := Scalar.cmpi .eq c4_i32_283 c0_i32_284
  let c1_i32_285 : BitVec 32 := 1#32
  let v586 : BitVec 32 := Scalar.select v585 c1_i32_285 c4_i32_283
  let v587 : BitVec 32 := Scalar.remsi v584 v586
  let c0_i32_287 : BitVec 32 := 0#32
  let v589 : BitVec 1 := Scalar.cmpi .slt v587 c0_i32_287
  let c0_i32_288 : BitVec 32 := 0#32
  let v590 : BitVec 1 := Scalar.cmpi .slt v586 c0_i32_288
  let v591 : BitVec 1 := Scalar.xori v589 v590
  let c0_i32_286 : BitVec 32 := 0#32
  let v588 : BitVec 1 := Scalar.cmpi .ne v587 c0_i32_286
  let v592 : BitVec 1 := Scalar.andi v591 v588
  let v593 : BitVec 32 := Scalar.addi v587 v586
  let v594 : BitVec 32 := Scalar.select v592 v593 v587
  let c8_i32_289 : BitVec 32 := 8#32
  let v595 : BitVec 32 := Scalar.muli v594 c8_i32_289
  let c2_i32_290 : BitVec 32 := 2#32
  let v596 : BitVec 32 := Scalar.addi v595 c2_i32_290
  ![v596.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_282 : BitVec 32 := 0#32
  let v584 : BitVec 32 := Scalar.subi v19 c0_i32_282
  let c4_i32_283 : BitVec 32 := 4#32
  let c0_i32_284 : BitVec 32 := 0#32
  let v585 : BitVec 1 := Scalar.cmpi .eq c4_i32_283 c0_i32_284
  let c1_i32_285 : BitVec 32 := 1#32
  let v586 : BitVec 32 := Scalar.select v585 c1_i32_285 c4_i32_283
  let v587 : BitVec 32 := Scalar.remsi v584 v586
  let c0_i32_287 : BitVec 32 := 0#32
  let v589 : BitVec 1 := Scalar.cmpi .slt v587 c0_i32_287
  let c0_i32_288 : BitVec 32 := 0#32
  let v590 : BitVec 1 := Scalar.cmpi .slt v586 c0_i32_288
  let v591 : BitVec 1 := Scalar.xori v589 v590
  let c0_i32_286 : BitVec 32 := 0#32
  let v588 : BitVec 1 := Scalar.cmpi .ne v587 c0_i32_286
  let v592 : BitVec 1 := Scalar.andi v591 v588
  let v593 : BitVec 32 := Scalar.addi v587 v586
  let v594 : BitVec 32 := Scalar.select v592 v593 v587
  let c8_i32_289 : BitVec 32 := 8#32
  let v595 : BitVec 32 := Scalar.muli v594 c8_i32_289
  let c2_i32_290 : BitVec 32 := 2#32
  let v596 : BitVec 32 := Scalar.addi v595 c2_i32_290
  let c0_i32_870 : BitVec 32 := 0#32
  let c0_i32_871 : BitVec 32 := 0#32
  ![v596.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_295 : BitVec 32 := 0#32
  let v608 : BitVec 32 := Scalar.subi v19 c0_i32_295
  let c4_i32_296 : BitVec 32 := 4#32
  let c0_i32_297 : BitVec 32 := 0#32
  let v609 : BitVec 1 := Scalar.cmpi .eq c4_i32_296 c0_i32_297
  let c1_i32_298 : BitVec 32 := 1#32
  let v610 : BitVec 32 := Scalar.select v609 c1_i32_298 c4_i32_296
  let v611 : BitVec 32 := Scalar.remsi v608 v610
  let c0_i32_300 : BitVec 32 := 0#32
  let v613 : BitVec 1 := Scalar.cmpi .slt v611 c0_i32_300
  let c0_i32_301 : BitVec 32 := 0#32
  let v614 : BitVec 1 := Scalar.cmpi .slt v610 c0_i32_301
  let v615 : BitVec 1 := Scalar.xori v613 v614
  let c0_i32_299 : BitVec 32 := 0#32
  let v612 : BitVec 1 := Scalar.cmpi .ne v611 c0_i32_299
  let v616 : BitVec 1 := Scalar.andi v615 v612
  let v617 : BitVec 32 := Scalar.addi v611 v610
  let v618 : BitVec 32 := Scalar.select v616 v617 v611
  let c8_i32_302 : BitVec 32 := 8#32
  let v619 : BitVec 32 := Scalar.muli v618 c8_i32_302
  let c3_i32_303 : BitVec 32 := 3#32
  let v620 : BitVec 32 := Scalar.addi v619 c3_i32_303
  let v621 : BitVec 1 := Scalar.cmpi .ne v620 v2
  let v622 : BitVec 32 := Scalar.extui v621
  let c0_i32_304 : BitVec 32 := 0#32
  let v623 : BitVec 1 := Scalar.cmpi .ne v622 c0_i32_304
  v623

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_295 : BitVec 32 := 0#32
  let v608 : BitVec 32 := Scalar.subi v19 c0_i32_295
  let c4_i32_296 : BitVec 32 := 4#32
  let c0_i32_297 : BitVec 32 := 0#32
  let v609 : BitVec 1 := Scalar.cmpi .eq c4_i32_296 c0_i32_297
  let c1_i32_298 : BitVec 32 := 1#32
  let v610 : BitVec 32 := Scalar.select v609 c1_i32_298 c4_i32_296
  let v611 : BitVec 32 := Scalar.remsi v608 v610
  let c0_i32_300 : BitVec 32 := 0#32
  let v613 : BitVec 1 := Scalar.cmpi .slt v611 c0_i32_300
  let c0_i32_301 : BitVec 32 := 0#32
  let v614 : BitVec 1 := Scalar.cmpi .slt v610 c0_i32_301
  let v615 : BitVec 1 := Scalar.xori v613 v614
  let c0_i32_299 : BitVec 32 := 0#32
  let v612 : BitVec 1 := Scalar.cmpi .ne v611 c0_i32_299
  let v616 : BitVec 1 := Scalar.andi v615 v612
  let v617 : BitVec 32 := Scalar.addi v611 v610
  let v618 : BitVec 32 := Scalar.select v616 v617 v611
  let c8_i32_302 : BitVec 32 := 8#32
  let v619 : BitVec 32 := Scalar.muli v618 c8_i32_302
  let c3_i32_303 : BitVec 32 := 3#32
  let v620 : BitVec 32 := Scalar.addi v619 c3_i32_303
  ![v620.toNat]
def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_295 : BitVec 32 := 0#32
  let v608 : BitVec 32 := Scalar.subi v19 c0_i32_295
  let c4_i32_296 : BitVec 32 := 4#32
  let c0_i32_297 : BitVec 32 := 0#32
  let v609 : BitVec 1 := Scalar.cmpi .eq c4_i32_296 c0_i32_297
  let c1_i32_298 : BitVec 32 := 1#32
  let v610 : BitVec 32 := Scalar.select v609 c1_i32_298 c4_i32_296
  let v611 : BitVec 32 := Scalar.remsi v608 v610
  let c0_i32_300 : BitVec 32 := 0#32
  let v613 : BitVec 1 := Scalar.cmpi .slt v611 c0_i32_300
  let c0_i32_301 : BitVec 32 := 0#32
  let v614 : BitVec 1 := Scalar.cmpi .slt v610 c0_i32_301
  let v615 : BitVec 1 := Scalar.xori v613 v614
  let c0_i32_299 : BitVec 32 := 0#32
  let v612 : BitVec 1 := Scalar.cmpi .ne v611 c0_i32_299
  let v616 : BitVec 1 := Scalar.andi v615 v612
  let v617 : BitVec 32 := Scalar.addi v611 v610
  let v618 : BitVec 32 := Scalar.select v616 v617 v611
  let c8_i32_302 : BitVec 32 := 8#32
  let v619 : BitVec 32 := Scalar.muli v618 c8_i32_302
  let c3_i32_303 : BitVec 32 := 3#32
  let v620 : BitVec 32 := Scalar.addi v619 c3_i32_303
  let c0_i32_870 : BitVec 32 := 0#32
  let c0_i32_871 : BitVec 32 := 0#32
  ![v620.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_308 : BitVec 32 := 0#32
  let v632 : BitVec 32 := Scalar.subi v19 c0_i32_308
  let c4_i32_309 : BitVec 32 := 4#32
  let c0_i32_310 : BitVec 32 := 0#32
  let v633 : BitVec 1 := Scalar.cmpi .eq c4_i32_309 c0_i32_310
  let c1_i32_311 : BitVec 32 := 1#32
  let v634 : BitVec 32 := Scalar.select v633 c1_i32_311 c4_i32_309
  let v635 : BitVec 32 := Scalar.remsi v632 v634
  let c0_i32_313 : BitVec 32 := 0#32
  let v637 : BitVec 1 := Scalar.cmpi .slt v635 c0_i32_313
  let c0_i32_314 : BitVec 32 := 0#32
  let v638 : BitVec 1 := Scalar.cmpi .slt v634 c0_i32_314
  let v639 : BitVec 1 := Scalar.xori v637 v638
  let c0_i32_312 : BitVec 32 := 0#32
  let v636 : BitVec 1 := Scalar.cmpi .ne v635 c0_i32_312
  let v640 : BitVec 1 := Scalar.andi v639 v636
  let v641 : BitVec 32 := Scalar.addi v635 v634
  let v642 : BitVec 32 := Scalar.select v640 v641 v635
  let c8_i32_315 : BitVec 32 := 8#32
  let v643 : BitVec 32 := Scalar.muli v642 c8_i32_315
  let c4_i32_316 : BitVec 32 := 4#32
  let v644 : BitVec 32 := Scalar.addi v643 c4_i32_316
  let v645 : BitVec 1 := Scalar.cmpi .ne v644 v2
  let v646 : BitVec 32 := Scalar.extui v645
  let c0_i32_317 : BitVec 32 := 0#32
  let v647 : BitVec 1 := Scalar.cmpi .ne v646 c0_i32_317
  v647

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_308 : BitVec 32 := 0#32
  let v632 : BitVec 32 := Scalar.subi v19 c0_i32_308
  let c4_i32_309 : BitVec 32 := 4#32
  let c0_i32_310 : BitVec 32 := 0#32
  let v633 : BitVec 1 := Scalar.cmpi .eq c4_i32_309 c0_i32_310
  let c1_i32_311 : BitVec 32 := 1#32
  let v634 : BitVec 32 := Scalar.select v633 c1_i32_311 c4_i32_309
  let v635 : BitVec 32 := Scalar.remsi v632 v634
  let c0_i32_313 : BitVec 32 := 0#32
  let v637 : BitVec 1 := Scalar.cmpi .slt v635 c0_i32_313
  let c0_i32_314 : BitVec 32 := 0#32
  let v638 : BitVec 1 := Scalar.cmpi .slt v634 c0_i32_314
  let v639 : BitVec 1 := Scalar.xori v637 v638
  let c0_i32_312 : BitVec 32 := 0#32
  let v636 : BitVec 1 := Scalar.cmpi .ne v635 c0_i32_312
  let v640 : BitVec 1 := Scalar.andi v639 v636
  let v641 : BitVec 32 := Scalar.addi v635 v634
  let v642 : BitVec 32 := Scalar.select v640 v641 v635
  let c8_i32_315 : BitVec 32 := 8#32
  let v643 : BitVec 32 := Scalar.muli v642 c8_i32_315
  let c4_i32_316 : BitVec 32 := 4#32
  let v644 : BitVec 32 := Scalar.addi v643 c4_i32_316
  ![v644.toNat]
def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_308 : BitVec 32 := 0#32
  let v632 : BitVec 32 := Scalar.subi v19 c0_i32_308
  let c4_i32_309 : BitVec 32 := 4#32
  let c0_i32_310 : BitVec 32 := 0#32
  let v633 : BitVec 1 := Scalar.cmpi .eq c4_i32_309 c0_i32_310
  let c1_i32_311 : BitVec 32 := 1#32
  let v634 : BitVec 32 := Scalar.select v633 c1_i32_311 c4_i32_309
  let v635 : BitVec 32 := Scalar.remsi v632 v634
  let c0_i32_313 : BitVec 32 := 0#32
  let v637 : BitVec 1 := Scalar.cmpi .slt v635 c0_i32_313
  let c0_i32_314 : BitVec 32 := 0#32
  let v638 : BitVec 1 := Scalar.cmpi .slt v634 c0_i32_314
  let v639 : BitVec 1 := Scalar.xori v637 v638
  let c0_i32_312 : BitVec 32 := 0#32
  let v636 : BitVec 1 := Scalar.cmpi .ne v635 c0_i32_312
  let v640 : BitVec 1 := Scalar.andi v639 v636
  let v641 : BitVec 32 := Scalar.addi v635 v634
  let v642 : BitVec 32 := Scalar.select v640 v641 v635
  let c8_i32_315 : BitVec 32 := 8#32
  let v643 : BitVec 32 := Scalar.muli v642 c8_i32_315
  let c4_i32_316 : BitVec 32 := 4#32
  let v644 : BitVec 32 := Scalar.addi v643 c4_i32_316
  let c0_i32_870 : BitVec 32 := 0#32
  let c0_i32_871 : BitVec 32 := 0#32
  ![v644.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_321 : BitVec 32 := 0#32
  let v656 : BitVec 32 := Scalar.subi v19 c0_i32_321
  let c4_i32_322 : BitVec 32 := 4#32
  let c0_i32_323 : BitVec 32 := 0#32
  let v657 : BitVec 1 := Scalar.cmpi .eq c4_i32_322 c0_i32_323
  let c1_i32_324 : BitVec 32 := 1#32
  let v658 : BitVec 32 := Scalar.select v657 c1_i32_324 c4_i32_322
  let v659 : BitVec 32 := Scalar.remsi v656 v658
  let c0_i32_326 : BitVec 32 := 0#32
  let v661 : BitVec 1 := Scalar.cmpi .slt v659 c0_i32_326
  let c0_i32_327 : BitVec 32 := 0#32
  let v662 : BitVec 1 := Scalar.cmpi .slt v658 c0_i32_327
  let v663 : BitVec 1 := Scalar.xori v661 v662
  let c0_i32_325 : BitVec 32 := 0#32
  let v660 : BitVec 1 := Scalar.cmpi .ne v659 c0_i32_325
  let v664 : BitVec 1 := Scalar.andi v663 v660
  let v665 : BitVec 32 := Scalar.addi v659 v658
  let v666 : BitVec 32 := Scalar.select v664 v665 v659
  let c8_i32_328 : BitVec 32 := 8#32
  let v667 : BitVec 32 := Scalar.muli v666 c8_i32_328
  let c5_i32_329 : BitVec 32 := 5#32
  let v668 : BitVec 32 := Scalar.addi v667 c5_i32_329
  let v669 : BitVec 1 := Scalar.cmpi .ne v668 v2
  let v670 : BitVec 32 := Scalar.extui v669
  let c0_i32_330 : BitVec 32 := 0#32
  let v671 : BitVec 1 := Scalar.cmpi .ne v670 c0_i32_330
  v671

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_321 : BitVec 32 := 0#32
  let v656 : BitVec 32 := Scalar.subi v19 c0_i32_321
  let c4_i32_322 : BitVec 32 := 4#32
  let c0_i32_323 : BitVec 32 := 0#32
  let v657 : BitVec 1 := Scalar.cmpi .eq c4_i32_322 c0_i32_323
  let c1_i32_324 : BitVec 32 := 1#32
  let v658 : BitVec 32 := Scalar.select v657 c1_i32_324 c4_i32_322
  let v659 : BitVec 32 := Scalar.remsi v656 v658
  let c0_i32_326 : BitVec 32 := 0#32
  let v661 : BitVec 1 := Scalar.cmpi .slt v659 c0_i32_326
  let c0_i32_327 : BitVec 32 := 0#32
  let v662 : BitVec 1 := Scalar.cmpi .slt v658 c0_i32_327
  let v663 : BitVec 1 := Scalar.xori v661 v662
  let c0_i32_325 : BitVec 32 := 0#32
  let v660 : BitVec 1 := Scalar.cmpi .ne v659 c0_i32_325
  let v664 : BitVec 1 := Scalar.andi v663 v660
  let v665 : BitVec 32 := Scalar.addi v659 v658
  let v666 : BitVec 32 := Scalar.select v664 v665 v659
  let c8_i32_328 : BitVec 32 := 8#32
  let v667 : BitVec 32 := Scalar.muli v666 c8_i32_328
  let c5_i32_329 : BitVec 32 := 5#32
  let v668 : BitVec 32 := Scalar.addi v667 c5_i32_329
  ![v668.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_321 : BitVec 32 := 0#32
  let v656 : BitVec 32 := Scalar.subi v19 c0_i32_321
  let c4_i32_322 : BitVec 32 := 4#32
  let c0_i32_323 : BitVec 32 := 0#32
  let v657 : BitVec 1 := Scalar.cmpi .eq c4_i32_322 c0_i32_323
  let c1_i32_324 : BitVec 32 := 1#32
  let v658 : BitVec 32 := Scalar.select v657 c1_i32_324 c4_i32_322
  let v659 : BitVec 32 := Scalar.remsi v656 v658
  let c0_i32_326 : BitVec 32 := 0#32
  let v661 : BitVec 1 := Scalar.cmpi .slt v659 c0_i32_326
  let c0_i32_327 : BitVec 32 := 0#32
  let v662 : BitVec 1 := Scalar.cmpi .slt v658 c0_i32_327
  let v663 : BitVec 1 := Scalar.xori v661 v662
  let c0_i32_325 : BitVec 32 := 0#32
  let v660 : BitVec 1 := Scalar.cmpi .ne v659 c0_i32_325
  let v664 : BitVec 1 := Scalar.andi v663 v660
  let v665 : BitVec 32 := Scalar.addi v659 v658
  let v666 : BitVec 32 := Scalar.select v664 v665 v659
  let c8_i32_328 : BitVec 32 := 8#32
  let v667 : BitVec 32 := Scalar.muli v666 c8_i32_328
  let c5_i32_329 : BitVec 32 := 5#32
  let v668 : BitVec 32 := Scalar.addi v667 c5_i32_329
  let c0_i32_870 : BitVec 32 := 0#32
  let c0_i32_871 : BitVec 32 := 0#32
  ![v668.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_334 : BitVec 32 := 0#32
  let v680 : BitVec 32 := Scalar.subi v19 c0_i32_334
  let c4_i32_335 : BitVec 32 := 4#32
  let c0_i32_336 : BitVec 32 := 0#32
  let v681 : BitVec 1 := Scalar.cmpi .eq c4_i32_335 c0_i32_336
  let c1_i32_337 : BitVec 32 := 1#32
  let v682 : BitVec 32 := Scalar.select v681 c1_i32_337 c4_i32_335
  let v683 : BitVec 32 := Scalar.remsi v680 v682
  let c0_i32_339 : BitVec 32 := 0#32
  let v685 : BitVec 1 := Scalar.cmpi .slt v683 c0_i32_339
  let c0_i32_340 : BitVec 32 := 0#32
  let v686 : BitVec 1 := Scalar.cmpi .slt v682 c0_i32_340
  let v687 : BitVec 1 := Scalar.xori v685 v686
  let c0_i32_338 : BitVec 32 := 0#32
  let v684 : BitVec 1 := Scalar.cmpi .ne v683 c0_i32_338
  let v688 : BitVec 1 := Scalar.andi v687 v684
  let v689 : BitVec 32 := Scalar.addi v683 v682
  let v690 : BitVec 32 := Scalar.select v688 v689 v683
  let c8_i32_341 : BitVec 32 := 8#32
  let v691 : BitVec 32 := Scalar.muli v690 c8_i32_341
  let c6_i32_342 : BitVec 32 := 6#32
  let v692 : BitVec 32 := Scalar.addi v691 c6_i32_342
  let v693 : BitVec 1 := Scalar.cmpi .ne v692 v2
  let v694 : BitVec 32 := Scalar.extui v693
  let c0_i32_343 : BitVec 32 := 0#32
  let v695 : BitVec 1 := Scalar.cmpi .ne v694 c0_i32_343
  v695

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_334 : BitVec 32 := 0#32
  let v680 : BitVec 32 := Scalar.subi v19 c0_i32_334
  let c4_i32_335 : BitVec 32 := 4#32
  let c0_i32_336 : BitVec 32 := 0#32
  let v681 : BitVec 1 := Scalar.cmpi .eq c4_i32_335 c0_i32_336
  let c1_i32_337 : BitVec 32 := 1#32
  let v682 : BitVec 32 := Scalar.select v681 c1_i32_337 c4_i32_335
  let v683 : BitVec 32 := Scalar.remsi v680 v682
  let c0_i32_339 : BitVec 32 := 0#32
  let v685 : BitVec 1 := Scalar.cmpi .slt v683 c0_i32_339
  let c0_i32_340 : BitVec 32 := 0#32
  let v686 : BitVec 1 := Scalar.cmpi .slt v682 c0_i32_340
  let v687 : BitVec 1 := Scalar.xori v685 v686
  let c0_i32_338 : BitVec 32 := 0#32
  let v684 : BitVec 1 := Scalar.cmpi .ne v683 c0_i32_338
  let v688 : BitVec 1 := Scalar.andi v687 v684
  let v689 : BitVec 32 := Scalar.addi v683 v682
  let v690 : BitVec 32 := Scalar.select v688 v689 v683
  let c8_i32_341 : BitVec 32 := 8#32
  let v691 : BitVec 32 := Scalar.muli v690 c8_i32_341
  let c6_i32_342 : BitVec 32 := 6#32
  let v692 : BitVec 32 := Scalar.addi v691 c6_i32_342
  ![v692.toNat]
def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_334 : BitVec 32 := 0#32
  let v680 : BitVec 32 := Scalar.subi v19 c0_i32_334
  let c4_i32_335 : BitVec 32 := 4#32
  let c0_i32_336 : BitVec 32 := 0#32
  let v681 : BitVec 1 := Scalar.cmpi .eq c4_i32_335 c0_i32_336
  let c1_i32_337 : BitVec 32 := 1#32
  let v682 : BitVec 32 := Scalar.select v681 c1_i32_337 c4_i32_335
  let v683 : BitVec 32 := Scalar.remsi v680 v682
  let c0_i32_339 : BitVec 32 := 0#32
  let v685 : BitVec 1 := Scalar.cmpi .slt v683 c0_i32_339
  let c0_i32_340 : BitVec 32 := 0#32
  let v686 : BitVec 1 := Scalar.cmpi .slt v682 c0_i32_340
  let v687 : BitVec 1 := Scalar.xori v685 v686
  let c0_i32_338 : BitVec 32 := 0#32
  let v684 : BitVec 1 := Scalar.cmpi .ne v683 c0_i32_338
  let v688 : BitVec 1 := Scalar.andi v687 v684
  let v689 : BitVec 32 := Scalar.addi v683 v682
  let v690 : BitVec 32 := Scalar.select v688 v689 v683
  let c8_i32_341 : BitVec 32 := 8#32
  let v691 : BitVec 32 := Scalar.muli v690 c8_i32_341
  let c6_i32_342 : BitVec 32 := 6#32
  let v692 : BitVec 32 := Scalar.addi v691 c6_i32_342
  let c0_i32_870 : BitVec 32 := 0#32
  let c0_i32_871 : BitVec 32 := 0#32
  ![v692.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_347 : BitVec 32 := 0#32
  let v704 : BitVec 32 := Scalar.subi v19 c0_i32_347
  let c4_i32_348 : BitVec 32 := 4#32
  let c0_i32_349 : BitVec 32 := 0#32
  let v705 : BitVec 1 := Scalar.cmpi .eq c4_i32_348 c0_i32_349
  let c1_i32_350 : BitVec 32 := 1#32
  let v706 : BitVec 32 := Scalar.select v705 c1_i32_350 c4_i32_348
  let v707 : BitVec 32 := Scalar.remsi v704 v706
  let c0_i32_352 : BitVec 32 := 0#32
  let v709 : BitVec 1 := Scalar.cmpi .slt v707 c0_i32_352
  let c0_i32_353 : BitVec 32 := 0#32
  let v710 : BitVec 1 := Scalar.cmpi .slt v706 c0_i32_353
  let v711 : BitVec 1 := Scalar.xori v709 v710
  let c0_i32_351 : BitVec 32 := 0#32
  let v708 : BitVec 1 := Scalar.cmpi .ne v707 c0_i32_351
  let v712 : BitVec 1 := Scalar.andi v711 v708
  let v713 : BitVec 32 := Scalar.addi v707 v706
  let v714 : BitVec 32 := Scalar.select v712 v713 v707
  let c8_i32_354 : BitVec 32 := 8#32
  let v715 : BitVec 32 := Scalar.muli v714 c8_i32_354
  let c7_i32_355 : BitVec 32 := 7#32
  let v716 : BitVec 32 := Scalar.addi v715 c7_i32_355
  let v717 : BitVec 1 := Scalar.cmpi .ne v716 v2
  let v718 : BitVec 32 := Scalar.extui v717
  let c0_i32_356 : BitVec 32 := 0#32
  let v719 : BitVec 1 := Scalar.cmpi .ne v718 c0_i32_356
  v719

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_347 : BitVec 32 := 0#32
  let v704 : BitVec 32 := Scalar.subi v19 c0_i32_347
  let c4_i32_348 : BitVec 32 := 4#32
  let c0_i32_349 : BitVec 32 := 0#32
  let v705 : BitVec 1 := Scalar.cmpi .eq c4_i32_348 c0_i32_349
  let c1_i32_350 : BitVec 32 := 1#32
  let v706 : BitVec 32 := Scalar.select v705 c1_i32_350 c4_i32_348
  let v707 : BitVec 32 := Scalar.remsi v704 v706
  let c0_i32_352 : BitVec 32 := 0#32
  let v709 : BitVec 1 := Scalar.cmpi .slt v707 c0_i32_352
  let c0_i32_353 : BitVec 32 := 0#32
  let v710 : BitVec 1 := Scalar.cmpi .slt v706 c0_i32_353
  let v711 : BitVec 1 := Scalar.xori v709 v710
  let c0_i32_351 : BitVec 32 := 0#32
  let v708 : BitVec 1 := Scalar.cmpi .ne v707 c0_i32_351
  let v712 : BitVec 1 := Scalar.andi v711 v708
  let v713 : BitVec 32 := Scalar.addi v707 v706
  let v714 : BitVec 32 := Scalar.select v712 v713 v707
  let c8_i32_354 : BitVec 32 := 8#32
  let v715 : BitVec 32 := Scalar.muli v714 c8_i32_354
  let c7_i32_355 : BitVec 32 := 7#32
  let v716 : BitVec 32 := Scalar.addi v715 c7_i32_355
  ![v716.toNat]
def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_347 : BitVec 32 := 0#32
  let v704 : BitVec 32 := Scalar.subi v19 c0_i32_347
  let c4_i32_348 : BitVec 32 := 4#32
  let c0_i32_349 : BitVec 32 := 0#32
  let v705 : BitVec 1 := Scalar.cmpi .eq c4_i32_348 c0_i32_349
  let c1_i32_350 : BitVec 32 := 1#32
  let v706 : BitVec 32 := Scalar.select v705 c1_i32_350 c4_i32_348
  let v707 : BitVec 32 := Scalar.remsi v704 v706
  let c0_i32_352 : BitVec 32 := 0#32
  let v709 : BitVec 1 := Scalar.cmpi .slt v707 c0_i32_352
  let c0_i32_353 : BitVec 32 := 0#32
  let v710 : BitVec 1 := Scalar.cmpi .slt v706 c0_i32_353
  let v711 : BitVec 1 := Scalar.xori v709 v710
  let c0_i32_351 : BitVec 32 := 0#32
  let v708 : BitVec 1 := Scalar.cmpi .ne v707 c0_i32_351
  let v712 : BitVec 1 := Scalar.andi v711 v708
  let v713 : BitVec 32 := Scalar.addi v707 v706
  let v714 : BitVec 32 := Scalar.select v712 v713 v707
  let c8_i32_354 : BitVec 32 := 8#32
  let v715 : BitVec 32 := Scalar.muli v714 c8_i32_354
  let c7_i32_355 : BitVec 32 := 7#32
  let v716 : BitVec 32 := Scalar.addi v715 c7_i32_355
  let c0_i32_870 : BitVec 32 := 0#32
  let c0_i32_871 : BitVec 32 := 0#32
  ![v716.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_360 : BitVec 32 := 1#32
  let v728 : BitVec 32 := Scalar.subi v19 c1_i32_360
  let c4_i32_361 : BitVec 32 := 4#32
  let c0_i32_362 : BitVec 32 := 0#32
  let v729 : BitVec 1 := Scalar.cmpi .eq c4_i32_361 c0_i32_362
  let c1_i32_363 : BitVec 32 := 1#32
  let v730 : BitVec 32 := Scalar.select v729 c1_i32_363 c4_i32_361
  let v731 : BitVec 32 := Scalar.remsi v728 v730
  let c0_i32_365 : BitVec 32 := 0#32
  let v733 : BitVec 1 := Scalar.cmpi .slt v731 c0_i32_365
  let c0_i32_366 : BitVec 32 := 0#32
  let v734 : BitVec 1 := Scalar.cmpi .slt v730 c0_i32_366
  let v735 : BitVec 1 := Scalar.xori v733 v734
  let c0_i32_364 : BitVec 32 := 0#32
  let v732 : BitVec 1 := Scalar.cmpi .ne v731 c0_i32_364
  let v736 : BitVec 1 := Scalar.andi v735 v732
  let v737 : BitVec 32 := Scalar.addi v731 v730
  let v738 : BitVec 32 := Scalar.select v736 v737 v731
  let c8_i32_367 : BitVec 32 := 8#32
  let v739 : BitVec 32 := Scalar.muli v738 c8_i32_367
  let c0_i32_368 : BitVec 32 := 0#32
  let v740 : BitVec 32 := Scalar.addi v739 c0_i32_368
  let v741 : BitVec 1 := Scalar.cmpi .ne v740 v2
  let v742 : BitVec 32 := Scalar.extui v741
  let c0_i32_369 : BitVec 32 := 0#32
  let v743 : BitVec 1 := Scalar.cmpi .ne v742 c0_i32_369
  v743

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_360 : BitVec 32 := 1#32
  let v728 : BitVec 32 := Scalar.subi v19 c1_i32_360
  let c4_i32_361 : BitVec 32 := 4#32
  let c0_i32_362 : BitVec 32 := 0#32
  let v729 : BitVec 1 := Scalar.cmpi .eq c4_i32_361 c0_i32_362
  let c1_i32_363 : BitVec 32 := 1#32
  let v730 : BitVec 32 := Scalar.select v729 c1_i32_363 c4_i32_361
  let v731 : BitVec 32 := Scalar.remsi v728 v730
  let c0_i32_365 : BitVec 32 := 0#32
  let v733 : BitVec 1 := Scalar.cmpi .slt v731 c0_i32_365
  let c0_i32_366 : BitVec 32 := 0#32
  let v734 : BitVec 1 := Scalar.cmpi .slt v730 c0_i32_366
  let v735 : BitVec 1 := Scalar.xori v733 v734
  let c0_i32_364 : BitVec 32 := 0#32
  let v732 : BitVec 1 := Scalar.cmpi .ne v731 c0_i32_364
  let v736 : BitVec 1 := Scalar.andi v735 v732
  let v737 : BitVec 32 := Scalar.addi v731 v730
  let v738 : BitVec 32 := Scalar.select v736 v737 v731
  let c8_i32_367 : BitVec 32 := 8#32
  let v739 : BitVec 32 := Scalar.muli v738 c8_i32_367
  let c0_i32_368 : BitVec 32 := 0#32
  let v740 : BitVec 32 := Scalar.addi v739 c0_i32_368
  ![v740.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_360 : BitVec 32 := 1#32
  let v728 : BitVec 32 := Scalar.subi v19 c1_i32_360
  let c4_i32_361 : BitVec 32 := 4#32
  let c0_i32_362 : BitVec 32 := 0#32
  let v729 : BitVec 1 := Scalar.cmpi .eq c4_i32_361 c0_i32_362
  let c1_i32_363 : BitVec 32 := 1#32
  let v730 : BitVec 32 := Scalar.select v729 c1_i32_363 c4_i32_361
  let v731 : BitVec 32 := Scalar.remsi v728 v730
  let c0_i32_365 : BitVec 32 := 0#32
  let v733 : BitVec 1 := Scalar.cmpi .slt v731 c0_i32_365
  let c0_i32_366 : BitVec 32 := 0#32
  let v734 : BitVec 1 := Scalar.cmpi .slt v730 c0_i32_366
  let v735 : BitVec 1 := Scalar.xori v733 v734
  let c0_i32_364 : BitVec 32 := 0#32
  let v732 : BitVec 1 := Scalar.cmpi .ne v731 c0_i32_364
  let v736 : BitVec 1 := Scalar.andi v735 v732
  let v737 : BitVec 32 := Scalar.addi v731 v730
  let v738 : BitVec 32 := Scalar.select v736 v737 v731
  let c8_i32_367 : BitVec 32 := 8#32
  let v739 : BitVec 32 := Scalar.muli v738 c8_i32_367
  let c0_i32_368 : BitVec 32 := 0#32
  let v740 : BitVec 32 := Scalar.addi v739 c0_i32_368
  let c0_i32_870 : BitVec 32 := 0#32
  let c0_i32_871 : BitVec 32 := 0#32
  ![v740.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_373 : BitVec 32 := 1#32
  let v752 : BitVec 32 := Scalar.subi v19 c1_i32_373
  let c4_i32_374 : BitVec 32 := 4#32
  let c0_i32_375 : BitVec 32 := 0#32
  let v753 : BitVec 1 := Scalar.cmpi .eq c4_i32_374 c0_i32_375
  let c1_i32_376 : BitVec 32 := 1#32
  let v754 : BitVec 32 := Scalar.select v753 c1_i32_376 c4_i32_374
  let v755 : BitVec 32 := Scalar.remsi v752 v754
  let c0_i32_378 : BitVec 32 := 0#32
  let v757 : BitVec 1 := Scalar.cmpi .slt v755 c0_i32_378
  let c0_i32_379 : BitVec 32 := 0#32
  let v758 : BitVec 1 := Scalar.cmpi .slt v754 c0_i32_379
  let v759 : BitVec 1 := Scalar.xori v757 v758
  let c0_i32_377 : BitVec 32 := 0#32
  let v756 : BitVec 1 := Scalar.cmpi .ne v755 c0_i32_377
  let v760 : BitVec 1 := Scalar.andi v759 v756
  let v761 : BitVec 32 := Scalar.addi v755 v754
  let v762 : BitVec 32 := Scalar.select v760 v761 v755
  let c8_i32_380 : BitVec 32 := 8#32
  let v763 : BitVec 32 := Scalar.muli v762 c8_i32_380
  let c1_i32_381 : BitVec 32 := 1#32
  let v764 : BitVec 32 := Scalar.addi v763 c1_i32_381
  let v765 : BitVec 1 := Scalar.cmpi .ne v764 v2
  let v766 : BitVec 32 := Scalar.extui v765
  let c0_i32_382 : BitVec 32 := 0#32
  let v767 : BitVec 1 := Scalar.cmpi .ne v766 c0_i32_382
  v767

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_373 : BitVec 32 := 1#32
  let v752 : BitVec 32 := Scalar.subi v19 c1_i32_373
  let c4_i32_374 : BitVec 32 := 4#32
  let c0_i32_375 : BitVec 32 := 0#32
  let v753 : BitVec 1 := Scalar.cmpi .eq c4_i32_374 c0_i32_375
  let c1_i32_376 : BitVec 32 := 1#32
  let v754 : BitVec 32 := Scalar.select v753 c1_i32_376 c4_i32_374
  let v755 : BitVec 32 := Scalar.remsi v752 v754
  let c0_i32_378 : BitVec 32 := 0#32
  let v757 : BitVec 1 := Scalar.cmpi .slt v755 c0_i32_378
  let c0_i32_379 : BitVec 32 := 0#32
  let v758 : BitVec 1 := Scalar.cmpi .slt v754 c0_i32_379
  let v759 : BitVec 1 := Scalar.xori v757 v758
  let c0_i32_377 : BitVec 32 := 0#32
  let v756 : BitVec 1 := Scalar.cmpi .ne v755 c0_i32_377
  let v760 : BitVec 1 := Scalar.andi v759 v756
  let v761 : BitVec 32 := Scalar.addi v755 v754
  let v762 : BitVec 32 := Scalar.select v760 v761 v755
  let c8_i32_380 : BitVec 32 := 8#32
  let v763 : BitVec 32 := Scalar.muli v762 c8_i32_380
  let c1_i32_381 : BitVec 32 := 1#32
  let v764 : BitVec 32 := Scalar.addi v763 c1_i32_381
  ![v764.toNat]
def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_373 : BitVec 32 := 1#32
  let v752 : BitVec 32 := Scalar.subi v19 c1_i32_373
  let c4_i32_374 : BitVec 32 := 4#32
  let c0_i32_375 : BitVec 32 := 0#32
  let v753 : BitVec 1 := Scalar.cmpi .eq c4_i32_374 c0_i32_375
  let c1_i32_376 : BitVec 32 := 1#32
  let v754 : BitVec 32 := Scalar.select v753 c1_i32_376 c4_i32_374
  let v755 : BitVec 32 := Scalar.remsi v752 v754
  let c0_i32_378 : BitVec 32 := 0#32
  let v757 : BitVec 1 := Scalar.cmpi .slt v755 c0_i32_378
  let c0_i32_379 : BitVec 32 := 0#32
  let v758 : BitVec 1 := Scalar.cmpi .slt v754 c0_i32_379
  let v759 : BitVec 1 := Scalar.xori v757 v758
  let c0_i32_377 : BitVec 32 := 0#32
  let v756 : BitVec 1 := Scalar.cmpi .ne v755 c0_i32_377
  let v760 : BitVec 1 := Scalar.andi v759 v756
  let v761 : BitVec 32 := Scalar.addi v755 v754
  let v762 : BitVec 32 := Scalar.select v760 v761 v755
  let c8_i32_380 : BitVec 32 := 8#32
  let v763 : BitVec 32 := Scalar.muli v762 c8_i32_380
  let c1_i32_381 : BitVec 32 := 1#32
  let v764 : BitVec 32 := Scalar.addi v763 c1_i32_381
  let c0_i32_870 : BitVec 32 := 0#32
  let c0_i32_871 : BitVec 32 := 0#32
  ![v764.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_386 : BitVec 32 := 1#32
  let v776 : BitVec 32 := Scalar.subi v19 c1_i32_386
  let c4_i32_387 : BitVec 32 := 4#32
  let c0_i32_388 : BitVec 32 := 0#32
  let v777 : BitVec 1 := Scalar.cmpi .eq c4_i32_387 c0_i32_388
  let c1_i32_389 : BitVec 32 := 1#32
  let v778 : BitVec 32 := Scalar.select v777 c1_i32_389 c4_i32_387
  let v779 : BitVec 32 := Scalar.remsi v776 v778
  let c0_i32_391 : BitVec 32 := 0#32
  let v781 : BitVec 1 := Scalar.cmpi .slt v779 c0_i32_391
  let c0_i32_392 : BitVec 32 := 0#32
  let v782 : BitVec 1 := Scalar.cmpi .slt v778 c0_i32_392
  let v783 : BitVec 1 := Scalar.xori v781 v782
  let c0_i32_390 : BitVec 32 := 0#32
  let v780 : BitVec 1 := Scalar.cmpi .ne v779 c0_i32_390
  let v784 : BitVec 1 := Scalar.andi v783 v780
  let v785 : BitVec 32 := Scalar.addi v779 v778
  let v786 : BitVec 32 := Scalar.select v784 v785 v779
  let c8_i32_393 : BitVec 32 := 8#32
  let v787 : BitVec 32 := Scalar.muli v786 c8_i32_393
  let c2_i32_394 : BitVec 32 := 2#32
  let v788 : BitVec 32 := Scalar.addi v787 c2_i32_394
  let v789 : BitVec 1 := Scalar.cmpi .ne v788 v2
  let v790 : BitVec 32 := Scalar.extui v789
  let c0_i32_395 : BitVec 32 := 0#32
  let v791 : BitVec 1 := Scalar.cmpi .ne v790 c0_i32_395
  v791

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_386 : BitVec 32 := 1#32
  let v776 : BitVec 32 := Scalar.subi v19 c1_i32_386
  let c4_i32_387 : BitVec 32 := 4#32
  let c0_i32_388 : BitVec 32 := 0#32
  let v777 : BitVec 1 := Scalar.cmpi .eq c4_i32_387 c0_i32_388
  let c1_i32_389 : BitVec 32 := 1#32
  let v778 : BitVec 32 := Scalar.select v777 c1_i32_389 c4_i32_387
  let v779 : BitVec 32 := Scalar.remsi v776 v778
  let c0_i32_391 : BitVec 32 := 0#32
  let v781 : BitVec 1 := Scalar.cmpi .slt v779 c0_i32_391
  let c0_i32_392 : BitVec 32 := 0#32
  let v782 : BitVec 1 := Scalar.cmpi .slt v778 c0_i32_392
  let v783 : BitVec 1 := Scalar.xori v781 v782
  let c0_i32_390 : BitVec 32 := 0#32
  let v780 : BitVec 1 := Scalar.cmpi .ne v779 c0_i32_390
  let v784 : BitVec 1 := Scalar.andi v783 v780
  let v785 : BitVec 32 := Scalar.addi v779 v778
  let v786 : BitVec 32 := Scalar.select v784 v785 v779
  let c8_i32_393 : BitVec 32 := 8#32
  let v787 : BitVec 32 := Scalar.muli v786 c8_i32_393
  let c2_i32_394 : BitVec 32 := 2#32
  let v788 : BitVec 32 := Scalar.addi v787 c2_i32_394
  ![v788.toNat]
def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_386 : BitVec 32 := 1#32
  let v776 : BitVec 32 := Scalar.subi v19 c1_i32_386
  let c4_i32_387 : BitVec 32 := 4#32
  let c0_i32_388 : BitVec 32 := 0#32
  let v777 : BitVec 1 := Scalar.cmpi .eq c4_i32_387 c0_i32_388
  let c1_i32_389 : BitVec 32 := 1#32
  let v778 : BitVec 32 := Scalar.select v777 c1_i32_389 c4_i32_387
  let v779 : BitVec 32 := Scalar.remsi v776 v778
  let c0_i32_391 : BitVec 32 := 0#32
  let v781 : BitVec 1 := Scalar.cmpi .slt v779 c0_i32_391
  let c0_i32_392 : BitVec 32 := 0#32
  let v782 : BitVec 1 := Scalar.cmpi .slt v778 c0_i32_392
  let v783 : BitVec 1 := Scalar.xori v781 v782
  let c0_i32_390 : BitVec 32 := 0#32
  let v780 : BitVec 1 := Scalar.cmpi .ne v779 c0_i32_390
  let v784 : BitVec 1 := Scalar.andi v783 v780
  let v785 : BitVec 32 := Scalar.addi v779 v778
  let v786 : BitVec 32 := Scalar.select v784 v785 v779
  let c8_i32_393 : BitVec 32 := 8#32
  let v787 : BitVec 32 := Scalar.muli v786 c8_i32_393
  let c2_i32_394 : BitVec 32 := 2#32
  let v788 : BitVec 32 := Scalar.addi v787 c2_i32_394
  let c0_i32_870 : BitVec 32 := 0#32
  let c0_i32_871 : BitVec 32 := 0#32
  ![v788.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_399 : BitVec 32 := 1#32
  let v800 : BitVec 32 := Scalar.subi v19 c1_i32_399
  let c4_i32_400 : BitVec 32 := 4#32
  let c0_i32_401 : BitVec 32 := 0#32
  let v801 : BitVec 1 := Scalar.cmpi .eq c4_i32_400 c0_i32_401
  let c1_i32_402 : BitVec 32 := 1#32
  let v802 : BitVec 32 := Scalar.select v801 c1_i32_402 c4_i32_400
  let v803 : BitVec 32 := Scalar.remsi v800 v802
  let c0_i32_404 : BitVec 32 := 0#32
  let v805 : BitVec 1 := Scalar.cmpi .slt v803 c0_i32_404
  let c0_i32_405 : BitVec 32 := 0#32
  let v806 : BitVec 1 := Scalar.cmpi .slt v802 c0_i32_405
  let v807 : BitVec 1 := Scalar.xori v805 v806
  let c0_i32_403 : BitVec 32 := 0#32
  let v804 : BitVec 1 := Scalar.cmpi .ne v803 c0_i32_403
  let v808 : BitVec 1 := Scalar.andi v807 v804
  let v809 : BitVec 32 := Scalar.addi v803 v802
  let v810 : BitVec 32 := Scalar.select v808 v809 v803
  let c8_i32_406 : BitVec 32 := 8#32
  let v811 : BitVec 32 := Scalar.muli v810 c8_i32_406
  let c3_i32_407 : BitVec 32 := 3#32
  let v812 : BitVec 32 := Scalar.addi v811 c3_i32_407
  let v813 : BitVec 1 := Scalar.cmpi .ne v812 v2
  let v814 : BitVec 32 := Scalar.extui v813
  let c0_i32_408 : BitVec 32 := 0#32
  let v815 : BitVec 1 := Scalar.cmpi .ne v814 c0_i32_408
  v815

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_399 : BitVec 32 := 1#32
  let v800 : BitVec 32 := Scalar.subi v19 c1_i32_399
  let c4_i32_400 : BitVec 32 := 4#32
  let c0_i32_401 : BitVec 32 := 0#32
  let v801 : BitVec 1 := Scalar.cmpi .eq c4_i32_400 c0_i32_401
  let c1_i32_402 : BitVec 32 := 1#32
  let v802 : BitVec 32 := Scalar.select v801 c1_i32_402 c4_i32_400
  let v803 : BitVec 32 := Scalar.remsi v800 v802
  let c0_i32_404 : BitVec 32 := 0#32
  let v805 : BitVec 1 := Scalar.cmpi .slt v803 c0_i32_404
  let c0_i32_405 : BitVec 32 := 0#32
  let v806 : BitVec 1 := Scalar.cmpi .slt v802 c0_i32_405
  let v807 : BitVec 1 := Scalar.xori v805 v806
  let c0_i32_403 : BitVec 32 := 0#32
  let v804 : BitVec 1 := Scalar.cmpi .ne v803 c0_i32_403
  let v808 : BitVec 1 := Scalar.andi v807 v804
  let v809 : BitVec 32 := Scalar.addi v803 v802
  let v810 : BitVec 32 := Scalar.select v808 v809 v803
  let c8_i32_406 : BitVec 32 := 8#32
  let v811 : BitVec 32 := Scalar.muli v810 c8_i32_406
  let c3_i32_407 : BitVec 32 := 3#32
  let v812 : BitVec 32 := Scalar.addi v811 c3_i32_407
  ![v812.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_399 : BitVec 32 := 1#32
  let v800 : BitVec 32 := Scalar.subi v19 c1_i32_399
  let c4_i32_400 : BitVec 32 := 4#32
  let c0_i32_401 : BitVec 32 := 0#32
  let v801 : BitVec 1 := Scalar.cmpi .eq c4_i32_400 c0_i32_401
  let c1_i32_402 : BitVec 32 := 1#32
  let v802 : BitVec 32 := Scalar.select v801 c1_i32_402 c4_i32_400
  let v803 : BitVec 32 := Scalar.remsi v800 v802
  let c0_i32_404 : BitVec 32 := 0#32
  let v805 : BitVec 1 := Scalar.cmpi .slt v803 c0_i32_404
  let c0_i32_405 : BitVec 32 := 0#32
  let v806 : BitVec 1 := Scalar.cmpi .slt v802 c0_i32_405
  let v807 : BitVec 1 := Scalar.xori v805 v806
  let c0_i32_403 : BitVec 32 := 0#32
  let v804 : BitVec 1 := Scalar.cmpi .ne v803 c0_i32_403
  let v808 : BitVec 1 := Scalar.andi v807 v804
  let v809 : BitVec 32 := Scalar.addi v803 v802
  let v810 : BitVec 32 := Scalar.select v808 v809 v803
  let c8_i32_406 : BitVec 32 := 8#32
  let v811 : BitVec 32 := Scalar.muli v810 c8_i32_406
  let c3_i32_407 : BitVec 32 := 3#32
  let v812 : BitVec 32 := Scalar.addi v811 c3_i32_407
  let c0_i32_870 : BitVec 32 := 0#32
  let c0_i32_871 : BitVec 32 := 0#32
  ![v812.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v824 : BitVec 32 := Scalar.subi v19 c1_i32_412
  let c4_i32_413 : BitVec 32 := 4#32
  let c0_i32_414 : BitVec 32 := 0#32
  let v825 : BitVec 1 := Scalar.cmpi .eq c4_i32_413 c0_i32_414
  let c1_i32_415 : BitVec 32 := 1#32
  let v826 : BitVec 32 := Scalar.select v825 c1_i32_415 c4_i32_413
  let v827 : BitVec 32 := Scalar.remsi v824 v826
  let c0_i32_417 : BitVec 32 := 0#32
  let v829 : BitVec 1 := Scalar.cmpi .slt v827 c0_i32_417
  let c0_i32_418 : BitVec 32 := 0#32
  let v830 : BitVec 1 := Scalar.cmpi .slt v826 c0_i32_418
  let v831 : BitVec 1 := Scalar.xori v829 v830
  let c0_i32_416 : BitVec 32 := 0#32
  let v828 : BitVec 1 := Scalar.cmpi .ne v827 c0_i32_416
  let v832 : BitVec 1 := Scalar.andi v831 v828
  let v833 : BitVec 32 := Scalar.addi v827 v826
  let v834 : BitVec 32 := Scalar.select v832 v833 v827
  let c8_i32_419 : BitVec 32 := 8#32
  let v835 : BitVec 32 := Scalar.muli v834 c8_i32_419
  let c4_i32_420 : BitVec 32 := 4#32
  let v836 : BitVec 32 := Scalar.addi v835 c4_i32_420
  let v837 : BitVec 1 := Scalar.cmpi .ne v836 v2
  let v838 : BitVec 32 := Scalar.extui v837
  let c0_i32_421 : BitVec 32 := 0#32
  let v839 : BitVec 1 := Scalar.cmpi .ne v838 c0_i32_421
  v839

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v824 : BitVec 32 := Scalar.subi v19 c1_i32_412
  let c4_i32_413 : BitVec 32 := 4#32
  let c0_i32_414 : BitVec 32 := 0#32
  let v825 : BitVec 1 := Scalar.cmpi .eq c4_i32_413 c0_i32_414
  let c1_i32_415 : BitVec 32 := 1#32
  let v826 : BitVec 32 := Scalar.select v825 c1_i32_415 c4_i32_413
  let v827 : BitVec 32 := Scalar.remsi v824 v826
  let c0_i32_417 : BitVec 32 := 0#32
  let v829 : BitVec 1 := Scalar.cmpi .slt v827 c0_i32_417
  let c0_i32_418 : BitVec 32 := 0#32
  let v830 : BitVec 1 := Scalar.cmpi .slt v826 c0_i32_418
  let v831 : BitVec 1 := Scalar.xori v829 v830
  let c0_i32_416 : BitVec 32 := 0#32
  let v828 : BitVec 1 := Scalar.cmpi .ne v827 c0_i32_416
  let v832 : BitVec 1 := Scalar.andi v831 v828
  let v833 : BitVec 32 := Scalar.addi v827 v826
  let v834 : BitVec 32 := Scalar.select v832 v833 v827
  let c8_i32_419 : BitVec 32 := 8#32
  let v835 : BitVec 32 := Scalar.muli v834 c8_i32_419
  let c4_i32_420 : BitVec 32 := 4#32
  let v836 : BitVec 32 := Scalar.addi v835 c4_i32_420
  ![v836.toNat]
def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_412 : BitVec 32 := 1#32
  let v824 : BitVec 32 := Scalar.subi v19 c1_i32_412
  let c4_i32_413 : BitVec 32 := 4#32
  let c0_i32_414 : BitVec 32 := 0#32
  let v825 : BitVec 1 := Scalar.cmpi .eq c4_i32_413 c0_i32_414
  let c1_i32_415 : BitVec 32 := 1#32
  let v826 : BitVec 32 := Scalar.select v825 c1_i32_415 c4_i32_413
  let v827 : BitVec 32 := Scalar.remsi v824 v826
  let c0_i32_417 : BitVec 32 := 0#32
  let v829 : BitVec 1 := Scalar.cmpi .slt v827 c0_i32_417
  let c0_i32_418 : BitVec 32 := 0#32
  let v830 : BitVec 1 := Scalar.cmpi .slt v826 c0_i32_418
  let v831 : BitVec 1 := Scalar.xori v829 v830
  let c0_i32_416 : BitVec 32 := 0#32
  let v828 : BitVec 1 := Scalar.cmpi .ne v827 c0_i32_416
  let v832 : BitVec 1 := Scalar.andi v831 v828
  let v833 : BitVec 32 := Scalar.addi v827 v826
  let v834 : BitVec 32 := Scalar.select v832 v833 v827
  let c8_i32_419 : BitVec 32 := 8#32
  let v835 : BitVec 32 := Scalar.muli v834 c8_i32_419
  let c4_i32_420 : BitVec 32 := 4#32
  let v836 : BitVec 32 := Scalar.addi v835 c4_i32_420
  let c0_i32_870 : BitVec 32 := 0#32
  let c0_i32_871 : BitVec 32 := 0#32
  ![v836.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_425 : BitVec 32 := 1#32
  let v848 : BitVec 32 := Scalar.subi v19 c1_i32_425
  let c4_i32_426 : BitVec 32 := 4#32
  let c0_i32_427 : BitVec 32 := 0#32
  let v849 : BitVec 1 := Scalar.cmpi .eq c4_i32_426 c0_i32_427
  let c1_i32_428 : BitVec 32 := 1#32
  let v850 : BitVec 32 := Scalar.select v849 c1_i32_428 c4_i32_426
  let v851 : BitVec 32 := Scalar.remsi v848 v850
  let c0_i32_430 : BitVec 32 := 0#32
  let v853 : BitVec 1 := Scalar.cmpi .slt v851 c0_i32_430
  let c0_i32_431 : BitVec 32 := 0#32
  let v854 : BitVec 1 := Scalar.cmpi .slt v850 c0_i32_431
  let v855 : BitVec 1 := Scalar.xori v853 v854
  let c0_i32_429 : BitVec 32 := 0#32
  let v852 : BitVec 1 := Scalar.cmpi .ne v851 c0_i32_429
  let v856 : BitVec 1 := Scalar.andi v855 v852
  let v857 : BitVec 32 := Scalar.addi v851 v850
  let v858 : BitVec 32 := Scalar.select v856 v857 v851
  let c8_i32_432 : BitVec 32 := 8#32
  let v859 : BitVec 32 := Scalar.muli v858 c8_i32_432
  let c5_i32_433 : BitVec 32 := 5#32
  let v860 : BitVec 32 := Scalar.addi v859 c5_i32_433
  let v861 : BitVec 1 := Scalar.cmpi .ne v860 v2
  let v862 : BitVec 32 := Scalar.extui v861
  let c0_i32_434 : BitVec 32 := 0#32
  let v863 : BitVec 1 := Scalar.cmpi .ne v862 c0_i32_434
  v863

def k0_off159 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_425 : BitVec 32 := 1#32
  let v848 : BitVec 32 := Scalar.subi v19 c1_i32_425
  let c4_i32_426 : BitVec 32 := 4#32
  let c0_i32_427 : BitVec 32 := 0#32
  let v849 : BitVec 1 := Scalar.cmpi .eq c4_i32_426 c0_i32_427
  let c1_i32_428 : BitVec 32 := 1#32
  let v850 : BitVec 32 := Scalar.select v849 c1_i32_428 c4_i32_426
  let v851 : BitVec 32 := Scalar.remsi v848 v850
  let c0_i32_430 : BitVec 32 := 0#32
  let v853 : BitVec 1 := Scalar.cmpi .slt v851 c0_i32_430
  let c0_i32_431 : BitVec 32 := 0#32
  let v854 : BitVec 1 := Scalar.cmpi .slt v850 c0_i32_431
  let v855 : BitVec 1 := Scalar.xori v853 v854
  let c0_i32_429 : BitVec 32 := 0#32
  let v852 : BitVec 1 := Scalar.cmpi .ne v851 c0_i32_429
  let v856 : BitVec 1 := Scalar.andi v855 v852
  let v857 : BitVec 32 := Scalar.addi v851 v850
  let v858 : BitVec 32 := Scalar.select v856 v857 v851
  let c8_i32_432 : BitVec 32 := 8#32
  let v859 : BitVec 32 := Scalar.muli v858 c8_i32_432
  let c5_i32_433 : BitVec 32 := 5#32
  let v860 : BitVec 32 := Scalar.addi v859 c5_i32_433
  ![v860.toNat]
def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_425 : BitVec 32 := 1#32
  let v848 : BitVec 32 := Scalar.subi v19 c1_i32_425
  let c4_i32_426 : BitVec 32 := 4#32
  let c0_i32_427 : BitVec 32 := 0#32
  let v849 : BitVec 1 := Scalar.cmpi .eq c4_i32_426 c0_i32_427
  let c1_i32_428 : BitVec 32 := 1#32
  let v850 : BitVec 32 := Scalar.select v849 c1_i32_428 c4_i32_426
  let v851 : BitVec 32 := Scalar.remsi v848 v850
  let c0_i32_430 : BitVec 32 := 0#32
  let v853 : BitVec 1 := Scalar.cmpi .slt v851 c0_i32_430
  let c0_i32_431 : BitVec 32 := 0#32
  let v854 : BitVec 1 := Scalar.cmpi .slt v850 c0_i32_431
  let v855 : BitVec 1 := Scalar.xori v853 v854
  let c0_i32_429 : BitVec 32 := 0#32
  let v852 : BitVec 1 := Scalar.cmpi .ne v851 c0_i32_429
  let v856 : BitVec 1 := Scalar.andi v855 v852
  let v857 : BitVec 32 := Scalar.addi v851 v850
  let v858 : BitVec 32 := Scalar.select v856 v857 v851
  let c8_i32_432 : BitVec 32 := 8#32
  let v859 : BitVec 32 := Scalar.muli v858 c8_i32_432
  let c5_i32_433 : BitVec 32 := 5#32
  let v860 : BitVec 32 := Scalar.addi v859 c5_i32_433
  let c0_i32_870 : BitVec 32 := 0#32
  let c0_i32_871 : BitVec 32 := 0#32
  ![v860.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_438 : BitVec 32 := 1#32
  let v872 : BitVec 32 := Scalar.subi v19 c1_i32_438
  let c4_i32_439 : BitVec 32 := 4#32
  let c0_i32_440 : BitVec 32 := 0#32
  let v873 : BitVec 1 := Scalar.cmpi .eq c4_i32_439 c0_i32_440
  let c1_i32_441 : BitVec 32 := 1#32
  let v874 : BitVec 32 := Scalar.select v873 c1_i32_441 c4_i32_439
  let v875 : BitVec 32 := Scalar.remsi v872 v874
  let c0_i32_443 : BitVec 32 := 0#32
  let v877 : BitVec 1 := Scalar.cmpi .slt v875 c0_i32_443
  let c0_i32_444 : BitVec 32 := 0#32
  let v878 : BitVec 1 := Scalar.cmpi .slt v874 c0_i32_444
  let v879 : BitVec 1 := Scalar.xori v877 v878
  let c0_i32_442 : BitVec 32 := 0#32
  let v876 : BitVec 1 := Scalar.cmpi .ne v875 c0_i32_442
  let v880 : BitVec 1 := Scalar.andi v879 v876
  let v881 : BitVec 32 := Scalar.addi v875 v874
  let v882 : BitVec 32 := Scalar.select v880 v881 v875
  let c8_i32_445 : BitVec 32 := 8#32
  let v883 : BitVec 32 := Scalar.muli v882 c8_i32_445
  let c6_i32_446 : BitVec 32 := 6#32
  let v884 : BitVec 32 := Scalar.addi v883 c6_i32_446
  let v885 : BitVec 1 := Scalar.cmpi .ne v884 v2
  let v886 : BitVec 32 := Scalar.extui v885
  let c0_i32_447 : BitVec 32 := 0#32
  let v887 : BitVec 1 := Scalar.cmpi .ne v886 c0_i32_447
  v887

def k0_off161 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_438 : BitVec 32 := 1#32
  let v872 : BitVec 32 := Scalar.subi v19 c1_i32_438
  let c4_i32_439 : BitVec 32 := 4#32
  let c0_i32_440 : BitVec 32 := 0#32
  let v873 : BitVec 1 := Scalar.cmpi .eq c4_i32_439 c0_i32_440
  let c1_i32_441 : BitVec 32 := 1#32
  let v874 : BitVec 32 := Scalar.select v873 c1_i32_441 c4_i32_439
  let v875 : BitVec 32 := Scalar.remsi v872 v874
  let c0_i32_443 : BitVec 32 := 0#32
  let v877 : BitVec 1 := Scalar.cmpi .slt v875 c0_i32_443
  let c0_i32_444 : BitVec 32 := 0#32
  let v878 : BitVec 1 := Scalar.cmpi .slt v874 c0_i32_444
  let v879 : BitVec 1 := Scalar.xori v877 v878
  let c0_i32_442 : BitVec 32 := 0#32
  let v876 : BitVec 1 := Scalar.cmpi .ne v875 c0_i32_442
  let v880 : BitVec 1 := Scalar.andi v879 v876
  let v881 : BitVec 32 := Scalar.addi v875 v874
  let v882 : BitVec 32 := Scalar.select v880 v881 v875
  let c8_i32_445 : BitVec 32 := 8#32
  let v883 : BitVec 32 := Scalar.muli v882 c8_i32_445
  let c6_i32_446 : BitVec 32 := 6#32
  let v884 : BitVec 32 := Scalar.addi v883 c6_i32_446
  ![v884.toNat]
def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_438 : BitVec 32 := 1#32
  let v872 : BitVec 32 := Scalar.subi v19 c1_i32_438
  let c4_i32_439 : BitVec 32 := 4#32
  let c0_i32_440 : BitVec 32 := 0#32
  let v873 : BitVec 1 := Scalar.cmpi .eq c4_i32_439 c0_i32_440
  let c1_i32_441 : BitVec 32 := 1#32
  let v874 : BitVec 32 := Scalar.select v873 c1_i32_441 c4_i32_439
  let v875 : BitVec 32 := Scalar.remsi v872 v874
  let c0_i32_443 : BitVec 32 := 0#32
  let v877 : BitVec 1 := Scalar.cmpi .slt v875 c0_i32_443
  let c0_i32_444 : BitVec 32 := 0#32
  let v878 : BitVec 1 := Scalar.cmpi .slt v874 c0_i32_444
  let v879 : BitVec 1 := Scalar.xori v877 v878
  let c0_i32_442 : BitVec 32 := 0#32
  let v876 : BitVec 1 := Scalar.cmpi .ne v875 c0_i32_442
  let v880 : BitVec 1 := Scalar.andi v879 v876
  let v881 : BitVec 32 := Scalar.addi v875 v874
  let v882 : BitVec 32 := Scalar.select v880 v881 v875
  let c8_i32_445 : BitVec 32 := 8#32
  let v883 : BitVec 32 := Scalar.muli v882 c8_i32_445
  let c6_i32_446 : BitVec 32 := 6#32
  let v884 : BitVec 32 := Scalar.addi v883 c6_i32_446
  let c0_i32_870 : BitVec 32 := 0#32
  let c0_i32_871 : BitVec 32 := 0#32
  ![v884.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_451 : BitVec 32 := 1#32
  let v896 : BitVec 32 := Scalar.subi v19 c1_i32_451
  let c4_i32_452 : BitVec 32 := 4#32
  let c0_i32_453 : BitVec 32 := 0#32
  let v897 : BitVec 1 := Scalar.cmpi .eq c4_i32_452 c0_i32_453
  let c1_i32_454 : BitVec 32 := 1#32
  let v898 : BitVec 32 := Scalar.select v897 c1_i32_454 c4_i32_452
  let v899 : BitVec 32 := Scalar.remsi v896 v898
  let c0_i32_456 : BitVec 32 := 0#32
  let v901 : BitVec 1 := Scalar.cmpi .slt v899 c0_i32_456
  let c0_i32_457 : BitVec 32 := 0#32
  let v902 : BitVec 1 := Scalar.cmpi .slt v898 c0_i32_457
  let v903 : BitVec 1 := Scalar.xori v901 v902
  let c0_i32_455 : BitVec 32 := 0#32
  let v900 : BitVec 1 := Scalar.cmpi .ne v899 c0_i32_455
  let v904 : BitVec 1 := Scalar.andi v903 v900
  let v905 : BitVec 32 := Scalar.addi v899 v898
  let v906 : BitVec 32 := Scalar.select v904 v905 v899
  let c8_i32_458 : BitVec 32 := 8#32
  let v907 : BitVec 32 := Scalar.muli v906 c8_i32_458
  let c7_i32_459 : BitVec 32 := 7#32
  let v908 : BitVec 32 := Scalar.addi v907 c7_i32_459
  let v909 : BitVec 1 := Scalar.cmpi .ne v908 v2
  let v910 : BitVec 32 := Scalar.extui v909
  let c0_i32_460 : BitVec 32 := 0#32
  let v911 : BitVec 1 := Scalar.cmpi .ne v910 c0_i32_460
  v911

def k0_off163 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_451 : BitVec 32 := 1#32
  let v896 : BitVec 32 := Scalar.subi v19 c1_i32_451
  let c4_i32_452 : BitVec 32 := 4#32
  let c0_i32_453 : BitVec 32 := 0#32
  let v897 : BitVec 1 := Scalar.cmpi .eq c4_i32_452 c0_i32_453
  let c1_i32_454 : BitVec 32 := 1#32
  let v898 : BitVec 32 := Scalar.select v897 c1_i32_454 c4_i32_452
  let v899 : BitVec 32 := Scalar.remsi v896 v898
  let c0_i32_456 : BitVec 32 := 0#32
  let v901 : BitVec 1 := Scalar.cmpi .slt v899 c0_i32_456
  let c0_i32_457 : BitVec 32 := 0#32
  let v902 : BitVec 1 := Scalar.cmpi .slt v898 c0_i32_457
  let v903 : BitVec 1 := Scalar.xori v901 v902
  let c0_i32_455 : BitVec 32 := 0#32
  let v900 : BitVec 1 := Scalar.cmpi .ne v899 c0_i32_455
  let v904 : BitVec 1 := Scalar.andi v903 v900
  let v905 : BitVec 32 := Scalar.addi v899 v898
  let v906 : BitVec 32 := Scalar.select v904 v905 v899
  let c8_i32_458 : BitVec 32 := 8#32
  let v907 : BitVec 32 := Scalar.muli v906 c8_i32_458
  let c7_i32_459 : BitVec 32 := 7#32
  let v908 : BitVec 32 := Scalar.addi v907 c7_i32_459
  ![v908.toNat]
def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_451 : BitVec 32 := 1#32
  let v896 : BitVec 32 := Scalar.subi v19 c1_i32_451
  let c4_i32_452 : BitVec 32 := 4#32
  let c0_i32_453 : BitVec 32 := 0#32
  let v897 : BitVec 1 := Scalar.cmpi .eq c4_i32_452 c0_i32_453
  let c1_i32_454 : BitVec 32 := 1#32
  let v898 : BitVec 32 := Scalar.select v897 c1_i32_454 c4_i32_452
  let v899 : BitVec 32 := Scalar.remsi v896 v898
  let c0_i32_456 : BitVec 32 := 0#32
  let v901 : BitVec 1 := Scalar.cmpi .slt v899 c0_i32_456
  let c0_i32_457 : BitVec 32 := 0#32
  let v902 : BitVec 1 := Scalar.cmpi .slt v898 c0_i32_457
  let v903 : BitVec 1 := Scalar.xori v901 v902
  let c0_i32_455 : BitVec 32 := 0#32
  let v900 : BitVec 1 := Scalar.cmpi .ne v899 c0_i32_455
  let v904 : BitVec 1 := Scalar.andi v903 v900
  let v905 : BitVec 32 := Scalar.addi v899 v898
  let v906 : BitVec 32 := Scalar.select v904 v905 v899
  let c8_i32_458 : BitVec 32 := 8#32
  let v907 : BitVec 32 := Scalar.muli v906 c8_i32_458
  let c7_i32_459 : BitVec 32 := 7#32
  let v908 : BitVec 32 := Scalar.addi v907 c7_i32_459
  let c0_i32_870 : BitVec 32 := 0#32
  let c0_i32_871 : BitVec 32 := 0#32
  ![v908.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_464 : BitVec 32 := 2#32
  let v920 : BitVec 32 := Scalar.subi v19 c2_i32_464
  let c4_i32_465 : BitVec 32 := 4#32
  let c0_i32_466 : BitVec 32 := 0#32
  let v921 : BitVec 1 := Scalar.cmpi .eq c4_i32_465 c0_i32_466
  let c1_i32_467 : BitVec 32 := 1#32
  let v922 : BitVec 32 := Scalar.select v921 c1_i32_467 c4_i32_465
  let v923 : BitVec 32 := Scalar.remsi v920 v922
  let c0_i32_469 : BitVec 32 := 0#32
  let v925 : BitVec 1 := Scalar.cmpi .slt v923 c0_i32_469
  let c0_i32_470 : BitVec 32 := 0#32
  let v926 : BitVec 1 := Scalar.cmpi .slt v922 c0_i32_470
  let v927 : BitVec 1 := Scalar.xori v925 v926
  let c0_i32_468 : BitVec 32 := 0#32
  let v924 : BitVec 1 := Scalar.cmpi .ne v923 c0_i32_468
  let v928 : BitVec 1 := Scalar.andi v927 v924
  let v929 : BitVec 32 := Scalar.addi v923 v922
  let v930 : BitVec 32 := Scalar.select v928 v929 v923
  let c8_i32_471 : BitVec 32 := 8#32
  let v931 : BitVec 32 := Scalar.muli v930 c8_i32_471
  let c0_i32_472 : BitVec 32 := 0#32
  let v932 : BitVec 32 := Scalar.addi v931 c0_i32_472
  let v933 : BitVec 1 := Scalar.cmpi .ne v932 v2
  let v934 : BitVec 32 := Scalar.extui v933
  let c0_i32_473 : BitVec 32 := 0#32
  let v935 : BitVec 1 := Scalar.cmpi .ne v934 c0_i32_473
  v935

def k0_off165 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_464 : BitVec 32 := 2#32
  let v920 : BitVec 32 := Scalar.subi v19 c2_i32_464
  let c4_i32_465 : BitVec 32 := 4#32
  let c0_i32_466 : BitVec 32 := 0#32
  let v921 : BitVec 1 := Scalar.cmpi .eq c4_i32_465 c0_i32_466
  let c1_i32_467 : BitVec 32 := 1#32
  let v922 : BitVec 32 := Scalar.select v921 c1_i32_467 c4_i32_465
  let v923 : BitVec 32 := Scalar.remsi v920 v922
  let c0_i32_469 : BitVec 32 := 0#32
  let v925 : BitVec 1 := Scalar.cmpi .slt v923 c0_i32_469
  let c0_i32_470 : BitVec 32 := 0#32
  let v926 : BitVec 1 := Scalar.cmpi .slt v922 c0_i32_470
  let v927 : BitVec 1 := Scalar.xori v925 v926
  let c0_i32_468 : BitVec 32 := 0#32
  let v924 : BitVec 1 := Scalar.cmpi .ne v923 c0_i32_468
  let v928 : BitVec 1 := Scalar.andi v927 v924
  let v929 : BitVec 32 := Scalar.addi v923 v922
  let v930 : BitVec 32 := Scalar.select v928 v929 v923
  let c8_i32_471 : BitVec 32 := 8#32
  let v931 : BitVec 32 := Scalar.muli v930 c8_i32_471
  let c0_i32_472 : BitVec 32 := 0#32
  let v932 : BitVec 32 := Scalar.addi v931 c0_i32_472
  ![v932.toNat]
def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_464 : BitVec 32 := 2#32
  let v920 : BitVec 32 := Scalar.subi v19 c2_i32_464
  let c4_i32_465 : BitVec 32 := 4#32
  let c0_i32_466 : BitVec 32 := 0#32
  let v921 : BitVec 1 := Scalar.cmpi .eq c4_i32_465 c0_i32_466
  let c1_i32_467 : BitVec 32 := 1#32
  let v922 : BitVec 32 := Scalar.select v921 c1_i32_467 c4_i32_465
  let v923 : BitVec 32 := Scalar.remsi v920 v922
  let c0_i32_469 : BitVec 32 := 0#32
  let v925 : BitVec 1 := Scalar.cmpi .slt v923 c0_i32_469
  let c0_i32_470 : BitVec 32 := 0#32
  let v926 : BitVec 1 := Scalar.cmpi .slt v922 c0_i32_470
  let v927 : BitVec 1 := Scalar.xori v925 v926
  let c0_i32_468 : BitVec 32 := 0#32
  let v924 : BitVec 1 := Scalar.cmpi .ne v923 c0_i32_468
  let v928 : BitVec 1 := Scalar.andi v927 v924
  let v929 : BitVec 32 := Scalar.addi v923 v922
  let v930 : BitVec 32 := Scalar.select v928 v929 v923
  let c8_i32_471 : BitVec 32 := 8#32
  let v931 : BitVec 32 := Scalar.muli v930 c8_i32_471
  let c0_i32_472 : BitVec 32 := 0#32
  let v932 : BitVec 32 := Scalar.addi v931 c0_i32_472
  let c0_i32_870 : BitVec 32 := 0#32
  let c0_i32_871 : BitVec 32 := 0#32
  ![v932.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_477 : BitVec 32 := 2#32
  let v944 : BitVec 32 := Scalar.subi v19 c2_i32_477
  let c4_i32_478 : BitVec 32 := 4#32
  let c0_i32_479 : BitVec 32 := 0#32
  let v945 : BitVec 1 := Scalar.cmpi .eq c4_i32_478 c0_i32_479
  let c1_i32_480 : BitVec 32 := 1#32
  let v946 : BitVec 32 := Scalar.select v945 c1_i32_480 c4_i32_478
  let v947 : BitVec 32 := Scalar.remsi v944 v946
  let c0_i32_482 : BitVec 32 := 0#32
  let v949 : BitVec 1 := Scalar.cmpi .slt v947 c0_i32_482
  let c0_i32_483 : BitVec 32 := 0#32
  let v950 : BitVec 1 := Scalar.cmpi .slt v946 c0_i32_483
  let v951 : BitVec 1 := Scalar.xori v949 v950
  let c0_i32_481 : BitVec 32 := 0#32
  let v948 : BitVec 1 := Scalar.cmpi .ne v947 c0_i32_481
  let v952 : BitVec 1 := Scalar.andi v951 v948
  let v953 : BitVec 32 := Scalar.addi v947 v946
  let v954 : BitVec 32 := Scalar.select v952 v953 v947
  let c8_i32_484 : BitVec 32 := 8#32
  let v955 : BitVec 32 := Scalar.muli v954 c8_i32_484
  let c1_i32_485 : BitVec 32 := 1#32
  let v956 : BitVec 32 := Scalar.addi v955 c1_i32_485
  let v957 : BitVec 1 := Scalar.cmpi .ne v956 v2
  let v958 : BitVec 32 := Scalar.extui v957
  let c0_i32_486 : BitVec 32 := 0#32
  let v959 : BitVec 1 := Scalar.cmpi .ne v958 c0_i32_486
  v959

def k0_off167 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_477 : BitVec 32 := 2#32
  let v944 : BitVec 32 := Scalar.subi v19 c2_i32_477
  let c4_i32_478 : BitVec 32 := 4#32
  let c0_i32_479 : BitVec 32 := 0#32
  let v945 : BitVec 1 := Scalar.cmpi .eq c4_i32_478 c0_i32_479
  let c1_i32_480 : BitVec 32 := 1#32
  let v946 : BitVec 32 := Scalar.select v945 c1_i32_480 c4_i32_478
  let v947 : BitVec 32 := Scalar.remsi v944 v946
  let c0_i32_482 : BitVec 32 := 0#32
  let v949 : BitVec 1 := Scalar.cmpi .slt v947 c0_i32_482
  let c0_i32_483 : BitVec 32 := 0#32
  let v950 : BitVec 1 := Scalar.cmpi .slt v946 c0_i32_483
  let v951 : BitVec 1 := Scalar.xori v949 v950
  let c0_i32_481 : BitVec 32 := 0#32
  let v948 : BitVec 1 := Scalar.cmpi .ne v947 c0_i32_481
  let v952 : BitVec 1 := Scalar.andi v951 v948
  let v953 : BitVec 32 := Scalar.addi v947 v946
  let v954 : BitVec 32 := Scalar.select v952 v953 v947
  let c8_i32_484 : BitVec 32 := 8#32
  let v955 : BitVec 32 := Scalar.muli v954 c8_i32_484
  let c1_i32_485 : BitVec 32 := 1#32
  let v956 : BitVec 32 := Scalar.addi v955 c1_i32_485
  ![v956.toNat]
def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_477 : BitVec 32 := 2#32
  let v944 : BitVec 32 := Scalar.subi v19 c2_i32_477
  let c4_i32_478 : BitVec 32 := 4#32
  let c0_i32_479 : BitVec 32 := 0#32
  let v945 : BitVec 1 := Scalar.cmpi .eq c4_i32_478 c0_i32_479
  let c1_i32_480 : BitVec 32 := 1#32
  let v946 : BitVec 32 := Scalar.select v945 c1_i32_480 c4_i32_478
  let v947 : BitVec 32 := Scalar.remsi v944 v946
  let c0_i32_482 : BitVec 32 := 0#32
  let v949 : BitVec 1 := Scalar.cmpi .slt v947 c0_i32_482
  let c0_i32_483 : BitVec 32 := 0#32
  let v950 : BitVec 1 := Scalar.cmpi .slt v946 c0_i32_483
  let v951 : BitVec 1 := Scalar.xori v949 v950
  let c0_i32_481 : BitVec 32 := 0#32
  let v948 : BitVec 1 := Scalar.cmpi .ne v947 c0_i32_481
  let v952 : BitVec 1 := Scalar.andi v951 v948
  let v953 : BitVec 32 := Scalar.addi v947 v946
  let v954 : BitVec 32 := Scalar.select v952 v953 v947
  let c8_i32_484 : BitVec 32 := 8#32
  let v955 : BitVec 32 := Scalar.muli v954 c8_i32_484
  let c1_i32_485 : BitVec 32 := 1#32
  let v956 : BitVec 32 := Scalar.addi v955 c1_i32_485
  let c0_i32_870 : BitVec 32 := 0#32
  let c0_i32_871 : BitVec 32 := 0#32
  ![v956.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_490 : BitVec 32 := 2#32
  let v968 : BitVec 32 := Scalar.subi v19 c2_i32_490
  let c4_i32_491 : BitVec 32 := 4#32
  let c0_i32_492 : BitVec 32 := 0#32
  let v969 : BitVec 1 := Scalar.cmpi .eq c4_i32_491 c0_i32_492
  let c1_i32_493 : BitVec 32 := 1#32
  let v970 : BitVec 32 := Scalar.select v969 c1_i32_493 c4_i32_491
  let v971 : BitVec 32 := Scalar.remsi v968 v970
  let c0_i32_495 : BitVec 32 := 0#32
  let v973 : BitVec 1 := Scalar.cmpi .slt v971 c0_i32_495
  let c0_i32_496 : BitVec 32 := 0#32
  let v974 : BitVec 1 := Scalar.cmpi .slt v970 c0_i32_496
  let v975 : BitVec 1 := Scalar.xori v973 v974
  let c0_i32_494 : BitVec 32 := 0#32
  let v972 : BitVec 1 := Scalar.cmpi .ne v971 c0_i32_494
  let v976 : BitVec 1 := Scalar.andi v975 v972
  let v977 : BitVec 32 := Scalar.addi v971 v970
  let v978 : BitVec 32 := Scalar.select v976 v977 v971
  let c8_i32_497 : BitVec 32 := 8#32
  let v979 : BitVec 32 := Scalar.muli v978 c8_i32_497
  let c2_i32_498 : BitVec 32 := 2#32
  let v980 : BitVec 32 := Scalar.addi v979 c2_i32_498
  let v981 : BitVec 1 := Scalar.cmpi .ne v980 v2
  let v982 : BitVec 32 := Scalar.extui v981
  let c0_i32_499 : BitVec 32 := 0#32
  let v983 : BitVec 1 := Scalar.cmpi .ne v982 c0_i32_499
  v983

def k0_off169 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_490 : BitVec 32 := 2#32
  let v968 : BitVec 32 := Scalar.subi v19 c2_i32_490
  let c4_i32_491 : BitVec 32 := 4#32
  let c0_i32_492 : BitVec 32 := 0#32
  let v969 : BitVec 1 := Scalar.cmpi .eq c4_i32_491 c0_i32_492
  let c1_i32_493 : BitVec 32 := 1#32
  let v970 : BitVec 32 := Scalar.select v969 c1_i32_493 c4_i32_491
  let v971 : BitVec 32 := Scalar.remsi v968 v970
  let c0_i32_495 : BitVec 32 := 0#32
  let v973 : BitVec 1 := Scalar.cmpi .slt v971 c0_i32_495
  let c0_i32_496 : BitVec 32 := 0#32
  let v974 : BitVec 1 := Scalar.cmpi .slt v970 c0_i32_496
  let v975 : BitVec 1 := Scalar.xori v973 v974
  let c0_i32_494 : BitVec 32 := 0#32
  let v972 : BitVec 1 := Scalar.cmpi .ne v971 c0_i32_494
  let v976 : BitVec 1 := Scalar.andi v975 v972
  let v977 : BitVec 32 := Scalar.addi v971 v970
  let v978 : BitVec 32 := Scalar.select v976 v977 v971
  let c8_i32_497 : BitVec 32 := 8#32
  let v979 : BitVec 32 := Scalar.muli v978 c8_i32_497
  let c2_i32_498 : BitVec 32 := 2#32
  let v980 : BitVec 32 := Scalar.addi v979 c2_i32_498
  ![v980.toNat]
def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_490 : BitVec 32 := 2#32
  let v968 : BitVec 32 := Scalar.subi v19 c2_i32_490
  let c4_i32_491 : BitVec 32 := 4#32
  let c0_i32_492 : BitVec 32 := 0#32
  let v969 : BitVec 1 := Scalar.cmpi .eq c4_i32_491 c0_i32_492
  let c1_i32_493 : BitVec 32 := 1#32
  let v970 : BitVec 32 := Scalar.select v969 c1_i32_493 c4_i32_491
  let v971 : BitVec 32 := Scalar.remsi v968 v970
  let c0_i32_495 : BitVec 32 := 0#32
  let v973 : BitVec 1 := Scalar.cmpi .slt v971 c0_i32_495
  let c0_i32_496 : BitVec 32 := 0#32
  let v974 : BitVec 1 := Scalar.cmpi .slt v970 c0_i32_496
  let v975 : BitVec 1 := Scalar.xori v973 v974
  let c0_i32_494 : BitVec 32 := 0#32
  let v972 : BitVec 1 := Scalar.cmpi .ne v971 c0_i32_494
  let v976 : BitVec 1 := Scalar.andi v975 v972
  let v977 : BitVec 32 := Scalar.addi v971 v970
  let v978 : BitVec 32 := Scalar.select v976 v977 v971
  let c8_i32_497 : BitVec 32 := 8#32
  let v979 : BitVec 32 := Scalar.muli v978 c8_i32_497
  let c2_i32_498 : BitVec 32 := 2#32
  let v980 : BitVec 32 := Scalar.addi v979 c2_i32_498
  let c0_i32_870 : BitVec 32 := 0#32
  let c0_i32_871 : BitVec 32 := 0#32
  ![v980.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_503 : BitVec 32 := 2#32
  let v992 : BitVec 32 := Scalar.subi v19 c2_i32_503
  let c4_i32_504 : BitVec 32 := 4#32
  let c0_i32_505 : BitVec 32 := 0#32
  let v993 : BitVec 1 := Scalar.cmpi .eq c4_i32_504 c0_i32_505
  let c1_i32_506 : BitVec 32 := 1#32
  let v994 : BitVec 32 := Scalar.select v993 c1_i32_506 c4_i32_504
  let v995 : BitVec 32 := Scalar.remsi v992 v994
  let c0_i32_508 : BitVec 32 := 0#32
  let v997 : BitVec 1 := Scalar.cmpi .slt v995 c0_i32_508
  let c0_i32_509 : BitVec 32 := 0#32
  let v998 : BitVec 1 := Scalar.cmpi .slt v994 c0_i32_509
  let v999 : BitVec 1 := Scalar.xori v997 v998
  let c0_i32_507 : BitVec 32 := 0#32
  let v996 : BitVec 1 := Scalar.cmpi .ne v995 c0_i32_507
  let v1000 : BitVec 1 := Scalar.andi v999 v996
  let v1001 : BitVec 32 := Scalar.addi v995 v994
  let v1002 : BitVec 32 := Scalar.select v1000 v1001 v995
  let c8_i32_510 : BitVec 32 := 8#32
  let v1003 : BitVec 32 := Scalar.muli v1002 c8_i32_510
  let c3_i32_511 : BitVec 32 := 3#32
  let v1004 : BitVec 32 := Scalar.addi v1003 c3_i32_511
  let v1005 : BitVec 1 := Scalar.cmpi .ne v1004 v2
  let v1006 : BitVec 32 := Scalar.extui v1005
  let c0_i32_512 : BitVec 32 := 0#32
  let v1007 : BitVec 1 := Scalar.cmpi .ne v1006 c0_i32_512
  v1007

def k0_off171 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_503 : BitVec 32 := 2#32
  let v992 : BitVec 32 := Scalar.subi v19 c2_i32_503
  let c4_i32_504 : BitVec 32 := 4#32
  let c0_i32_505 : BitVec 32 := 0#32
  let v993 : BitVec 1 := Scalar.cmpi .eq c4_i32_504 c0_i32_505
  let c1_i32_506 : BitVec 32 := 1#32
  let v994 : BitVec 32 := Scalar.select v993 c1_i32_506 c4_i32_504
  let v995 : BitVec 32 := Scalar.remsi v992 v994
  let c0_i32_508 : BitVec 32 := 0#32
  let v997 : BitVec 1 := Scalar.cmpi .slt v995 c0_i32_508
  let c0_i32_509 : BitVec 32 := 0#32
  let v998 : BitVec 1 := Scalar.cmpi .slt v994 c0_i32_509
  let v999 : BitVec 1 := Scalar.xori v997 v998
  let c0_i32_507 : BitVec 32 := 0#32
  let v996 : BitVec 1 := Scalar.cmpi .ne v995 c0_i32_507
  let v1000 : BitVec 1 := Scalar.andi v999 v996
  let v1001 : BitVec 32 := Scalar.addi v995 v994
  let v1002 : BitVec 32 := Scalar.select v1000 v1001 v995
  let c8_i32_510 : BitVec 32 := 8#32
  let v1003 : BitVec 32 := Scalar.muli v1002 c8_i32_510
  let c3_i32_511 : BitVec 32 := 3#32
  let v1004 : BitVec 32 := Scalar.addi v1003 c3_i32_511
  ![v1004.toNat]
def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_503 : BitVec 32 := 2#32
  let v992 : BitVec 32 := Scalar.subi v19 c2_i32_503
  let c4_i32_504 : BitVec 32 := 4#32
  let c0_i32_505 : BitVec 32 := 0#32
  let v993 : BitVec 1 := Scalar.cmpi .eq c4_i32_504 c0_i32_505
  let c1_i32_506 : BitVec 32 := 1#32
  let v994 : BitVec 32 := Scalar.select v993 c1_i32_506 c4_i32_504
  let v995 : BitVec 32 := Scalar.remsi v992 v994
  let c0_i32_508 : BitVec 32 := 0#32
  let v997 : BitVec 1 := Scalar.cmpi .slt v995 c0_i32_508
  let c0_i32_509 : BitVec 32 := 0#32
  let v998 : BitVec 1 := Scalar.cmpi .slt v994 c0_i32_509
  let v999 : BitVec 1 := Scalar.xori v997 v998
  let c0_i32_507 : BitVec 32 := 0#32
  let v996 : BitVec 1 := Scalar.cmpi .ne v995 c0_i32_507
  let v1000 : BitVec 1 := Scalar.andi v999 v996
  let v1001 : BitVec 32 := Scalar.addi v995 v994
  let v1002 : BitVec 32 := Scalar.select v1000 v1001 v995
  let c8_i32_510 : BitVec 32 := 8#32
  let v1003 : BitVec 32 := Scalar.muli v1002 c8_i32_510
  let c3_i32_511 : BitVec 32 := 3#32
  let v1004 : BitVec 32 := Scalar.addi v1003 c3_i32_511
  let c0_i32_870 : BitVec 32 := 0#32
  let c0_i32_871 : BitVec 32 := 0#32
  ![v1004.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_516 : BitVec 32 := 2#32
  let v1016 : BitVec 32 := Scalar.subi v19 c2_i32_516
  let c4_i32_517 : BitVec 32 := 4#32
  let c0_i32_518 : BitVec 32 := 0#32
  let v1017 : BitVec 1 := Scalar.cmpi .eq c4_i32_517 c0_i32_518
  let c1_i32_519 : BitVec 32 := 1#32
  let v1018 : BitVec 32 := Scalar.select v1017 c1_i32_519 c4_i32_517
  let v1019 : BitVec 32 := Scalar.remsi v1016 v1018
  let c0_i32_521 : BitVec 32 := 0#32
  let v1021 : BitVec 1 := Scalar.cmpi .slt v1019 c0_i32_521
  let c0_i32_522 : BitVec 32 := 0#32
  let v1022 : BitVec 1 := Scalar.cmpi .slt v1018 c0_i32_522
  let v1023 : BitVec 1 := Scalar.xori v1021 v1022
  let c0_i32_520 : BitVec 32 := 0#32
  let v1020 : BitVec 1 := Scalar.cmpi .ne v1019 c0_i32_520
  let v1024 : BitVec 1 := Scalar.andi v1023 v1020
  let v1025 : BitVec 32 := Scalar.addi v1019 v1018
  let v1026 : BitVec 32 := Scalar.select v1024 v1025 v1019
  let c8_i32_523 : BitVec 32 := 8#32
  let v1027 : BitVec 32 := Scalar.muli v1026 c8_i32_523
  let c4_i32_524 : BitVec 32 := 4#32
  let v1028 : BitVec 32 := Scalar.addi v1027 c4_i32_524
  let v1029 : BitVec 1 := Scalar.cmpi .ne v1028 v2
  let v1030 : BitVec 32 := Scalar.extui v1029
  let c0_i32_525 : BitVec 32 := 0#32
  let v1031 : BitVec 1 := Scalar.cmpi .ne v1030 c0_i32_525
  v1031

def k0_off173 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_516 : BitVec 32 := 2#32
  let v1016 : BitVec 32 := Scalar.subi v19 c2_i32_516
  let c4_i32_517 : BitVec 32 := 4#32
  let c0_i32_518 : BitVec 32 := 0#32
  let v1017 : BitVec 1 := Scalar.cmpi .eq c4_i32_517 c0_i32_518
  let c1_i32_519 : BitVec 32 := 1#32
  let v1018 : BitVec 32 := Scalar.select v1017 c1_i32_519 c4_i32_517
  let v1019 : BitVec 32 := Scalar.remsi v1016 v1018
  let c0_i32_521 : BitVec 32 := 0#32
  let v1021 : BitVec 1 := Scalar.cmpi .slt v1019 c0_i32_521
  let c0_i32_522 : BitVec 32 := 0#32
  let v1022 : BitVec 1 := Scalar.cmpi .slt v1018 c0_i32_522
  let v1023 : BitVec 1 := Scalar.xori v1021 v1022
  let c0_i32_520 : BitVec 32 := 0#32
  let v1020 : BitVec 1 := Scalar.cmpi .ne v1019 c0_i32_520
  let v1024 : BitVec 1 := Scalar.andi v1023 v1020
  let v1025 : BitVec 32 := Scalar.addi v1019 v1018
  let v1026 : BitVec 32 := Scalar.select v1024 v1025 v1019
  let c8_i32_523 : BitVec 32 := 8#32
  let v1027 : BitVec 32 := Scalar.muli v1026 c8_i32_523
  let c4_i32_524 : BitVec 32 := 4#32
  let v1028 : BitVec 32 := Scalar.addi v1027 c4_i32_524
  ![v1028.toNat]
def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_516 : BitVec 32 := 2#32
  let v1016 : BitVec 32 := Scalar.subi v19 c2_i32_516
  let c4_i32_517 : BitVec 32 := 4#32
  let c0_i32_518 : BitVec 32 := 0#32
  let v1017 : BitVec 1 := Scalar.cmpi .eq c4_i32_517 c0_i32_518
  let c1_i32_519 : BitVec 32 := 1#32
  let v1018 : BitVec 32 := Scalar.select v1017 c1_i32_519 c4_i32_517
  let v1019 : BitVec 32 := Scalar.remsi v1016 v1018
  let c0_i32_521 : BitVec 32 := 0#32
  let v1021 : BitVec 1 := Scalar.cmpi .slt v1019 c0_i32_521
  let c0_i32_522 : BitVec 32 := 0#32
  let v1022 : BitVec 1 := Scalar.cmpi .slt v1018 c0_i32_522
  let v1023 : BitVec 1 := Scalar.xori v1021 v1022
  let c0_i32_520 : BitVec 32 := 0#32
  let v1020 : BitVec 1 := Scalar.cmpi .ne v1019 c0_i32_520
  let v1024 : BitVec 1 := Scalar.andi v1023 v1020
  let v1025 : BitVec 32 := Scalar.addi v1019 v1018
  let v1026 : BitVec 32 := Scalar.select v1024 v1025 v1019
  let c8_i32_523 : BitVec 32 := 8#32
  let v1027 : BitVec 32 := Scalar.muli v1026 c8_i32_523
  let c4_i32_524 : BitVec 32 := 4#32
  let v1028 : BitVec 32 := Scalar.addi v1027 c4_i32_524
  let c0_i32_870 : BitVec 32 := 0#32
  let c0_i32_871 : BitVec 32 := 0#32
  ![v1028.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_529 : BitVec 32 := 2#32
  let v1040 : BitVec 32 := Scalar.subi v19 c2_i32_529
  let c4_i32_530 : BitVec 32 := 4#32
  let c0_i32_531 : BitVec 32 := 0#32
  let v1041 : BitVec 1 := Scalar.cmpi .eq c4_i32_530 c0_i32_531
  let c1_i32_532 : BitVec 32 := 1#32
  let v1042 : BitVec 32 := Scalar.select v1041 c1_i32_532 c4_i32_530
  let v1043 : BitVec 32 := Scalar.remsi v1040 v1042
  let c0_i32_534 : BitVec 32 := 0#32
  let v1045 : BitVec 1 := Scalar.cmpi .slt v1043 c0_i32_534
  let c0_i32_535 : BitVec 32 := 0#32
  let v1046 : BitVec 1 := Scalar.cmpi .slt v1042 c0_i32_535
  let v1047 : BitVec 1 := Scalar.xori v1045 v1046
  let c0_i32_533 : BitVec 32 := 0#32
  let v1044 : BitVec 1 := Scalar.cmpi .ne v1043 c0_i32_533
  let v1048 : BitVec 1 := Scalar.andi v1047 v1044
  let v1049 : BitVec 32 := Scalar.addi v1043 v1042
  let v1050 : BitVec 32 := Scalar.select v1048 v1049 v1043
  let c8_i32_536 : BitVec 32 := 8#32
  let v1051 : BitVec 32 := Scalar.muli v1050 c8_i32_536
  let c5_i32_537 : BitVec 32 := 5#32
  let v1052 : BitVec 32 := Scalar.addi v1051 c5_i32_537
  let v1053 : BitVec 1 := Scalar.cmpi .ne v1052 v2
  let v1054 : BitVec 32 := Scalar.extui v1053
  let c0_i32_538 : BitVec 32 := 0#32
  let v1055 : BitVec 1 := Scalar.cmpi .ne v1054 c0_i32_538
  v1055

def k0_off175 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_529 : BitVec 32 := 2#32
  let v1040 : BitVec 32 := Scalar.subi v19 c2_i32_529
  let c4_i32_530 : BitVec 32 := 4#32
  let c0_i32_531 : BitVec 32 := 0#32
  let v1041 : BitVec 1 := Scalar.cmpi .eq c4_i32_530 c0_i32_531
  let c1_i32_532 : BitVec 32 := 1#32
  let v1042 : BitVec 32 := Scalar.select v1041 c1_i32_532 c4_i32_530
  let v1043 : BitVec 32 := Scalar.remsi v1040 v1042
  let c0_i32_534 : BitVec 32 := 0#32
  let v1045 : BitVec 1 := Scalar.cmpi .slt v1043 c0_i32_534
  let c0_i32_535 : BitVec 32 := 0#32
  let v1046 : BitVec 1 := Scalar.cmpi .slt v1042 c0_i32_535
  let v1047 : BitVec 1 := Scalar.xori v1045 v1046
  let c0_i32_533 : BitVec 32 := 0#32
  let v1044 : BitVec 1 := Scalar.cmpi .ne v1043 c0_i32_533
  let v1048 : BitVec 1 := Scalar.andi v1047 v1044
  let v1049 : BitVec 32 := Scalar.addi v1043 v1042
  let v1050 : BitVec 32 := Scalar.select v1048 v1049 v1043
  let c8_i32_536 : BitVec 32 := 8#32
  let v1051 : BitVec 32 := Scalar.muli v1050 c8_i32_536
  let c5_i32_537 : BitVec 32 := 5#32
  let v1052 : BitVec 32 := Scalar.addi v1051 c5_i32_537
  ![v1052.toNat]
def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_529 : BitVec 32 := 2#32
  let v1040 : BitVec 32 := Scalar.subi v19 c2_i32_529
  let c4_i32_530 : BitVec 32 := 4#32
  let c0_i32_531 : BitVec 32 := 0#32
  let v1041 : BitVec 1 := Scalar.cmpi .eq c4_i32_530 c0_i32_531
  let c1_i32_532 : BitVec 32 := 1#32
  let v1042 : BitVec 32 := Scalar.select v1041 c1_i32_532 c4_i32_530
  let v1043 : BitVec 32 := Scalar.remsi v1040 v1042
  let c0_i32_534 : BitVec 32 := 0#32
  let v1045 : BitVec 1 := Scalar.cmpi .slt v1043 c0_i32_534
  let c0_i32_535 : BitVec 32 := 0#32
  let v1046 : BitVec 1 := Scalar.cmpi .slt v1042 c0_i32_535
  let v1047 : BitVec 1 := Scalar.xori v1045 v1046
  let c0_i32_533 : BitVec 32 := 0#32
  let v1044 : BitVec 1 := Scalar.cmpi .ne v1043 c0_i32_533
  let v1048 : BitVec 1 := Scalar.andi v1047 v1044
  let v1049 : BitVec 32 := Scalar.addi v1043 v1042
  let v1050 : BitVec 32 := Scalar.select v1048 v1049 v1043
  let c8_i32_536 : BitVec 32 := 8#32
  let v1051 : BitVec 32 := Scalar.muli v1050 c8_i32_536
  let c5_i32_537 : BitVec 32 := 5#32
  let v1052 : BitVec 32 := Scalar.addi v1051 c5_i32_537
  let c0_i32_870 : BitVec 32 := 0#32
  let c0_i32_871 : BitVec 32 := 0#32
  ![v1052.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_542 : BitVec 32 := 2#32
  let v1064 : BitVec 32 := Scalar.subi v19 c2_i32_542
  let c4_i32_543 : BitVec 32 := 4#32
  let c0_i32_544 : BitVec 32 := 0#32
  let v1065 : BitVec 1 := Scalar.cmpi .eq c4_i32_543 c0_i32_544
  let c1_i32_545 : BitVec 32 := 1#32
  let v1066 : BitVec 32 := Scalar.select v1065 c1_i32_545 c4_i32_543
  let v1067 : BitVec 32 := Scalar.remsi v1064 v1066
  let c0_i32_547 : BitVec 32 := 0#32
  let v1069 : BitVec 1 := Scalar.cmpi .slt v1067 c0_i32_547
  let c0_i32_548 : BitVec 32 := 0#32
  let v1070 : BitVec 1 := Scalar.cmpi .slt v1066 c0_i32_548
  let v1071 : BitVec 1 := Scalar.xori v1069 v1070
  let c0_i32_546 : BitVec 32 := 0#32
  let v1068 : BitVec 1 := Scalar.cmpi .ne v1067 c0_i32_546
  let v1072 : BitVec 1 := Scalar.andi v1071 v1068
  let v1073 : BitVec 32 := Scalar.addi v1067 v1066
  let v1074 : BitVec 32 := Scalar.select v1072 v1073 v1067
  let c8_i32_549 : BitVec 32 := 8#32
  let v1075 : BitVec 32 := Scalar.muli v1074 c8_i32_549
  let c6_i32_550 : BitVec 32 := 6#32
  let v1076 : BitVec 32 := Scalar.addi v1075 c6_i32_550
  let v1077 : BitVec 1 := Scalar.cmpi .ne v1076 v2
  let v1078 : BitVec 32 := Scalar.extui v1077
  let c0_i32_551 : BitVec 32 := 0#32
  let v1079 : BitVec 1 := Scalar.cmpi .ne v1078 c0_i32_551
  v1079

def k0_off177 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_542 : BitVec 32 := 2#32
  let v1064 : BitVec 32 := Scalar.subi v19 c2_i32_542
  let c4_i32_543 : BitVec 32 := 4#32
  let c0_i32_544 : BitVec 32 := 0#32
  let v1065 : BitVec 1 := Scalar.cmpi .eq c4_i32_543 c0_i32_544
  let c1_i32_545 : BitVec 32 := 1#32
  let v1066 : BitVec 32 := Scalar.select v1065 c1_i32_545 c4_i32_543
  let v1067 : BitVec 32 := Scalar.remsi v1064 v1066
  let c0_i32_547 : BitVec 32 := 0#32
  let v1069 : BitVec 1 := Scalar.cmpi .slt v1067 c0_i32_547
  let c0_i32_548 : BitVec 32 := 0#32
  let v1070 : BitVec 1 := Scalar.cmpi .slt v1066 c0_i32_548
  let v1071 : BitVec 1 := Scalar.xori v1069 v1070
  let c0_i32_546 : BitVec 32 := 0#32
  let v1068 : BitVec 1 := Scalar.cmpi .ne v1067 c0_i32_546
  let v1072 : BitVec 1 := Scalar.andi v1071 v1068
  let v1073 : BitVec 32 := Scalar.addi v1067 v1066
  let v1074 : BitVec 32 := Scalar.select v1072 v1073 v1067
  let c8_i32_549 : BitVec 32 := 8#32
  let v1075 : BitVec 32 := Scalar.muli v1074 c8_i32_549
  let c6_i32_550 : BitVec 32 := 6#32
  let v1076 : BitVec 32 := Scalar.addi v1075 c6_i32_550
  ![v1076.toNat]
def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_542 : BitVec 32 := 2#32
  let v1064 : BitVec 32 := Scalar.subi v19 c2_i32_542
  let c4_i32_543 : BitVec 32 := 4#32
  let c0_i32_544 : BitVec 32 := 0#32
  let v1065 : BitVec 1 := Scalar.cmpi .eq c4_i32_543 c0_i32_544
  let c1_i32_545 : BitVec 32 := 1#32
  let v1066 : BitVec 32 := Scalar.select v1065 c1_i32_545 c4_i32_543
  let v1067 : BitVec 32 := Scalar.remsi v1064 v1066
  let c0_i32_547 : BitVec 32 := 0#32
  let v1069 : BitVec 1 := Scalar.cmpi .slt v1067 c0_i32_547
  let c0_i32_548 : BitVec 32 := 0#32
  let v1070 : BitVec 1 := Scalar.cmpi .slt v1066 c0_i32_548
  let v1071 : BitVec 1 := Scalar.xori v1069 v1070
  let c0_i32_546 : BitVec 32 := 0#32
  let v1068 : BitVec 1 := Scalar.cmpi .ne v1067 c0_i32_546
  let v1072 : BitVec 1 := Scalar.andi v1071 v1068
  let v1073 : BitVec 32 := Scalar.addi v1067 v1066
  let v1074 : BitVec 32 := Scalar.select v1072 v1073 v1067
  let c8_i32_549 : BitVec 32 := 8#32
  let v1075 : BitVec 32 := Scalar.muli v1074 c8_i32_549
  let c6_i32_550 : BitVec 32 := 6#32
  let v1076 : BitVec 32 := Scalar.addi v1075 c6_i32_550
  let c0_i32_870 : BitVec 32 := 0#32
  let c0_i32_871 : BitVec 32 := 0#32
  ![v1076.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_555 : BitVec 32 := 2#32
  let v1088 : BitVec 32 := Scalar.subi v19 c2_i32_555
  let c4_i32_556 : BitVec 32 := 4#32
  let c0_i32_557 : BitVec 32 := 0#32
  let v1089 : BitVec 1 := Scalar.cmpi .eq c4_i32_556 c0_i32_557
  let c1_i32_558 : BitVec 32 := 1#32
  let v1090 : BitVec 32 := Scalar.select v1089 c1_i32_558 c4_i32_556
  let v1091 : BitVec 32 := Scalar.remsi v1088 v1090
  let c0_i32_560 : BitVec 32 := 0#32
  let v1093 : BitVec 1 := Scalar.cmpi .slt v1091 c0_i32_560
  let c0_i32_561 : BitVec 32 := 0#32
  let v1094 : BitVec 1 := Scalar.cmpi .slt v1090 c0_i32_561
  let v1095 : BitVec 1 := Scalar.xori v1093 v1094
  let c0_i32_559 : BitVec 32 := 0#32
  let v1092 : BitVec 1 := Scalar.cmpi .ne v1091 c0_i32_559
  let v1096 : BitVec 1 := Scalar.andi v1095 v1092
  let v1097 : BitVec 32 := Scalar.addi v1091 v1090
  let v1098 : BitVec 32 := Scalar.select v1096 v1097 v1091
  let c8_i32_562 : BitVec 32 := 8#32
  let v1099 : BitVec 32 := Scalar.muli v1098 c8_i32_562
  let c7_i32_563 : BitVec 32 := 7#32
  let v1100 : BitVec 32 := Scalar.addi v1099 c7_i32_563
  let v1101 : BitVec 1 := Scalar.cmpi .ne v1100 v2
  let v1102 : BitVec 32 := Scalar.extui v1101
  let c0_i32_564 : BitVec 32 := 0#32
  let v1103 : BitVec 1 := Scalar.cmpi .ne v1102 c0_i32_564
  v1103

def k0_off179 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_555 : BitVec 32 := 2#32
  let v1088 : BitVec 32 := Scalar.subi v19 c2_i32_555
  let c4_i32_556 : BitVec 32 := 4#32
  let c0_i32_557 : BitVec 32 := 0#32
  let v1089 : BitVec 1 := Scalar.cmpi .eq c4_i32_556 c0_i32_557
  let c1_i32_558 : BitVec 32 := 1#32
  let v1090 : BitVec 32 := Scalar.select v1089 c1_i32_558 c4_i32_556
  let v1091 : BitVec 32 := Scalar.remsi v1088 v1090
  let c0_i32_560 : BitVec 32 := 0#32
  let v1093 : BitVec 1 := Scalar.cmpi .slt v1091 c0_i32_560
  let c0_i32_561 : BitVec 32 := 0#32
  let v1094 : BitVec 1 := Scalar.cmpi .slt v1090 c0_i32_561
  let v1095 : BitVec 1 := Scalar.xori v1093 v1094
  let c0_i32_559 : BitVec 32 := 0#32
  let v1092 : BitVec 1 := Scalar.cmpi .ne v1091 c0_i32_559
  let v1096 : BitVec 1 := Scalar.andi v1095 v1092
  let v1097 : BitVec 32 := Scalar.addi v1091 v1090
  let v1098 : BitVec 32 := Scalar.select v1096 v1097 v1091
  let c8_i32_562 : BitVec 32 := 8#32
  let v1099 : BitVec 32 := Scalar.muli v1098 c8_i32_562
  let c7_i32_563 : BitVec 32 := 7#32
  let v1100 : BitVec 32 := Scalar.addi v1099 c7_i32_563
  ![v1100.toNat]
def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_555 : BitVec 32 := 2#32
  let v1088 : BitVec 32 := Scalar.subi v19 c2_i32_555
  let c4_i32_556 : BitVec 32 := 4#32
  let c0_i32_557 : BitVec 32 := 0#32
  let v1089 : BitVec 1 := Scalar.cmpi .eq c4_i32_556 c0_i32_557
  let c1_i32_558 : BitVec 32 := 1#32
  let v1090 : BitVec 32 := Scalar.select v1089 c1_i32_558 c4_i32_556
  let v1091 : BitVec 32 := Scalar.remsi v1088 v1090
  let c0_i32_560 : BitVec 32 := 0#32
  let v1093 : BitVec 1 := Scalar.cmpi .slt v1091 c0_i32_560
  let c0_i32_561 : BitVec 32 := 0#32
  let v1094 : BitVec 1 := Scalar.cmpi .slt v1090 c0_i32_561
  let v1095 : BitVec 1 := Scalar.xori v1093 v1094
  let c0_i32_559 : BitVec 32 := 0#32
  let v1092 : BitVec 1 := Scalar.cmpi .ne v1091 c0_i32_559
  let v1096 : BitVec 1 := Scalar.andi v1095 v1092
  let v1097 : BitVec 32 := Scalar.addi v1091 v1090
  let v1098 : BitVec 32 := Scalar.select v1096 v1097 v1091
  let c8_i32_562 : BitVec 32 := 8#32
  let v1099 : BitVec 32 := Scalar.muli v1098 c8_i32_562
  let c7_i32_563 : BitVec 32 := 7#32
  let v1100 : BitVec 32 := Scalar.addi v1099 c7_i32_563
  let c0_i32_870 : BitVec 32 := 0#32
  let c0_i32_871 : BitVec 32 := 0#32
  ![v1100.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_568 : BitVec 32 := 3#32
  let v1112 : BitVec 32 := Scalar.subi v19 c3_i32_568
  let c4_i32_569 : BitVec 32 := 4#32
  let c0_i32_570 : BitVec 32 := 0#32
  let v1113 : BitVec 1 := Scalar.cmpi .eq c4_i32_569 c0_i32_570
  let c1_i32_571 : BitVec 32 := 1#32
  let v1114 : BitVec 32 := Scalar.select v1113 c1_i32_571 c4_i32_569
  let v1115 : BitVec 32 := Scalar.remsi v1112 v1114
  let c0_i32_573 : BitVec 32 := 0#32
  let v1117 : BitVec 1 := Scalar.cmpi .slt v1115 c0_i32_573
  let c0_i32_574 : BitVec 32 := 0#32
  let v1118 : BitVec 1 := Scalar.cmpi .slt v1114 c0_i32_574
  let v1119 : BitVec 1 := Scalar.xori v1117 v1118
  let c0_i32_572 : BitVec 32 := 0#32
  let v1116 : BitVec 1 := Scalar.cmpi .ne v1115 c0_i32_572
  let v1120 : BitVec 1 := Scalar.andi v1119 v1116
  let v1121 : BitVec 32 := Scalar.addi v1115 v1114
  let v1122 : BitVec 32 := Scalar.select v1120 v1121 v1115
  let c8_i32_575 : BitVec 32 := 8#32
  let v1123 : BitVec 32 := Scalar.muli v1122 c8_i32_575
  let c0_i32_576 : BitVec 32 := 0#32
  let v1124 : BitVec 32 := Scalar.addi v1123 c0_i32_576
  let v1125 : BitVec 1 := Scalar.cmpi .ne v1124 v2
  let v1126 : BitVec 32 := Scalar.extui v1125
  let c0_i32_577 : BitVec 32 := 0#32
  let v1127 : BitVec 1 := Scalar.cmpi .ne v1126 c0_i32_577
  v1127

def k0_off181 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_568 : BitVec 32 := 3#32
  let v1112 : BitVec 32 := Scalar.subi v19 c3_i32_568
  let c4_i32_569 : BitVec 32 := 4#32
  let c0_i32_570 : BitVec 32 := 0#32
  let v1113 : BitVec 1 := Scalar.cmpi .eq c4_i32_569 c0_i32_570
  let c1_i32_571 : BitVec 32 := 1#32
  let v1114 : BitVec 32 := Scalar.select v1113 c1_i32_571 c4_i32_569
  let v1115 : BitVec 32 := Scalar.remsi v1112 v1114
  let c0_i32_573 : BitVec 32 := 0#32
  let v1117 : BitVec 1 := Scalar.cmpi .slt v1115 c0_i32_573
  let c0_i32_574 : BitVec 32 := 0#32
  let v1118 : BitVec 1 := Scalar.cmpi .slt v1114 c0_i32_574
  let v1119 : BitVec 1 := Scalar.xori v1117 v1118
  let c0_i32_572 : BitVec 32 := 0#32
  let v1116 : BitVec 1 := Scalar.cmpi .ne v1115 c0_i32_572
  let v1120 : BitVec 1 := Scalar.andi v1119 v1116
  let v1121 : BitVec 32 := Scalar.addi v1115 v1114
  let v1122 : BitVec 32 := Scalar.select v1120 v1121 v1115
  let c8_i32_575 : BitVec 32 := 8#32
  let v1123 : BitVec 32 := Scalar.muli v1122 c8_i32_575
  let c0_i32_576 : BitVec 32 := 0#32
  let v1124 : BitVec 32 := Scalar.addi v1123 c0_i32_576
  ![v1124.toNat]
def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_568 : BitVec 32 := 3#32
  let v1112 : BitVec 32 := Scalar.subi v19 c3_i32_568
  let c4_i32_569 : BitVec 32 := 4#32
  let c0_i32_570 : BitVec 32 := 0#32
  let v1113 : BitVec 1 := Scalar.cmpi .eq c4_i32_569 c0_i32_570
  let c1_i32_571 : BitVec 32 := 1#32
  let v1114 : BitVec 32 := Scalar.select v1113 c1_i32_571 c4_i32_569
  let v1115 : BitVec 32 := Scalar.remsi v1112 v1114
  let c0_i32_573 : BitVec 32 := 0#32
  let v1117 : BitVec 1 := Scalar.cmpi .slt v1115 c0_i32_573
  let c0_i32_574 : BitVec 32 := 0#32
  let v1118 : BitVec 1 := Scalar.cmpi .slt v1114 c0_i32_574
  let v1119 : BitVec 1 := Scalar.xori v1117 v1118
  let c0_i32_572 : BitVec 32 := 0#32
  let v1116 : BitVec 1 := Scalar.cmpi .ne v1115 c0_i32_572
  let v1120 : BitVec 1 := Scalar.andi v1119 v1116
  let v1121 : BitVec 32 := Scalar.addi v1115 v1114
  let v1122 : BitVec 32 := Scalar.select v1120 v1121 v1115
  let c8_i32_575 : BitVec 32 := 8#32
  let v1123 : BitVec 32 := Scalar.muli v1122 c8_i32_575
  let c0_i32_576 : BitVec 32 := 0#32
  let v1124 : BitVec 32 := Scalar.addi v1123 c0_i32_576
  let c0_i32_870 : BitVec 32 := 0#32
  let c0_i32_871 : BitVec 32 := 0#32
  ![v1124.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_581 : BitVec 32 := 3#32
  let v1136 : BitVec 32 := Scalar.subi v19 c3_i32_581
  let c4_i32_582 : BitVec 32 := 4#32
  let c0_i32_583 : BitVec 32 := 0#32
  let v1137 : BitVec 1 := Scalar.cmpi .eq c4_i32_582 c0_i32_583
  let c1_i32_584 : BitVec 32 := 1#32
  let v1138 : BitVec 32 := Scalar.select v1137 c1_i32_584 c4_i32_582
  let v1139 : BitVec 32 := Scalar.remsi v1136 v1138
  let c0_i32_586 : BitVec 32 := 0#32
  let v1141 : BitVec 1 := Scalar.cmpi .slt v1139 c0_i32_586
  let c0_i32_587 : BitVec 32 := 0#32
  let v1142 : BitVec 1 := Scalar.cmpi .slt v1138 c0_i32_587
  let v1143 : BitVec 1 := Scalar.xori v1141 v1142
  let c0_i32_585 : BitVec 32 := 0#32
  let v1140 : BitVec 1 := Scalar.cmpi .ne v1139 c0_i32_585
  let v1144 : BitVec 1 := Scalar.andi v1143 v1140
  let v1145 : BitVec 32 := Scalar.addi v1139 v1138
  let v1146 : BitVec 32 := Scalar.select v1144 v1145 v1139
  let c8_i32_588 : BitVec 32 := 8#32
  let v1147 : BitVec 32 := Scalar.muli v1146 c8_i32_588
  let c1_i32_589 : BitVec 32 := 1#32
  let v1148 : BitVec 32 := Scalar.addi v1147 c1_i32_589
  let v1149 : BitVec 1 := Scalar.cmpi .ne v1148 v2
  let v1150 : BitVec 32 := Scalar.extui v1149
  let c0_i32_590 : BitVec 32 := 0#32
  let v1151 : BitVec 1 := Scalar.cmpi .ne v1150 c0_i32_590
  v1151

def k0_off183 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_581 : BitVec 32 := 3#32
  let v1136 : BitVec 32 := Scalar.subi v19 c3_i32_581
  let c4_i32_582 : BitVec 32 := 4#32
  let c0_i32_583 : BitVec 32 := 0#32
  let v1137 : BitVec 1 := Scalar.cmpi .eq c4_i32_582 c0_i32_583
  let c1_i32_584 : BitVec 32 := 1#32
  let v1138 : BitVec 32 := Scalar.select v1137 c1_i32_584 c4_i32_582
  let v1139 : BitVec 32 := Scalar.remsi v1136 v1138
  let c0_i32_586 : BitVec 32 := 0#32
  let v1141 : BitVec 1 := Scalar.cmpi .slt v1139 c0_i32_586
  let c0_i32_587 : BitVec 32 := 0#32
  let v1142 : BitVec 1 := Scalar.cmpi .slt v1138 c0_i32_587
  let v1143 : BitVec 1 := Scalar.xori v1141 v1142
  let c0_i32_585 : BitVec 32 := 0#32
  let v1140 : BitVec 1 := Scalar.cmpi .ne v1139 c0_i32_585
  let v1144 : BitVec 1 := Scalar.andi v1143 v1140
  let v1145 : BitVec 32 := Scalar.addi v1139 v1138
  let v1146 : BitVec 32 := Scalar.select v1144 v1145 v1139
  let c8_i32_588 : BitVec 32 := 8#32
  let v1147 : BitVec 32 := Scalar.muli v1146 c8_i32_588
  let c1_i32_589 : BitVec 32 := 1#32
  let v1148 : BitVec 32 := Scalar.addi v1147 c1_i32_589
  ![v1148.toNat]
def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_581 : BitVec 32 := 3#32
  let v1136 : BitVec 32 := Scalar.subi v19 c3_i32_581
  let c4_i32_582 : BitVec 32 := 4#32
  let c0_i32_583 : BitVec 32 := 0#32
  let v1137 : BitVec 1 := Scalar.cmpi .eq c4_i32_582 c0_i32_583
  let c1_i32_584 : BitVec 32 := 1#32
  let v1138 : BitVec 32 := Scalar.select v1137 c1_i32_584 c4_i32_582
  let v1139 : BitVec 32 := Scalar.remsi v1136 v1138
  let c0_i32_586 : BitVec 32 := 0#32
  let v1141 : BitVec 1 := Scalar.cmpi .slt v1139 c0_i32_586
  let c0_i32_587 : BitVec 32 := 0#32
  let v1142 : BitVec 1 := Scalar.cmpi .slt v1138 c0_i32_587
  let v1143 : BitVec 1 := Scalar.xori v1141 v1142
  let c0_i32_585 : BitVec 32 := 0#32
  let v1140 : BitVec 1 := Scalar.cmpi .ne v1139 c0_i32_585
  let v1144 : BitVec 1 := Scalar.andi v1143 v1140
  let v1145 : BitVec 32 := Scalar.addi v1139 v1138
  let v1146 : BitVec 32 := Scalar.select v1144 v1145 v1139
  let c8_i32_588 : BitVec 32 := 8#32
  let v1147 : BitVec 32 := Scalar.muli v1146 c8_i32_588
  let c1_i32_589 : BitVec 32 := 1#32
  let v1148 : BitVec 32 := Scalar.addi v1147 c1_i32_589
  let c0_i32_870 : BitVec 32 := 0#32
  let c0_i32_871 : BitVec 32 := 0#32
  ![v1148.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_594 : BitVec 32 := 3#32
  let v1160 : BitVec 32 := Scalar.subi v19 c3_i32_594
  let c4_i32_595 : BitVec 32 := 4#32
  let c0_i32_596 : BitVec 32 := 0#32
  let v1161 : BitVec 1 := Scalar.cmpi .eq c4_i32_595 c0_i32_596
  let c1_i32_597 : BitVec 32 := 1#32
  let v1162 : BitVec 32 := Scalar.select v1161 c1_i32_597 c4_i32_595
  let v1163 : BitVec 32 := Scalar.remsi v1160 v1162
  let c0_i32_599 : BitVec 32 := 0#32
  let v1165 : BitVec 1 := Scalar.cmpi .slt v1163 c0_i32_599
  let c0_i32_600 : BitVec 32 := 0#32
  let v1166 : BitVec 1 := Scalar.cmpi .slt v1162 c0_i32_600
  let v1167 : BitVec 1 := Scalar.xori v1165 v1166
  let c0_i32_598 : BitVec 32 := 0#32
  let v1164 : BitVec 1 := Scalar.cmpi .ne v1163 c0_i32_598
  let v1168 : BitVec 1 := Scalar.andi v1167 v1164
  let v1169 : BitVec 32 := Scalar.addi v1163 v1162
  let v1170 : BitVec 32 := Scalar.select v1168 v1169 v1163
  let c8_i32_601 : BitVec 32 := 8#32
  let v1171 : BitVec 32 := Scalar.muli v1170 c8_i32_601
  let c2_i32_602 : BitVec 32 := 2#32
  let v1172 : BitVec 32 := Scalar.addi v1171 c2_i32_602
  let v1173 : BitVec 1 := Scalar.cmpi .ne v1172 v2
  let v1174 : BitVec 32 := Scalar.extui v1173
  let c0_i32_603 : BitVec 32 := 0#32
  let v1175 : BitVec 1 := Scalar.cmpi .ne v1174 c0_i32_603
  v1175

def k0_off185 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_594 : BitVec 32 := 3#32
  let v1160 : BitVec 32 := Scalar.subi v19 c3_i32_594
  let c4_i32_595 : BitVec 32 := 4#32
  let c0_i32_596 : BitVec 32 := 0#32
  let v1161 : BitVec 1 := Scalar.cmpi .eq c4_i32_595 c0_i32_596
  let c1_i32_597 : BitVec 32 := 1#32
  let v1162 : BitVec 32 := Scalar.select v1161 c1_i32_597 c4_i32_595
  let v1163 : BitVec 32 := Scalar.remsi v1160 v1162
  let c0_i32_599 : BitVec 32 := 0#32
  let v1165 : BitVec 1 := Scalar.cmpi .slt v1163 c0_i32_599
  let c0_i32_600 : BitVec 32 := 0#32
  let v1166 : BitVec 1 := Scalar.cmpi .slt v1162 c0_i32_600
  let v1167 : BitVec 1 := Scalar.xori v1165 v1166
  let c0_i32_598 : BitVec 32 := 0#32
  let v1164 : BitVec 1 := Scalar.cmpi .ne v1163 c0_i32_598
  let v1168 : BitVec 1 := Scalar.andi v1167 v1164
  let v1169 : BitVec 32 := Scalar.addi v1163 v1162
  let v1170 : BitVec 32 := Scalar.select v1168 v1169 v1163
  let c8_i32_601 : BitVec 32 := 8#32
  let v1171 : BitVec 32 := Scalar.muli v1170 c8_i32_601
  let c2_i32_602 : BitVec 32 := 2#32
  let v1172 : BitVec 32 := Scalar.addi v1171 c2_i32_602
  ![v1172.toNat]
def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_594 : BitVec 32 := 3#32
  let v1160 : BitVec 32 := Scalar.subi v19 c3_i32_594
  let c4_i32_595 : BitVec 32 := 4#32
  let c0_i32_596 : BitVec 32 := 0#32
  let v1161 : BitVec 1 := Scalar.cmpi .eq c4_i32_595 c0_i32_596
  let c1_i32_597 : BitVec 32 := 1#32
  let v1162 : BitVec 32 := Scalar.select v1161 c1_i32_597 c4_i32_595
  let v1163 : BitVec 32 := Scalar.remsi v1160 v1162
  let c0_i32_599 : BitVec 32 := 0#32
  let v1165 : BitVec 1 := Scalar.cmpi .slt v1163 c0_i32_599
  let c0_i32_600 : BitVec 32 := 0#32
  let v1166 : BitVec 1 := Scalar.cmpi .slt v1162 c0_i32_600
  let v1167 : BitVec 1 := Scalar.xori v1165 v1166
  let c0_i32_598 : BitVec 32 := 0#32
  let v1164 : BitVec 1 := Scalar.cmpi .ne v1163 c0_i32_598
  let v1168 : BitVec 1 := Scalar.andi v1167 v1164
  let v1169 : BitVec 32 := Scalar.addi v1163 v1162
  let v1170 : BitVec 32 := Scalar.select v1168 v1169 v1163
  let c8_i32_601 : BitVec 32 := 8#32
  let v1171 : BitVec 32 := Scalar.muli v1170 c8_i32_601
  let c2_i32_602 : BitVec 32 := 2#32
  let v1172 : BitVec 32 := Scalar.addi v1171 c2_i32_602
  let c0_i32_870 : BitVec 32 := 0#32
  let c0_i32_871 : BitVec 32 := 0#32
  ![v1172.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_607 : BitVec 32 := 3#32
  let v1184 : BitVec 32 := Scalar.subi v19 c3_i32_607
  let c4_i32_608 : BitVec 32 := 4#32
  let c0_i32_609 : BitVec 32 := 0#32
  let v1185 : BitVec 1 := Scalar.cmpi .eq c4_i32_608 c0_i32_609
  let c1_i32_610 : BitVec 32 := 1#32
  let v1186 : BitVec 32 := Scalar.select v1185 c1_i32_610 c4_i32_608
  let v1187 : BitVec 32 := Scalar.remsi v1184 v1186
  let c0_i32_612 : BitVec 32 := 0#32
  let v1189 : BitVec 1 := Scalar.cmpi .slt v1187 c0_i32_612
  let c0_i32_613 : BitVec 32 := 0#32
  let v1190 : BitVec 1 := Scalar.cmpi .slt v1186 c0_i32_613
  let v1191 : BitVec 1 := Scalar.xori v1189 v1190
  let c0_i32_611 : BitVec 32 := 0#32
  let v1188 : BitVec 1 := Scalar.cmpi .ne v1187 c0_i32_611
  let v1192 : BitVec 1 := Scalar.andi v1191 v1188
  let v1193 : BitVec 32 := Scalar.addi v1187 v1186
  let v1194 : BitVec 32 := Scalar.select v1192 v1193 v1187
  let c8_i32_614 : BitVec 32 := 8#32
  let v1195 : BitVec 32 := Scalar.muli v1194 c8_i32_614
  let c3_i32_615 : BitVec 32 := 3#32
  let v1196 : BitVec 32 := Scalar.addi v1195 c3_i32_615
  let v1197 : BitVec 1 := Scalar.cmpi .ne v1196 v2
  let v1198 : BitVec 32 := Scalar.extui v1197
  let c0_i32_616 : BitVec 32 := 0#32
  let v1199 : BitVec 1 := Scalar.cmpi .ne v1198 c0_i32_616
  v1199

def k0_off187 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_607 : BitVec 32 := 3#32
  let v1184 : BitVec 32 := Scalar.subi v19 c3_i32_607
  let c4_i32_608 : BitVec 32 := 4#32
  let c0_i32_609 : BitVec 32 := 0#32
  let v1185 : BitVec 1 := Scalar.cmpi .eq c4_i32_608 c0_i32_609
  let c1_i32_610 : BitVec 32 := 1#32
  let v1186 : BitVec 32 := Scalar.select v1185 c1_i32_610 c4_i32_608
  let v1187 : BitVec 32 := Scalar.remsi v1184 v1186
  let c0_i32_612 : BitVec 32 := 0#32
  let v1189 : BitVec 1 := Scalar.cmpi .slt v1187 c0_i32_612
  let c0_i32_613 : BitVec 32 := 0#32
  let v1190 : BitVec 1 := Scalar.cmpi .slt v1186 c0_i32_613
  let v1191 : BitVec 1 := Scalar.xori v1189 v1190
  let c0_i32_611 : BitVec 32 := 0#32
  let v1188 : BitVec 1 := Scalar.cmpi .ne v1187 c0_i32_611
  let v1192 : BitVec 1 := Scalar.andi v1191 v1188
  let v1193 : BitVec 32 := Scalar.addi v1187 v1186
  let v1194 : BitVec 32 := Scalar.select v1192 v1193 v1187
  let c8_i32_614 : BitVec 32 := 8#32
  let v1195 : BitVec 32 := Scalar.muli v1194 c8_i32_614
  let c3_i32_615 : BitVec 32 := 3#32
  let v1196 : BitVec 32 := Scalar.addi v1195 c3_i32_615
  ![v1196.toNat]
def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_607 : BitVec 32 := 3#32
  let v1184 : BitVec 32 := Scalar.subi v19 c3_i32_607
  let c4_i32_608 : BitVec 32 := 4#32
  let c0_i32_609 : BitVec 32 := 0#32
  let v1185 : BitVec 1 := Scalar.cmpi .eq c4_i32_608 c0_i32_609
  let c1_i32_610 : BitVec 32 := 1#32
  let v1186 : BitVec 32 := Scalar.select v1185 c1_i32_610 c4_i32_608
  let v1187 : BitVec 32 := Scalar.remsi v1184 v1186
  let c0_i32_612 : BitVec 32 := 0#32
  let v1189 : BitVec 1 := Scalar.cmpi .slt v1187 c0_i32_612
  let c0_i32_613 : BitVec 32 := 0#32
  let v1190 : BitVec 1 := Scalar.cmpi .slt v1186 c0_i32_613
  let v1191 : BitVec 1 := Scalar.xori v1189 v1190
  let c0_i32_611 : BitVec 32 := 0#32
  let v1188 : BitVec 1 := Scalar.cmpi .ne v1187 c0_i32_611
  let v1192 : BitVec 1 := Scalar.andi v1191 v1188
  let v1193 : BitVec 32 := Scalar.addi v1187 v1186
  let v1194 : BitVec 32 := Scalar.select v1192 v1193 v1187
  let c8_i32_614 : BitVec 32 := 8#32
  let v1195 : BitVec 32 := Scalar.muli v1194 c8_i32_614
  let c3_i32_615 : BitVec 32 := 3#32
  let v1196 : BitVec 32 := Scalar.addi v1195 c3_i32_615
  let c0_i32_870 : BitVec 32 := 0#32
  let c0_i32_871 : BitVec 32 := 0#32
  ![v1196.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_620 : BitVec 32 := 3#32
  let v1208 : BitVec 32 := Scalar.subi v19 c3_i32_620
  let c4_i32_621 : BitVec 32 := 4#32
  let c0_i32_622 : BitVec 32 := 0#32
  let v1209 : BitVec 1 := Scalar.cmpi .eq c4_i32_621 c0_i32_622
  let c1_i32_623 : BitVec 32 := 1#32
  let v1210 : BitVec 32 := Scalar.select v1209 c1_i32_623 c4_i32_621
  let v1211 : BitVec 32 := Scalar.remsi v1208 v1210
  let c0_i32_625 : BitVec 32 := 0#32
  let v1213 : BitVec 1 := Scalar.cmpi .slt v1211 c0_i32_625
  let c0_i32_626 : BitVec 32 := 0#32
  let v1214 : BitVec 1 := Scalar.cmpi .slt v1210 c0_i32_626
  let v1215 : BitVec 1 := Scalar.xori v1213 v1214
  let c0_i32_624 : BitVec 32 := 0#32
  let v1212 : BitVec 1 := Scalar.cmpi .ne v1211 c0_i32_624
  let v1216 : BitVec 1 := Scalar.andi v1215 v1212
  let v1217 : BitVec 32 := Scalar.addi v1211 v1210
  let v1218 : BitVec 32 := Scalar.select v1216 v1217 v1211
  let c8_i32_627 : BitVec 32 := 8#32
  let v1219 : BitVec 32 := Scalar.muli v1218 c8_i32_627
  let c4_i32_628 : BitVec 32 := 4#32
  let v1220 : BitVec 32 := Scalar.addi v1219 c4_i32_628
  let v1221 : BitVec 1 := Scalar.cmpi .ne v1220 v2
  let v1222 : BitVec 32 := Scalar.extui v1221
  let c0_i32_629 : BitVec 32 := 0#32
  let v1223 : BitVec 1 := Scalar.cmpi .ne v1222 c0_i32_629
  v1223

def k0_off189 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_620 : BitVec 32 := 3#32
  let v1208 : BitVec 32 := Scalar.subi v19 c3_i32_620
  let c4_i32_621 : BitVec 32 := 4#32
  let c0_i32_622 : BitVec 32 := 0#32
  let v1209 : BitVec 1 := Scalar.cmpi .eq c4_i32_621 c0_i32_622
  let c1_i32_623 : BitVec 32 := 1#32
  let v1210 : BitVec 32 := Scalar.select v1209 c1_i32_623 c4_i32_621
  let v1211 : BitVec 32 := Scalar.remsi v1208 v1210
  let c0_i32_625 : BitVec 32 := 0#32
  let v1213 : BitVec 1 := Scalar.cmpi .slt v1211 c0_i32_625
  let c0_i32_626 : BitVec 32 := 0#32
  let v1214 : BitVec 1 := Scalar.cmpi .slt v1210 c0_i32_626
  let v1215 : BitVec 1 := Scalar.xori v1213 v1214
  let c0_i32_624 : BitVec 32 := 0#32
  let v1212 : BitVec 1 := Scalar.cmpi .ne v1211 c0_i32_624
  let v1216 : BitVec 1 := Scalar.andi v1215 v1212
  let v1217 : BitVec 32 := Scalar.addi v1211 v1210
  let v1218 : BitVec 32 := Scalar.select v1216 v1217 v1211
  let c8_i32_627 : BitVec 32 := 8#32
  let v1219 : BitVec 32 := Scalar.muli v1218 c8_i32_627
  let c4_i32_628 : BitVec 32 := 4#32
  let v1220 : BitVec 32 := Scalar.addi v1219 c4_i32_628
  ![v1220.toNat]
def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_620 : BitVec 32 := 3#32
  let v1208 : BitVec 32 := Scalar.subi v19 c3_i32_620
  let c4_i32_621 : BitVec 32 := 4#32
  let c0_i32_622 : BitVec 32 := 0#32
  let v1209 : BitVec 1 := Scalar.cmpi .eq c4_i32_621 c0_i32_622
  let c1_i32_623 : BitVec 32 := 1#32
  let v1210 : BitVec 32 := Scalar.select v1209 c1_i32_623 c4_i32_621
  let v1211 : BitVec 32 := Scalar.remsi v1208 v1210
  let c0_i32_625 : BitVec 32 := 0#32
  let v1213 : BitVec 1 := Scalar.cmpi .slt v1211 c0_i32_625
  let c0_i32_626 : BitVec 32 := 0#32
  let v1214 : BitVec 1 := Scalar.cmpi .slt v1210 c0_i32_626
  let v1215 : BitVec 1 := Scalar.xori v1213 v1214
  let c0_i32_624 : BitVec 32 := 0#32
  let v1212 : BitVec 1 := Scalar.cmpi .ne v1211 c0_i32_624
  let v1216 : BitVec 1 := Scalar.andi v1215 v1212
  let v1217 : BitVec 32 := Scalar.addi v1211 v1210
  let v1218 : BitVec 32 := Scalar.select v1216 v1217 v1211
  let c8_i32_627 : BitVec 32 := 8#32
  let v1219 : BitVec 32 := Scalar.muli v1218 c8_i32_627
  let c4_i32_628 : BitVec 32 := 4#32
  let v1220 : BitVec 32 := Scalar.addi v1219 c4_i32_628
  let c0_i32_870 : BitVec 32 := 0#32
  let c0_i32_871 : BitVec 32 := 0#32
  ![v1220.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_633 : BitVec 32 := 3#32
  let v1232 : BitVec 32 := Scalar.subi v19 c3_i32_633
  let c4_i32_634 : BitVec 32 := 4#32
  let c0_i32_635 : BitVec 32 := 0#32
  let v1233 : BitVec 1 := Scalar.cmpi .eq c4_i32_634 c0_i32_635
  let c1_i32_636 : BitVec 32 := 1#32
  let v1234 : BitVec 32 := Scalar.select v1233 c1_i32_636 c4_i32_634
  let v1235 : BitVec 32 := Scalar.remsi v1232 v1234
  let c0_i32_638 : BitVec 32 := 0#32
  let v1237 : BitVec 1 := Scalar.cmpi .slt v1235 c0_i32_638
  let c0_i32_639 : BitVec 32 := 0#32
  let v1238 : BitVec 1 := Scalar.cmpi .slt v1234 c0_i32_639
  let v1239 : BitVec 1 := Scalar.xori v1237 v1238
  let c0_i32_637 : BitVec 32 := 0#32
  let v1236 : BitVec 1 := Scalar.cmpi .ne v1235 c0_i32_637
  let v1240 : BitVec 1 := Scalar.andi v1239 v1236
  let v1241 : BitVec 32 := Scalar.addi v1235 v1234
  let v1242 : BitVec 32 := Scalar.select v1240 v1241 v1235
  let c8_i32_640 : BitVec 32 := 8#32
  let v1243 : BitVec 32 := Scalar.muli v1242 c8_i32_640
  let c5_i32_641 : BitVec 32 := 5#32
  let v1244 : BitVec 32 := Scalar.addi v1243 c5_i32_641
  let v1245 : BitVec 1 := Scalar.cmpi .ne v1244 v2
  let v1246 : BitVec 32 := Scalar.extui v1245
  let c0_i32_642 : BitVec 32 := 0#32
  let v1247 : BitVec 1 := Scalar.cmpi .ne v1246 c0_i32_642
  v1247

def k0_off191 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_633 : BitVec 32 := 3#32
  let v1232 : BitVec 32 := Scalar.subi v19 c3_i32_633
  let c4_i32_634 : BitVec 32 := 4#32
  let c0_i32_635 : BitVec 32 := 0#32
  let v1233 : BitVec 1 := Scalar.cmpi .eq c4_i32_634 c0_i32_635
  let c1_i32_636 : BitVec 32 := 1#32
  let v1234 : BitVec 32 := Scalar.select v1233 c1_i32_636 c4_i32_634
  let v1235 : BitVec 32 := Scalar.remsi v1232 v1234
  let c0_i32_638 : BitVec 32 := 0#32
  let v1237 : BitVec 1 := Scalar.cmpi .slt v1235 c0_i32_638
  let c0_i32_639 : BitVec 32 := 0#32
  let v1238 : BitVec 1 := Scalar.cmpi .slt v1234 c0_i32_639
  let v1239 : BitVec 1 := Scalar.xori v1237 v1238
  let c0_i32_637 : BitVec 32 := 0#32
  let v1236 : BitVec 1 := Scalar.cmpi .ne v1235 c0_i32_637
  let v1240 : BitVec 1 := Scalar.andi v1239 v1236
  let v1241 : BitVec 32 := Scalar.addi v1235 v1234
  let v1242 : BitVec 32 := Scalar.select v1240 v1241 v1235
  let c8_i32_640 : BitVec 32 := 8#32
  let v1243 : BitVec 32 := Scalar.muli v1242 c8_i32_640
  let c5_i32_641 : BitVec 32 := 5#32
  let v1244 : BitVec 32 := Scalar.addi v1243 c5_i32_641
  ![v1244.toNat]
def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_633 : BitVec 32 := 3#32
  let v1232 : BitVec 32 := Scalar.subi v19 c3_i32_633
  let c4_i32_634 : BitVec 32 := 4#32
  let c0_i32_635 : BitVec 32 := 0#32
  let v1233 : BitVec 1 := Scalar.cmpi .eq c4_i32_634 c0_i32_635
  let c1_i32_636 : BitVec 32 := 1#32
  let v1234 : BitVec 32 := Scalar.select v1233 c1_i32_636 c4_i32_634
  let v1235 : BitVec 32 := Scalar.remsi v1232 v1234
  let c0_i32_638 : BitVec 32 := 0#32
  let v1237 : BitVec 1 := Scalar.cmpi .slt v1235 c0_i32_638
  let c0_i32_639 : BitVec 32 := 0#32
  let v1238 : BitVec 1 := Scalar.cmpi .slt v1234 c0_i32_639
  let v1239 : BitVec 1 := Scalar.xori v1237 v1238
  let c0_i32_637 : BitVec 32 := 0#32
  let v1236 : BitVec 1 := Scalar.cmpi .ne v1235 c0_i32_637
  let v1240 : BitVec 1 := Scalar.andi v1239 v1236
  let v1241 : BitVec 32 := Scalar.addi v1235 v1234
  let v1242 : BitVec 32 := Scalar.select v1240 v1241 v1235
  let c8_i32_640 : BitVec 32 := 8#32
  let v1243 : BitVec 32 := Scalar.muli v1242 c8_i32_640
  let c5_i32_641 : BitVec 32 := 5#32
  let v1244 : BitVec 32 := Scalar.addi v1243 c5_i32_641
  let c0_i32_870 : BitVec 32 := 0#32
  let c0_i32_871 : BitVec 32 := 0#32
  ![v1244.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_646 : BitVec 32 := 3#32
  let v1256 : BitVec 32 := Scalar.subi v19 c3_i32_646
  let c4_i32_647 : BitVec 32 := 4#32
  let c0_i32_648 : BitVec 32 := 0#32
  let v1257 : BitVec 1 := Scalar.cmpi .eq c4_i32_647 c0_i32_648
  let c1_i32_649 : BitVec 32 := 1#32
  let v1258 : BitVec 32 := Scalar.select v1257 c1_i32_649 c4_i32_647
  let v1259 : BitVec 32 := Scalar.remsi v1256 v1258
  let c0_i32_651 : BitVec 32 := 0#32
  let v1261 : BitVec 1 := Scalar.cmpi .slt v1259 c0_i32_651
  let c0_i32_652 : BitVec 32 := 0#32
  let v1262 : BitVec 1 := Scalar.cmpi .slt v1258 c0_i32_652
  let v1263 : BitVec 1 := Scalar.xori v1261 v1262
  let c0_i32_650 : BitVec 32 := 0#32
  let v1260 : BitVec 1 := Scalar.cmpi .ne v1259 c0_i32_650
  let v1264 : BitVec 1 := Scalar.andi v1263 v1260
  let v1265 : BitVec 32 := Scalar.addi v1259 v1258
  let v1266 : BitVec 32 := Scalar.select v1264 v1265 v1259
  let c8_i32_653 : BitVec 32 := 8#32
  let v1267 : BitVec 32 := Scalar.muli v1266 c8_i32_653
  let c6_i32_654 : BitVec 32 := 6#32
  let v1268 : BitVec 32 := Scalar.addi v1267 c6_i32_654
  let v1269 : BitVec 1 := Scalar.cmpi .ne v1268 v2
  let v1270 : BitVec 32 := Scalar.extui v1269
  let c0_i32_655 : BitVec 32 := 0#32
  let v1271 : BitVec 1 := Scalar.cmpi .ne v1270 c0_i32_655
  v1271

def k0_off193 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_646 : BitVec 32 := 3#32
  let v1256 : BitVec 32 := Scalar.subi v19 c3_i32_646
  let c4_i32_647 : BitVec 32 := 4#32
  let c0_i32_648 : BitVec 32 := 0#32
  let v1257 : BitVec 1 := Scalar.cmpi .eq c4_i32_647 c0_i32_648
  let c1_i32_649 : BitVec 32 := 1#32
  let v1258 : BitVec 32 := Scalar.select v1257 c1_i32_649 c4_i32_647
  let v1259 : BitVec 32 := Scalar.remsi v1256 v1258
  let c0_i32_651 : BitVec 32 := 0#32
  let v1261 : BitVec 1 := Scalar.cmpi .slt v1259 c0_i32_651
  let c0_i32_652 : BitVec 32 := 0#32
  let v1262 : BitVec 1 := Scalar.cmpi .slt v1258 c0_i32_652
  let v1263 : BitVec 1 := Scalar.xori v1261 v1262
  let c0_i32_650 : BitVec 32 := 0#32
  let v1260 : BitVec 1 := Scalar.cmpi .ne v1259 c0_i32_650
  let v1264 : BitVec 1 := Scalar.andi v1263 v1260
  let v1265 : BitVec 32 := Scalar.addi v1259 v1258
  let v1266 : BitVec 32 := Scalar.select v1264 v1265 v1259
  let c8_i32_653 : BitVec 32 := 8#32
  let v1267 : BitVec 32 := Scalar.muli v1266 c8_i32_653
  let c6_i32_654 : BitVec 32 := 6#32
  let v1268 : BitVec 32 := Scalar.addi v1267 c6_i32_654
  ![v1268.toNat]
def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_646 : BitVec 32 := 3#32
  let v1256 : BitVec 32 := Scalar.subi v19 c3_i32_646
  let c4_i32_647 : BitVec 32 := 4#32
  let c0_i32_648 : BitVec 32 := 0#32
  let v1257 : BitVec 1 := Scalar.cmpi .eq c4_i32_647 c0_i32_648
  let c1_i32_649 : BitVec 32 := 1#32
  let v1258 : BitVec 32 := Scalar.select v1257 c1_i32_649 c4_i32_647
  let v1259 : BitVec 32 := Scalar.remsi v1256 v1258
  let c0_i32_651 : BitVec 32 := 0#32
  let v1261 : BitVec 1 := Scalar.cmpi .slt v1259 c0_i32_651
  let c0_i32_652 : BitVec 32 := 0#32
  let v1262 : BitVec 1 := Scalar.cmpi .slt v1258 c0_i32_652
  let v1263 : BitVec 1 := Scalar.xori v1261 v1262
  let c0_i32_650 : BitVec 32 := 0#32
  let v1260 : BitVec 1 := Scalar.cmpi .ne v1259 c0_i32_650
  let v1264 : BitVec 1 := Scalar.andi v1263 v1260
  let v1265 : BitVec 32 := Scalar.addi v1259 v1258
  let v1266 : BitVec 32 := Scalar.select v1264 v1265 v1259
  let c8_i32_653 : BitVec 32 := 8#32
  let v1267 : BitVec 32 := Scalar.muli v1266 c8_i32_653
  let c6_i32_654 : BitVec 32 := 6#32
  let v1268 : BitVec 32 := Scalar.addi v1267 c6_i32_654
  let c0_i32_870 : BitVec 32 := 0#32
  let c0_i32_871 : BitVec 32 := 0#32
  ![v1268.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_659 : BitVec 32 := 3#32
  let v1280 : BitVec 32 := Scalar.subi v19 c3_i32_659
  let c4_i32_660 : BitVec 32 := 4#32
  let c0_i32_661 : BitVec 32 := 0#32
  let v1281 : BitVec 1 := Scalar.cmpi .eq c4_i32_660 c0_i32_661
  let c1_i32_662 : BitVec 32 := 1#32
  let v1282 : BitVec 32 := Scalar.select v1281 c1_i32_662 c4_i32_660
  let v1283 : BitVec 32 := Scalar.remsi v1280 v1282
  let c0_i32_664 : BitVec 32 := 0#32
  let v1285 : BitVec 1 := Scalar.cmpi .slt v1283 c0_i32_664
  let c0_i32_665 : BitVec 32 := 0#32
  let v1286 : BitVec 1 := Scalar.cmpi .slt v1282 c0_i32_665
  let v1287 : BitVec 1 := Scalar.xori v1285 v1286
  let c0_i32_663 : BitVec 32 := 0#32
  let v1284 : BitVec 1 := Scalar.cmpi .ne v1283 c0_i32_663
  let v1288 : BitVec 1 := Scalar.andi v1287 v1284
  let v1289 : BitVec 32 := Scalar.addi v1283 v1282
  let v1290 : BitVec 32 := Scalar.select v1288 v1289 v1283
  let c8_i32_666 : BitVec 32 := 8#32
  let v1291 : BitVec 32 := Scalar.muli v1290 c8_i32_666
  let c7_i32_667 : BitVec 32 := 7#32
  let v1292 : BitVec 32 := Scalar.addi v1291 c7_i32_667
  let v1293 : BitVec 1 := Scalar.cmpi .ne v1292 v2
  let v1294 : BitVec 32 := Scalar.extui v1293
  let c0_i32_668 : BitVec 32 := 0#32
  let v1295 : BitVec 1 := Scalar.cmpi .ne v1294 c0_i32_668
  v1295

def k0_off195 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_659 : BitVec 32 := 3#32
  let v1280 : BitVec 32 := Scalar.subi v19 c3_i32_659
  let c4_i32_660 : BitVec 32 := 4#32
  let c0_i32_661 : BitVec 32 := 0#32
  let v1281 : BitVec 1 := Scalar.cmpi .eq c4_i32_660 c0_i32_661
  let c1_i32_662 : BitVec 32 := 1#32
  let v1282 : BitVec 32 := Scalar.select v1281 c1_i32_662 c4_i32_660
  let v1283 : BitVec 32 := Scalar.remsi v1280 v1282
  let c0_i32_664 : BitVec 32 := 0#32
  let v1285 : BitVec 1 := Scalar.cmpi .slt v1283 c0_i32_664
  let c0_i32_665 : BitVec 32 := 0#32
  let v1286 : BitVec 1 := Scalar.cmpi .slt v1282 c0_i32_665
  let v1287 : BitVec 1 := Scalar.xori v1285 v1286
  let c0_i32_663 : BitVec 32 := 0#32
  let v1284 : BitVec 1 := Scalar.cmpi .ne v1283 c0_i32_663
  let v1288 : BitVec 1 := Scalar.andi v1287 v1284
  let v1289 : BitVec 32 := Scalar.addi v1283 v1282
  let v1290 : BitVec 32 := Scalar.select v1288 v1289 v1283
  let c8_i32_666 : BitVec 32 := 8#32
  let v1291 : BitVec 32 := Scalar.muli v1290 c8_i32_666
  let c7_i32_667 : BitVec 32 := 7#32
  let v1292 : BitVec 32 := Scalar.addi v1291 c7_i32_667
  ![v1292.toNat]
def k0_off196 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_659 : BitVec 32 := 3#32
  let v1280 : BitVec 32 := Scalar.subi v19 c3_i32_659
  let c4_i32_660 : BitVec 32 := 4#32
  let c0_i32_661 : BitVec 32 := 0#32
  let v1281 : BitVec 1 := Scalar.cmpi .eq c4_i32_660 c0_i32_661
  let c1_i32_662 : BitVec 32 := 1#32
  let v1282 : BitVec 32 := Scalar.select v1281 c1_i32_662 c4_i32_660
  let v1283 : BitVec 32 := Scalar.remsi v1280 v1282
  let c0_i32_664 : BitVec 32 := 0#32
  let v1285 : BitVec 1 := Scalar.cmpi .slt v1283 c0_i32_664
  let c0_i32_665 : BitVec 32 := 0#32
  let v1286 : BitVec 1 := Scalar.cmpi .slt v1282 c0_i32_665
  let v1287 : BitVec 1 := Scalar.xori v1285 v1286
  let c0_i32_663 : BitVec 32 := 0#32
  let v1284 : BitVec 1 := Scalar.cmpi .ne v1283 c0_i32_663
  let v1288 : BitVec 1 := Scalar.andi v1287 v1284
  let v1289 : BitVec 32 := Scalar.addi v1283 v1282
  let v1290 : BitVec 32 := Scalar.select v1288 v1289 v1283
  let c8_i32_666 : BitVec 32 := 8#32
  let v1291 : BitVec 32 := Scalar.muli v1290 c8_i32_666
  let c7_i32_667 : BitVec 32 := 7#32
  let v1292 : BitVec 32 := Scalar.addi v1291 c7_i32_667
  let c0_i32_870 : BitVec 32 := 0#32
  let c0_i32_871 : BitVec 32 := 0#32
  ![v1292.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_674 : BitVec 32 := 0#32
  let v1309 : BitVec 1 := Scalar.cmpi .ne v2 c0_i32_674
  let v1310 : BitVec 32 := Scalar.extui v1309
  let c0_i32_675 : BitVec 32 := 0#32
  let v1311 : BitVec 1 := Scalar.cmpi .ne v1310 c0_i32_675
  v1311

def k0_off197 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev65 : Nat :=
  let c0_i32_871 : BitVec 32 := 0#32
  let c0_i32_869 : BitVec 32 := 0#32
  let c1_i32_870 : BitVec 32 := 1#32
  let v1600 : BitVec 32 := Scalar.muli c0_i32_869 c1_i32_870
  let v1601 : BitVec 32 := Scalar.addi c0_i32_871 v1600
  v1601.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_676 : BitVec 32 := 1#32
  let v1312 : BitVec 1 := Scalar.cmpi .ne v2 c1_i32_676
  let v1313 : BitVec 32 := Scalar.extui v1312
  let c0_i32_677 : BitVec 32 := 0#32
  let v1314 : BitVec 1 := Scalar.cmpi .ne v1313 c0_i32_677
  v1314

def k0_off199 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off200 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev66 : Nat :=
  let c0_i32_871 : BitVec 32 := 0#32
  let c1_i32_869 : BitVec 32 := 1#32
  let c1_i32_870 : BitVec 32 := 1#32
  let v1600 : BitVec 32 := Scalar.muli c1_i32_869 c1_i32_870
  let v1601 : BitVec 32 := Scalar.addi c0_i32_871 v1600
  v1601.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_678 : BitVec 32 := 2#32
  let v1315 : BitVec 1 := Scalar.cmpi .ne v2 c2_i32_678
  let v1316 : BitVec 32 := Scalar.extui v1315
  let c0_i32_679 : BitVec 32 := 0#32
  let v1317 : BitVec 1 := Scalar.cmpi .ne v1316 c0_i32_679
  v1317

def k0_off201 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off202 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev67 : Nat :=
  let c0_i32_871 : BitVec 32 := 0#32
  let c2_i32_869 : BitVec 32 := 2#32
  let c1_i32_870 : BitVec 32 := 1#32
  let v1600 : BitVec 32 := Scalar.muli c2_i32_869 c1_i32_870
  let v1601 : BitVec 32 := Scalar.addi c0_i32_871 v1600
  v1601.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_680 : BitVec 32 := 3#32
  let v1318 : BitVec 1 := Scalar.cmpi .ne v2 c3_i32_680
  let v1319 : BitVec 32 := Scalar.extui v1318
  let c0_i32_681 : BitVec 32 := 0#32
  let v1320 : BitVec 1 := Scalar.cmpi .ne v1319 c0_i32_681
  v1320

def k0_off203 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off204 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev68 : Nat :=
  let c0_i32_871 : BitVec 32 := 0#32
  let c3_i32_869 : BitVec 32 := 3#32
  let c1_i32_870 : BitVec 32 := 1#32
  let v1600 : BitVec 32 := Scalar.muli c3_i32_869 c1_i32_870
  let v1601 : BitVec 32 := Scalar.addi c0_i32_871 v1600
  v1601.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_682 : BitVec 32 := 4#32
  let v1321 : BitVec 1 := Scalar.cmpi .ne v2 c4_i32_682
  let v1322 : BitVec 32 := Scalar.extui v1321
  let c0_i32_683 : BitVec 32 := 0#32
  let v1323 : BitVec 1 := Scalar.cmpi .ne v1322 c0_i32_683
  v1323

def k0_off205 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off206 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev69 : Nat :=
  let c0_i32_871 : BitVec 32 := 0#32
  let c4_i32_869 : BitVec 32 := 4#32
  let c1_i32_870 : BitVec 32 := 1#32
  let v1600 : BitVec 32 := Scalar.muli c4_i32_869 c1_i32_870
  let v1601 : BitVec 32 := Scalar.addi c0_i32_871 v1600
  v1601.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_684 : BitVec 32 := 5#32
  let v1324 : BitVec 1 := Scalar.cmpi .ne v2 c5_i32_684
  let v1325 : BitVec 32 := Scalar.extui v1324
  let c0_i32_685 : BitVec 32 := 0#32
  let v1326 : BitVec 1 := Scalar.cmpi .ne v1325 c0_i32_685
  v1326

def k0_off207 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off208 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev70 : Nat :=
  let c0_i32_871 : BitVec 32 := 0#32
  let c5_i32_869 : BitVec 32 := 5#32
  let c1_i32_870 : BitVec 32 := 1#32
  let v1600 : BitVec 32 := Scalar.muli c5_i32_869 c1_i32_870
  let v1601 : BitVec 32 := Scalar.addi c0_i32_871 v1600
  v1601.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_686 : BitVec 32 := 6#32
  let v1327 : BitVec 1 := Scalar.cmpi .ne v2 c6_i32_686
  let v1328 : BitVec 32 := Scalar.extui v1327
  let c0_i32_687 : BitVec 32 := 0#32
  let v1329 : BitVec 1 := Scalar.cmpi .ne v1328 c0_i32_687
  v1329

def k0_off209 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off210 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev71 : Nat :=
  let c0_i32_871 : BitVec 32 := 0#32
  let c6_i32_869 : BitVec 32 := 6#32
  let c1_i32_870 : BitVec 32 := 1#32
  let v1600 : BitVec 32 := Scalar.muli c6_i32_869 c1_i32_870
  let v1601 : BitVec 32 := Scalar.addi c0_i32_871 v1600
  v1601.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_688 : BitVec 32 := 7#32
  let v1330 : BitVec 1 := Scalar.cmpi .ne v2 c7_i32_688
  let v1331 : BitVec 32 := Scalar.extui v1330
  let c0_i32_689 : BitVec 32 := 0#32
  let v1332 : BitVec 1 := Scalar.cmpi .ne v1331 c0_i32_689
  v1332

def k0_off211 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off212 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev72 : Nat :=
  let c0_i32_871 : BitVec 32 := 0#32
  let c7_i32_869 : BitVec 32 := 7#32
  let c1_i32_870 : BitVec 32 := 1#32
  let v1600 : BitVec 32 := Scalar.muli c7_i32_869 c1_i32_870
  let v1601 : BitVec 32 := Scalar.addi c0_i32_871 v1600
  v1601.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_690 : BitVec 32 := 8#32
  let v1333 : BitVec 1 := Scalar.cmpi .ne v2 c8_i32_690
  let v1334 : BitVec 32 := Scalar.extui v1333
  let c0_i32_691 : BitVec 32 := 0#32
  let v1335 : BitVec 1 := Scalar.cmpi .ne v1334 c0_i32_691
  v1335

def k0_off213 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off214 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev73 : Nat :=
  let c0_i32_871 : BitVec 32 := 0#32
  let c8_i32_869 : BitVec 32 := 8#32
  let c1_i32_870 : BitVec 32 := 1#32
  let v1600 : BitVec 32 := Scalar.muli c8_i32_869 c1_i32_870
  let v1601 : BitVec 32 := Scalar.addi c0_i32_871 v1600
  v1601.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_692 : BitVec 32 := 9#32
  let v1336 : BitVec 1 := Scalar.cmpi .ne v2 c9_i32_692
  let v1337 : BitVec 32 := Scalar.extui v1336
  let c0_i32_693 : BitVec 32 := 0#32
  let v1338 : BitVec 1 := Scalar.cmpi .ne v1337 c0_i32_693
  v1338

def k0_off215 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev74 : Nat :=
  let c0_i32_871 : BitVec 32 := 0#32
  let c9_i32_869 : BitVec 32 := 9#32
  let c1_i32_870 : BitVec 32 := 1#32
  let v1600 : BitVec 32 := Scalar.muli c9_i32_869 c1_i32_870
  let v1601 : BitVec 32 := Scalar.addi c0_i32_871 v1600
  v1601.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_694 : BitVec 32 := 10#32
  let v1339 : BitVec 1 := Scalar.cmpi .ne v2 c10_i32_694
  let v1340 : BitVec 32 := Scalar.extui v1339
  let c0_i32_695 : BitVec 32 := 0#32
  let v1341 : BitVec 1 := Scalar.cmpi .ne v1340 c0_i32_695
  v1341

def k0_off217 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off218 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev75 : Nat :=
  let c0_i32_871 : BitVec 32 := 0#32
  let c10_i32_869 : BitVec 32 := 10#32
  let c1_i32_870 : BitVec 32 := 1#32
  let v1600 : BitVec 32 := Scalar.muli c10_i32_869 c1_i32_870
  let v1601 : BitVec 32 := Scalar.addi c0_i32_871 v1600
  v1601.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_696 : BitVec 32 := 11#32
  let v1342 : BitVec 1 := Scalar.cmpi .ne v2 c11_i32_696
  let v1343 : BitVec 32 := Scalar.extui v1342
  let c0_i32_697 : BitVec 32 := 0#32
  let v1344 : BitVec 1 := Scalar.cmpi .ne v1343 c0_i32_697
  v1344

def k0_off219 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off220 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev76 : Nat :=
  let c0_i32_871 : BitVec 32 := 0#32
  let c11_i32_869 : BitVec 32 := 11#32
  let c1_i32_870 : BitVec 32 := 1#32
  let v1600 : BitVec 32 := Scalar.muli c11_i32_869 c1_i32_870
  let v1601 : BitVec 32 := Scalar.addi c0_i32_871 v1600
  v1601.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_698 : BitVec 32 := 12#32
  let v1345 : BitVec 1 := Scalar.cmpi .ne v2 c12_i32_698
  let v1346 : BitVec 32 := Scalar.extui v1345
  let c0_i32_699 : BitVec 32 := 0#32
  let v1347 : BitVec 1 := Scalar.cmpi .ne v1346 c0_i32_699
  v1347

def k0_off221 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev77 : Nat :=
  let c0_i32_871 : BitVec 32 := 0#32
  let c12_i32_869 : BitVec 32 := 12#32
  let c1_i32_870 : BitVec 32 := 1#32
  let v1600 : BitVec 32 := Scalar.muli c12_i32_869 c1_i32_870
  let v1601 : BitVec 32 := Scalar.addi c0_i32_871 v1600
  v1601.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_700 : BitVec 32 := 13#32
  let v1348 : BitVec 1 := Scalar.cmpi .ne v2 c13_i32_700
  let v1349 : BitVec 32 := Scalar.extui v1348
  let c0_i32_701 : BitVec 32 := 0#32
  let v1350 : BitVec 1 := Scalar.cmpi .ne v1349 c0_i32_701
  v1350

def k0_off223 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off224 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev78 : Nat :=
  let c0_i32_871 : BitVec 32 := 0#32
  let c13_i32_869 : BitVec 32 := 13#32
  let c1_i32_870 : BitVec 32 := 1#32
  let v1600 : BitVec 32 := Scalar.muli c13_i32_869 c1_i32_870
  let v1601 : BitVec 32 := Scalar.addi c0_i32_871 v1600
  v1601.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_702 : BitVec 32 := 14#32
  let v1351 : BitVec 1 := Scalar.cmpi .ne v2 c14_i32_702
  let v1352 : BitVec 32 := Scalar.extui v1351
  let c0_i32_703 : BitVec 32 := 0#32
  let v1353 : BitVec 1 := Scalar.cmpi .ne v1352 c0_i32_703
  v1353

def k0_off225 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off226 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev79 : Nat :=
  let c0_i32_871 : BitVec 32 := 0#32
  let c14_i32_869 : BitVec 32 := 14#32
  let c1_i32_870 : BitVec 32 := 1#32
  let v1600 : BitVec 32 := Scalar.muli c14_i32_869 c1_i32_870
  let v1601 : BitVec 32 := Scalar.addi c0_i32_871 v1600
  v1601.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_704 : BitVec 32 := 15#32
  let v1354 : BitVec 1 := Scalar.cmpi .ne v2 c15_i32_704
  let v1355 : BitVec 32 := Scalar.extui v1354
  let c0_i32_705 : BitVec 32 := 0#32
  let v1356 : BitVec 1 := Scalar.cmpi .ne v1355 c0_i32_705
  v1356

def k0_off227 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off228 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev80 : Nat :=
  let c0_i32_871 : BitVec 32 := 0#32
  let c15_i32_869 : BitVec 32 := 15#32
  let c1_i32_870 : BitVec 32 := 1#32
  let v1600 : BitVec 32 := Scalar.muli c15_i32_869 c1_i32_870
  let v1601 : BitVec 32 := Scalar.addi c0_i32_871 v1600
  v1601.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_706 : BitVec 32 := 16#32
  let v1357 : BitVec 1 := Scalar.cmpi .ne v2 c16_i32_706
  let v1358 : BitVec 32 := Scalar.extui v1357
  let c0_i32_707 : BitVec 32 := 0#32
  let v1359 : BitVec 1 := Scalar.cmpi .ne v1358 c0_i32_707
  v1359

def k0_off229 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off230 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev81 : Nat :=
  let c0_i32_871 : BitVec 32 := 0#32
  let c16_i32_869 : BitVec 32 := 16#32
  let c1_i32_870 : BitVec 32 := 1#32
  let v1600 : BitVec 32 := Scalar.muli c16_i32_869 c1_i32_870
  let v1601 : BitVec 32 := Scalar.addi c0_i32_871 v1600
  v1601.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_708 : BitVec 32 := 17#32
  let v1360 : BitVec 1 := Scalar.cmpi .ne v2 c17_i32_708
  let v1361 : BitVec 32 := Scalar.extui v1360
  let c0_i32_709 : BitVec 32 := 0#32
  let v1362 : BitVec 1 := Scalar.cmpi .ne v1361 c0_i32_709
  v1362

def k0_off231 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off232 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev82 : Nat :=
  let c0_i32_871 : BitVec 32 := 0#32
  let c17_i32_869 : BitVec 32 := 17#32
  let c1_i32_870 : BitVec 32 := 1#32
  let v1600 : BitVec 32 := Scalar.muli c17_i32_869 c1_i32_870
  let v1601 : BitVec 32 := Scalar.addi c0_i32_871 v1600
  v1601.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_710 : BitVec 32 := 18#32
  let v1363 : BitVec 1 := Scalar.cmpi .ne v2 c18_i32_710
  let v1364 : BitVec 32 := Scalar.extui v1363
  let c0_i32_711 : BitVec 32 := 0#32
  let v1365 : BitVec 1 := Scalar.cmpi .ne v1364 c0_i32_711
  v1365

def k0_off233 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off234 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev83 : Nat :=
  let c0_i32_871 : BitVec 32 := 0#32
  let c18_i32_869 : BitVec 32 := 18#32
  let c1_i32_870 : BitVec 32 := 1#32
  let v1600 : BitVec 32 := Scalar.muli c18_i32_869 c1_i32_870
  let v1601 : BitVec 32 := Scalar.addi c0_i32_871 v1600
  v1601.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_712 : BitVec 32 := 19#32
  let v1366 : BitVec 1 := Scalar.cmpi .ne v2 c19_i32_712
  let v1367 : BitVec 32 := Scalar.extui v1366
  let c0_i32_713 : BitVec 32 := 0#32
  let v1368 : BitVec 1 := Scalar.cmpi .ne v1367 c0_i32_713
  v1368

def k0_off235 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off236 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev84 : Nat :=
  let c0_i32_871 : BitVec 32 := 0#32
  let c19_i32_869 : BitVec 32 := 19#32
  let c1_i32_870 : BitVec 32 := 1#32
  let v1600 : BitVec 32 := Scalar.muli c19_i32_869 c1_i32_870
  let v1601 : BitVec 32 := Scalar.addi c0_i32_871 v1600
  v1601.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_714 : BitVec 32 := 20#32
  let v1369 : BitVec 1 := Scalar.cmpi .ne v2 c20_i32_714
  let v1370 : BitVec 32 := Scalar.extui v1369
  let c0_i32_715 : BitVec 32 := 0#32
  let v1371 : BitVec 1 := Scalar.cmpi .ne v1370 c0_i32_715
  v1371

def k0_off237 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off238 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev85 : Nat :=
  let c0_i32_871 : BitVec 32 := 0#32
  let c20_i32_869 : BitVec 32 := 20#32
  let c1_i32_870 : BitVec 32 := 1#32
  let v1600 : BitVec 32 := Scalar.muli c20_i32_869 c1_i32_870
  let v1601 : BitVec 32 := Scalar.addi c0_i32_871 v1600
  v1601.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_716 : BitVec 32 := 21#32
  let v1372 : BitVec 1 := Scalar.cmpi .ne v2 c21_i32_716
  let v1373 : BitVec 32 := Scalar.extui v1372
  let c0_i32_717 : BitVec 32 := 0#32
  let v1374 : BitVec 1 := Scalar.cmpi .ne v1373 c0_i32_717
  v1374

def k0_off239 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off240 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev86 : Nat :=
  let c0_i32_871 : BitVec 32 := 0#32
  let c21_i32_869 : BitVec 32 := 21#32
  let c1_i32_870 : BitVec 32 := 1#32
  let v1600 : BitVec 32 := Scalar.muli c21_i32_869 c1_i32_870
  let v1601 : BitVec 32 := Scalar.addi c0_i32_871 v1600
  v1601.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_718 : BitVec 32 := 22#32
  let v1375 : BitVec 1 := Scalar.cmpi .ne v2 c22_i32_718
  let v1376 : BitVec 32 := Scalar.extui v1375
  let c0_i32_719 : BitVec 32 := 0#32
  let v1377 : BitVec 1 := Scalar.cmpi .ne v1376 c0_i32_719
  v1377

def k0_off241 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off242 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev87 : Nat :=
  let c0_i32_871 : BitVec 32 := 0#32
  let c22_i32_869 : BitVec 32 := 22#32
  let c1_i32_870 : BitVec 32 := 1#32
  let v1600 : BitVec 32 := Scalar.muli c22_i32_869 c1_i32_870
  let v1601 : BitVec 32 := Scalar.addi c0_i32_871 v1600
  v1601.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_720 : BitVec 32 := 23#32
  let v1378 : BitVec 1 := Scalar.cmpi .ne v2 c23_i32_720
  let v1379 : BitVec 32 := Scalar.extui v1378
  let c0_i32_721 : BitVec 32 := 0#32
  let v1380 : BitVec 1 := Scalar.cmpi .ne v1379 c0_i32_721
  v1380

def k0_off243 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off244 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev88 : Nat :=
  let c0_i32_871 : BitVec 32 := 0#32
  let c23_i32_869 : BitVec 32 := 23#32
  let c1_i32_870 : BitVec 32 := 1#32
  let v1600 : BitVec 32 := Scalar.muli c23_i32_869 c1_i32_870
  let v1601 : BitVec 32 := Scalar.addi c0_i32_871 v1600
  v1601.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_722 : BitVec 32 := 24#32
  let v1381 : BitVec 1 := Scalar.cmpi .ne v2 c24_i32_722
  let v1382 : BitVec 32 := Scalar.extui v1381
  let c0_i32_723 : BitVec 32 := 0#32
  let v1383 : BitVec 1 := Scalar.cmpi .ne v1382 c0_i32_723
  v1383

def k0_off245 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off246 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev89 : Nat :=
  let c0_i32_871 : BitVec 32 := 0#32
  let c24_i32_869 : BitVec 32 := 24#32
  let c1_i32_870 : BitVec 32 := 1#32
  let v1600 : BitVec 32 := Scalar.muli c24_i32_869 c1_i32_870
  let v1601 : BitVec 32 := Scalar.addi c0_i32_871 v1600
  v1601.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_724 : BitVec 32 := 25#32
  let v1384 : BitVec 1 := Scalar.cmpi .ne v2 c25_i32_724
  let v1385 : BitVec 32 := Scalar.extui v1384
  let c0_i32_725 : BitVec 32 := 0#32
  let v1386 : BitVec 1 := Scalar.cmpi .ne v1385 c0_i32_725
  v1386

def k0_off247 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off248 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev90 : Nat :=
  let c0_i32_871 : BitVec 32 := 0#32
  let c25_i32_869 : BitVec 32 := 25#32
  let c1_i32_870 : BitVec 32 := 1#32
  let v1600 : BitVec 32 := Scalar.muli c25_i32_869 c1_i32_870
  let v1601 : BitVec 32 := Scalar.addi c0_i32_871 v1600
  v1601.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_726 : BitVec 32 := 26#32
  let v1387 : BitVec 1 := Scalar.cmpi .ne v2 c26_i32_726
  let v1388 : BitVec 32 := Scalar.extui v1387
  let c0_i32_727 : BitVec 32 := 0#32
  let v1389 : BitVec 1 := Scalar.cmpi .ne v1388 c0_i32_727
  v1389

def k0_off249 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off250 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev91 : Nat :=
  let c0_i32_871 : BitVec 32 := 0#32
  let c26_i32_869 : BitVec 32 := 26#32
  let c1_i32_870 : BitVec 32 := 1#32
  let v1600 : BitVec 32 := Scalar.muli c26_i32_869 c1_i32_870
  let v1601 : BitVec 32 := Scalar.addi c0_i32_871 v1600
  v1601.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_728 : BitVec 32 := 27#32
  let v1390 : BitVec 1 := Scalar.cmpi .ne v2 c27_i32_728
  let v1391 : BitVec 32 := Scalar.extui v1390
  let c0_i32_729 : BitVec 32 := 0#32
  let v1392 : BitVec 1 := Scalar.cmpi .ne v1391 c0_i32_729
  v1392

def k0_off251 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off252 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev92 : Nat :=
  let c0_i32_871 : BitVec 32 := 0#32
  let c27_i32_869 : BitVec 32 := 27#32
  let c1_i32_870 : BitVec 32 := 1#32
  let v1600 : BitVec 32 := Scalar.muli c27_i32_869 c1_i32_870
  let v1601 : BitVec 32 := Scalar.addi c0_i32_871 v1600
  v1601.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_730 : BitVec 32 := 28#32
  let v1393 : BitVec 1 := Scalar.cmpi .ne v2 c28_i32_730
  let v1394 : BitVec 32 := Scalar.extui v1393
  let c0_i32_731 : BitVec 32 := 0#32
  let v1395 : BitVec 1 := Scalar.cmpi .ne v1394 c0_i32_731
  v1395

def k0_off253 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off254 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev93 : Nat :=
  let c0_i32_871 : BitVec 32 := 0#32
  let c28_i32_869 : BitVec 32 := 28#32
  let c1_i32_870 : BitVec 32 := 1#32
  let v1600 : BitVec 32 := Scalar.muli c28_i32_869 c1_i32_870
  let v1601 : BitVec 32 := Scalar.addi c0_i32_871 v1600
  v1601.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_732 : BitVec 32 := 29#32
  let v1396 : BitVec 1 := Scalar.cmpi .ne v2 c29_i32_732
  let v1397 : BitVec 32 := Scalar.extui v1396
  let c0_i32_733 : BitVec 32 := 0#32
  let v1398 : BitVec 1 := Scalar.cmpi .ne v1397 c0_i32_733
  v1398

def k0_off255 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off256 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev94 : Nat :=
  let c0_i32_871 : BitVec 32 := 0#32
  let c29_i32_869 : BitVec 32 := 29#32
  let c1_i32_870 : BitVec 32 := 1#32
  let v1600 : BitVec 32 := Scalar.muli c29_i32_869 c1_i32_870
  let v1601 : BitVec 32 := Scalar.addi c0_i32_871 v1600
  v1601.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_734 : BitVec 32 := 30#32
  let v1399 : BitVec 1 := Scalar.cmpi .ne v2 c30_i32_734
  let v1400 : BitVec 32 := Scalar.extui v1399
  let c0_i32_735 : BitVec 32 := 0#32
  let v1401 : BitVec 1 := Scalar.cmpi .ne v1400 c0_i32_735
  v1401

def k0_off257 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off258 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev95 : Nat :=
  let c0_i32_871 : BitVec 32 := 0#32
  let c30_i32_869 : BitVec 32 := 30#32
  let c1_i32_870 : BitVec 32 := 1#32
  let v1600 : BitVec 32 := Scalar.muli c30_i32_869 c1_i32_870
  let v1601 : BitVec 32 := Scalar.addi c0_i32_871 v1600
  v1601.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_736 : BitVec 32 := 31#32
  let v1402 : BitVec 1 := Scalar.cmpi .ne v2 c31_i32_736
  let v1403 : BitVec 32 := Scalar.extui v1402
  let c0_i32_737 : BitVec 32 := 0#32
  let v1404 : BitVec 1 := Scalar.cmpi .ne v1403 c0_i32_737
  v1404

def k0_off259 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off260 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_872 : BitVec 32 := 0#32
  let c0_i32_873 : BitVec 32 := 0#32
  ![v2.toNat, 0, 0]
def k0_dev96 : Nat :=
  let c0_i32_871 : BitVec 32 := 0#32
  let c31_i32_869 : BitVec 32 := 31#32
  let c1_i32_870 : BitVec 32 := 1#32
  let v1600 : BitVec 32 := Scalar.muli c31_i32_869 c1_i32_870
  let v1601 : BitVec 32 := Scalar.addi c0_i32_871 v1600
  v1601.toNat
def k0_off261 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_738 : BitVec 32 := 24#32
  let v1405 : BitVec 32 := Scalar.muli v2 c24_i32_738
  let v1406 : Index := Scalar.indexCast v1405
  let c0_739 : Index := 0#32
  ![v1406.toNat, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_804 : BitVec 32 := 0#32
  let v1504 : BitVec 1 := Scalar.cmpi .ne v2 c0_i32_804
  let v1505 : BitVec 32 := Scalar.extui v1504
  let c0_i32_805 : BitVec 32 := 0#32
  let v1506 : BitVec 1 := Scalar.cmpi .ne v1505 c0_i32_805
  v1506

def k0_off262 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_806 : BitVec 32 := 1#32
  let v1507 : BitVec 1 := Scalar.cmpi .ne v2 c1_i32_806
  let v1508 : BitVec 32 := Scalar.extui v1507
  let c0_i32_807 : BitVec 32 := 0#32
  let v1509 : BitVec 1 := Scalar.cmpi .ne v1508 c0_i32_807
  v1509

def k0_off263 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_808 : BitVec 32 := 2#32
  let v1510 : BitVec 1 := Scalar.cmpi .ne v2 c2_i32_808
  let v1511 : BitVec 32 := Scalar.extui v1510
  let c0_i32_809 : BitVec 32 := 0#32
  let v1512 : BitVec 1 := Scalar.cmpi .ne v1511 c0_i32_809
  v1512

def k0_off264 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_810 : BitVec 32 := 3#32
  let v1513 : BitVec 1 := Scalar.cmpi .ne v2 c3_i32_810
  let v1514 : BitVec 32 := Scalar.extui v1513
  let c0_i32_811 : BitVec 32 := 0#32
  let v1515 : BitVec 1 := Scalar.cmpi .ne v1514 c0_i32_811
  v1515

def k0_off265 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_812 : BitVec 32 := 4#32
  let v1516 : BitVec 1 := Scalar.cmpi .ne v2 c4_i32_812
  let v1517 : BitVec 32 := Scalar.extui v1516
  let c0_i32_813 : BitVec 32 := 0#32
  let v1518 : BitVec 1 := Scalar.cmpi .ne v1517 c0_i32_813
  v1518

def k0_off266 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_814 : BitVec 32 := 5#32
  let v1519 : BitVec 1 := Scalar.cmpi .ne v2 c5_i32_814
  let v1520 : BitVec 32 := Scalar.extui v1519
  let c0_i32_815 : BitVec 32 := 0#32
  let v1521 : BitVec 1 := Scalar.cmpi .ne v1520 c0_i32_815
  v1521

def k0_off267 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_816 : BitVec 32 := 6#32
  let v1522 : BitVec 1 := Scalar.cmpi .ne v2 c6_i32_816
  let v1523 : BitVec 32 := Scalar.extui v1522
  let c0_i32_817 : BitVec 32 := 0#32
  let v1524 : BitVec 1 := Scalar.cmpi .ne v1523 c0_i32_817
  v1524

def k0_off268 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_818 : BitVec 32 := 7#32
  let v1525 : BitVec 1 := Scalar.cmpi .ne v2 c7_i32_818
  let v1526 : BitVec 32 := Scalar.extui v1525
  let c0_i32_819 : BitVec 32 := 0#32
  let v1527 : BitVec 1 := Scalar.cmpi .ne v1526 c0_i32_819
  v1527

def k0_off269 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_820 : BitVec 32 := 8#32
  let v1528 : BitVec 1 := Scalar.cmpi .ne v2 c8_i32_820
  let v1529 : BitVec 32 := Scalar.extui v1528
  let c0_i32_821 : BitVec 32 := 0#32
  let v1530 : BitVec 1 := Scalar.cmpi .ne v1529 c0_i32_821
  v1530

def k0_off270 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_822 : BitVec 32 := 9#32
  let v1531 : BitVec 1 := Scalar.cmpi .ne v2 c9_i32_822
  let v1532 : BitVec 32 := Scalar.extui v1531
  let c0_i32_823 : BitVec 32 := 0#32
  let v1533 : BitVec 1 := Scalar.cmpi .ne v1532 c0_i32_823
  v1533

def k0_off271 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_824 : BitVec 32 := 10#32
  let v1534 : BitVec 1 := Scalar.cmpi .ne v2 c10_i32_824
  let v1535 : BitVec 32 := Scalar.extui v1534
  let c0_i32_825 : BitVec 32 := 0#32
  let v1536 : BitVec 1 := Scalar.cmpi .ne v1535 c0_i32_825
  v1536

def k0_off272 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_826 : BitVec 32 := 11#32
  let v1537 : BitVec 1 := Scalar.cmpi .ne v2 c11_i32_826
  let v1538 : BitVec 32 := Scalar.extui v1537
  let c0_i32_827 : BitVec 32 := 0#32
  let v1539 : BitVec 1 := Scalar.cmpi .ne v1538 c0_i32_827
  v1539

def k0_off273 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_828 : BitVec 32 := 12#32
  let v1540 : BitVec 1 := Scalar.cmpi .ne v2 c12_i32_828
  let v1541 : BitVec 32 := Scalar.extui v1540
  let c0_i32_829 : BitVec 32 := 0#32
  let v1542 : BitVec 1 := Scalar.cmpi .ne v1541 c0_i32_829
  v1542

def k0_off274 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_830 : BitVec 32 := 13#32
  let v1543 : BitVec 1 := Scalar.cmpi .ne v2 c13_i32_830
  let v1544 : BitVec 32 := Scalar.extui v1543
  let c0_i32_831 : BitVec 32 := 0#32
  let v1545 : BitVec 1 := Scalar.cmpi .ne v1544 c0_i32_831
  v1545

def k0_off275 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_832 : BitVec 32 := 14#32
  let v1546 : BitVec 1 := Scalar.cmpi .ne v2 c14_i32_832
  let v1547 : BitVec 32 := Scalar.extui v1546
  let c0_i32_833 : BitVec 32 := 0#32
  let v1548 : BitVec 1 := Scalar.cmpi .ne v1547 c0_i32_833
  v1548

def k0_off276 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_834 : BitVec 32 := 15#32
  let v1549 : BitVec 1 := Scalar.cmpi .ne v2 c15_i32_834
  let v1550 : BitVec 32 := Scalar.extui v1549
  let c0_i32_835 : BitVec 32 := 0#32
  let v1551 : BitVec 1 := Scalar.cmpi .ne v1550 c0_i32_835
  v1551

def k0_off277 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_836 : BitVec 32 := 16#32
  let v1552 : BitVec 1 := Scalar.cmpi .ne v2 c16_i32_836
  let v1553 : BitVec 32 := Scalar.extui v1552
  let c0_i32_837 : BitVec 32 := 0#32
  let v1554 : BitVec 1 := Scalar.cmpi .ne v1553 c0_i32_837
  v1554

def k0_off278 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_838 : BitVec 32 := 17#32
  let v1555 : BitVec 1 := Scalar.cmpi .ne v2 c17_i32_838
  let v1556 : BitVec 32 := Scalar.extui v1555
  let c0_i32_839 : BitVec 32 := 0#32
  let v1557 : BitVec 1 := Scalar.cmpi .ne v1556 c0_i32_839
  v1557

def k0_off279 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_840 : BitVec 32 := 18#32
  let v1558 : BitVec 1 := Scalar.cmpi .ne v2 c18_i32_840
  let v1559 : BitVec 32 := Scalar.extui v1558
  let c0_i32_841 : BitVec 32 := 0#32
  let v1560 : BitVec 1 := Scalar.cmpi .ne v1559 c0_i32_841
  v1560

def k0_off280 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_842 : BitVec 32 := 19#32
  let v1561 : BitVec 1 := Scalar.cmpi .ne v2 c19_i32_842
  let v1562 : BitVec 32 := Scalar.extui v1561
  let c0_i32_843 : BitVec 32 := 0#32
  let v1563 : BitVec 1 := Scalar.cmpi .ne v1562 c0_i32_843
  v1563

def k0_off281 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_844 : BitVec 32 := 20#32
  let v1564 : BitVec 1 := Scalar.cmpi .ne v2 c20_i32_844
  let v1565 : BitVec 32 := Scalar.extui v1564
  let c0_i32_845 : BitVec 32 := 0#32
  let v1566 : BitVec 1 := Scalar.cmpi .ne v1565 c0_i32_845
  v1566

def k0_off282 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_846 : BitVec 32 := 21#32
  let v1567 : BitVec 1 := Scalar.cmpi .ne v2 c21_i32_846
  let v1568 : BitVec 32 := Scalar.extui v1567
  let c0_i32_847 : BitVec 32 := 0#32
  let v1569 : BitVec 1 := Scalar.cmpi .ne v1568 c0_i32_847
  v1569

def k0_off283 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_848 : BitVec 32 := 22#32
  let v1570 : BitVec 1 := Scalar.cmpi .ne v2 c22_i32_848
  let v1571 : BitVec 32 := Scalar.extui v1570
  let c0_i32_849 : BitVec 32 := 0#32
  let v1572 : BitVec 1 := Scalar.cmpi .ne v1571 c0_i32_849
  v1572

def k0_off284 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_850 : BitVec 32 := 23#32
  let v1573 : BitVec 1 := Scalar.cmpi .ne v2 c23_i32_850
  let v1574 : BitVec 32 := Scalar.extui v1573
  let c0_i32_851 : BitVec 32 := 0#32
  let v1575 : BitVec 1 := Scalar.cmpi .ne v1574 c0_i32_851
  v1575

def k0_off285 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_852 : BitVec 32 := 24#32
  let v1576 : BitVec 1 := Scalar.cmpi .ne v2 c24_i32_852
  let v1577 : BitVec 32 := Scalar.extui v1576
  let c0_i32_853 : BitVec 32 := 0#32
  let v1578 : BitVec 1 := Scalar.cmpi .ne v1577 c0_i32_853
  v1578

def k0_off286 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_854 : BitVec 32 := 25#32
  let v1579 : BitVec 1 := Scalar.cmpi .ne v2 c25_i32_854
  let v1580 : BitVec 32 := Scalar.extui v1579
  let c0_i32_855 : BitVec 32 := 0#32
  let v1581 : BitVec 1 := Scalar.cmpi .ne v1580 c0_i32_855
  v1581

def k0_off287 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_856 : BitVec 32 := 26#32
  let v1582 : BitVec 1 := Scalar.cmpi .ne v2 c26_i32_856
  let v1583 : BitVec 32 := Scalar.extui v1582
  let c0_i32_857 : BitVec 32 := 0#32
  let v1584 : BitVec 1 := Scalar.cmpi .ne v1583 c0_i32_857
  v1584

def k0_off288 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_858 : BitVec 32 := 27#32
  let v1585 : BitVec 1 := Scalar.cmpi .ne v2 c27_i32_858
  let v1586 : BitVec 32 := Scalar.extui v1585
  let c0_i32_859 : BitVec 32 := 0#32
  let v1587 : BitVec 1 := Scalar.cmpi .ne v1586 c0_i32_859
  v1587

def k0_off289 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_860 : BitVec 32 := 28#32
  let v1588 : BitVec 1 := Scalar.cmpi .ne v2 c28_i32_860
  let v1589 : BitVec 32 := Scalar.extui v1588
  let c0_i32_861 : BitVec 32 := 0#32
  let v1590 : BitVec 1 := Scalar.cmpi .ne v1589 c0_i32_861
  v1590

def k0_off290 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_862 : BitVec 32 := 29#32
  let v1591 : BitVec 1 := Scalar.cmpi .ne v2 c29_i32_862
  let v1592 : BitVec 32 := Scalar.extui v1591
  let c0_i32_863 : BitVec 32 := 0#32
  let v1593 : BitVec 1 := Scalar.cmpi .ne v1592 c0_i32_863
  v1593

def k0_off291 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_864 : BitVec 32 := 30#32
  let v1594 : BitVec 1 := Scalar.cmpi .ne v2 c30_i32_864
  let v1595 : BitVec 32 := Scalar.extui v1594
  let c0_i32_865 : BitVec 32 := 0#32
  let v1596 : BitVec 1 := Scalar.cmpi .ne v1595 c0_i32_865
  v1596

def k0_off292 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_866 : BitVec 32 := 31#32
  let v1597 : BitVec 1 := Scalar.cmpi .ne v2 c31_i32_866
  let v1598 : BitVec 32 := Scalar.extui v1597
  let c0_i32_867 : BitVec 32 := 0#32
  let v1599 : BitVec 1 := Scalar.cmpi .ne v1598 c0_i32_867
  v1599

def k0_off293 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_874 : BitVec 32 := 0#32
  let c0_i32_875 : BitVec 32 := 0#32
  ![v2.toNat, 0, 0]
abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x768 : Shape := ⟨2, ![768, 768]⟩
abbrev S768x49152 : Shape := ⟨2, ![768, 49152]⟩
abbrev S49152x768 : Shape := ⟨2, ![49152, 768]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S768x768, .bf16⟩
  | .hbm, ⟨1, _⟩ => ⟨S768x49152, .bf16⟩
  | .hbm, ⟨2, _⟩ => ⟨S49152x768, .bf16⟩
  | .hbm, ⟨3, _⟩ => ⟨S768x768, .f32⟩
  | .hbm, ⟨4, _⟩ => ⟨S768x49152, .f32⟩
  | .hbm, ⟨5, _⟩ => ⟨S49152x768, .f32⟩
  | .hbm, ⟨6, _⟩ => ⟨S768x49152, .f32⟩
  | .hbm, ⟨7, _⟩ => ⟨S_, .f32⟩
  | .hbm, ⟨8, _⟩ => ⟨S768x49152, .f32⟩
  | .hbm, ⟨9, _⟩ => ⟨S768x49152, .f32⟩
  | .hbm, ⟨10, _⟩ => ⟨S768x768, .f32⟩
  | _, _ => ⟨S768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Slots.lean ====
/-
  The slots of the three communication buffers. Each is 32 slabs of 24 by 768; slab `d` belongs to device `d`.
  Here: which elements a slab holds, what a load of a slab reads, what a store or a copy into a slab leaves, and
  which semaphore an element of a semaphore array is.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.Pipeline.TableIdle

@[expose] public section

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a piece of device `c`'s kernel. -/
abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The buffers and their slabs -/

abbrev sndM : Memref sig .tc .vmem S32x24x768 .bf16 := Memref.whole cc0_scratch0
abbrev rc1M : Memref sig .tc .vmem S32x24x768 .bf16 := Memref.whole cc0_scratch1
abbrev rc2M : Memref sig .tc .vmem S32x24x768 .bf16 := Memref.whole cc0_scratch2
abbrev outM : Memref sig .tc .vmem S768x768 .f32 := Memref.whole cc0_stg3_0

theorem slab_inb (d : Dev nD) : ∀ a, (![d.val, 0, 0] : Fin 3 → ℕ) a + S1x24x768.size a ≤ S32x24x768.size a := by
  revert d; decide

/-- Slab `d` of a communication buffer. -/
abbrev slabR (d : Dev nD) : Rect S32x24x768 := Rect.unit (s := S32x24x768) ![d.val, 0, 0] S1x24x768.size (slab_inb d)
abbrev slab (M : Memref sig .tc .vmem S32x24x768 .bf16) (d : Dev nD) : Memref sig .tc .vmem S1x24x768 .bf16 :=
  M.slice (slabR d) (fun _ => rfl)

/-- The contents of one slab. -/
abbrev Slab (F : FTy → Type) : Type := S1x24x768.Idx → Elt F .bf16

/-- Device `c` holds slab `d` of its buffer `M` at share `q`, and it reads `X`. -/
def own (c : Dev nD) (M : Memref sig .tc .vmem S32x24x768 .bf16) (d : Dev nD) (q : PosShare TreeShare) (X : Slab F) : sProp 𝕄 :=
  owns (c : Thread nD τ) (slab M d) q X

/-- Device `c` holds slab `d` of its buffer `M`, at some contents. -/
def any (c : Dev nD) (M : Memref sig .tc .vmem S32x24x768 .bf16) (d : Dev nD) : sProp 𝕄 :=
  iprop(∃ X : Slab F, own c M d fullShare X)

instance own_storable (c : Dev nD) (M) (d : Dev nD) (q) (X : Slab F) : BI.Storable (upEmb : UEmb _ 𝕄) (own c M d q X) := by
  unfold own; infer_instance
instance any_storable (c : Dev nD) (M) (d : Dev nD) : BI.Storable (upEmb : UEmb _ 𝕄) (any (F := F) c M d) := by
  unfold any; infer_instance

/-- A load of a slab reads what the slab is owned at. -/
theorem wp_load_slab (c d : Dev nD) (M : Memref sig .tc .vmem S32x24x768 .bf16) (q : PosShare TreeShare) (X : Slab F)
    {off : Fin 3 → ℕ} (hoff : off = ![d.val, 0, 0]) {inb : ∀ a, off a + S1x24x768.size a ≤ S32x24x768.size a}
    {hl : M.view.LoadsAt (Rect.unit (s := S32x24x768) off S1x24x768.size inb).toLoadRect}
    {α : Type} {Q : α → sProp 𝕄} {k : (S1x24x768.Idx → Elt F .bf16) → Prog (TpuEff nD τ sig (Elt F) Λ₀ .tc) α} :
    own c M d q X ⊢ iprop((own c M d q X -∗ wpk c (k X) Q)
      -∗ wpk c (.op (.load M (Rect.unit (s := S32x24x768) off S1x24x768.size inb).toLoadRect hl) k) Q) := by
  subst hoff
  unfold own owns
  iintro ⟨%f, %hf, H⟩ Hk
  iapply (wp_load_rect 𝒱₀ (c : Thread nD τ) none Set.univ (m := M) (r := slabR d) (Finset.Subset.refl _)) $$ H
  iintro H
  have hf' : ((M.access (slabR d)) : View sig .tc .vmem _ _).read (Elt F) f = X := hf
  rw [hf']
  iapply Hk
  iexists f
  isplitr; · ipureintro; exact hf
  iexact H

/-- A store into a slab leaves it owned at what was stored. -/
theorem wp_store_slab (c d : Dev nD) (M : Memref sig .tc .vmem S32x24x768 .bf16) (w : Slab F)
    {off : Fin 3 → ℕ} (hoff : off = ![d.val, 0, 0]) {inb : ∀ a, off a + S1x24x768.size a ≤ S32x24x768.size a}
    {hs : (M.access (Rect.unit (s := S32x24x768) off S1x24x768.size inb) : View sig .tc .vmem _ _).Stores Finset.univ}
    {ha}
    {α : Type} {Q : α → sProp 𝕄} {k : PUnit → Prog (TpuEff nD τ sig (Elt F) Λ₀ .tc) α} :
    any c M d ⊢ iprop((own c M d fullShare w -∗ wpk c (k ⟨⟩) Q)
      -∗ wpk c (.op (.store M (Rect.unit (s := S32x24x768) off S1x24x768.size inb) w Finset.univ hs ha) k) Q) := by
  subst hoff
  unfold any own owns
  iintro ⟨%X, %f, %hf, H⟩ Hk
  iapply (wp_store 𝒱₀ (c : Thread nD τ) none Set.univ (m := M) (r := slabR d) (w := w) (Mk := Finset.univ)
    (S := (slab M d).view.set) (f := f) (hx := hs) (hm := ha) (k := k) (Finset.Subset.refl _)) $$ H
  iintro H
  iapply Hk
  iexists _
  isplitr
  · ipureintro; exact View.read_write_univ (v := (M.access (slabR d) : View sig .tc .vmem _ _)) f w
  iexact H

/-- What a copy of one slab, its unit axis dropped, leaves in the slab it is copied to. -/
theorem copied (M M' : Memref sig .tc .vmem S32x24x768 .bf16) (d e : Dev nD)
    (fs : M.view.ty.Contents (Elt F)) (fd : M'.view.ty.Contents (Elt F)) :
    (slab M' e).view.read (Elt F) (((slab M' e).squeeze S24x768 squeezes_S1x24x768_S24x768).view.write (Elt F) fd
        (((slab M d).squeeze S24x768 squeezes_S1x24x768_S24x768).view.read (Elt F) fs) Finset.univ)
      = (slab M d).view.read (Elt F) fs := by
  funext x
  obtain ⟨y, rfl⟩ := (Shape.reshapeEquiv squeezes_S1x24x768_S24x768.numel_eq).surjective x
  exact View.read_write_reshape (slab M' e).view squeezes_S1x24x768_S24x768.numel_eq fd _ y

/-- Distinct slabs have no element in common, -/
theorem slab_disjoint (d e : Dev nD) (h : d ≠ e) : Disjoint (slabR d).set (slabR e).set := by
  refine Rect.unit_disjoint (0 : Fin 3) ?_
  have h' : d.val ≠ e.val := fun h' => h (Fin.ext h')
  show d.val + 1 ≤ e.val ∨ e.val + 1 ≤ d.val
  omega

/-- and the 32 slabs are the whole buffer. -/
theorem slab_cover : (Finset.univ : Finset (Dev nD)).biUnion (fun d => (slabR d).set) = Finset.univ := by
  refine Finset.eq_univ_iff_forall.mpr fun x => Finset.mem_biUnion.mpr ⟨x (0 : Fin 3), Finset.mem_univ _, ?_⟩
  refine Rect.mem_set_unit.mpr fun a => ?_
  have hlt := (x a).isLt
  match a, hlt with
  | ⟨0, _⟩, _ => exact ⟨le_refl _, Nat.lt_succ_self _⟩
  | ⟨1, _⟩, hlt => exact ⟨Nat.zero_le _, by rw [show (![(x (0 : Fin 3)).val, 0, 0] : Fin 3 → ℕ) ⟨1, by decide⟩ = 0 from rfl, Nat.zero_add]; exact hlt⟩
  | ⟨2, _⟩, hlt => exact ⟨Nat.zero_le _, by rw [show (![(x (0 : Fin 3)).val, 0, 0] : Fin 3 → ℕ) ⟨2, by decide⟩ = 0 from rfl, Nat.zero_add]; exact hlt⟩

theorem own_any (c : Dev nD) (M : Memref sig .tc .vmem S32x24x768 .bf16) (d : Dev nD) (X : Slab F) :
    own c M d fullShare X ⊢ any (F := F) c M d := by
  unfold any; iintro H; iexists X; iexact H

instance elt_nonempty (e : EltTy) : Nonempty (Elt F e) := by
  cases e
  all_goals first
    | exact ⟨(0 : BitVec _)⟩
    | exact ⟨FloatOps.ofBits (F := F) _ 0⟩

instance slab_nonempty : Nonempty (Slab F) := ⟨fun _ => Classical.choice (elt_nonempty (F := F) .bf16)⟩

/-- The slabs' elements together are the buffer's. -/
theorem slab_sets (M : Memref sig .tc .vmem S32x24x768 .bf16) :
    (Finset.univ : Finset (Dev nD)).biUnion (fun d => (slab M d).view.set) = M.view.set := by
  refine Finset.Subset.antisymm (Finset.biUnion_subset.mpr fun d _ => View.set_slice_subset _ _) fun i hi => ?_
  obtain ⟨x, -, rfl⟩ := Finset.mem_map.mp hi
  obtain ⟨d, -, hx⟩ := Finset.mem_biUnion.mp (slab_cover.symm ▸ Finset.mem_univ x)
  exact Finset.mem_biUnion.mpr ⟨d, Finset.mem_univ _, by
    show M.view.emb x ∈ (M.view.slice (slabR d)).set
    rw [View.set_slice]; exact Finset.mem_map_of_mem _ hx⟩

theorem slab_views_disjoint (M : Memref sig .tc .vmem S32x24x768 .bf16) (d e : Dev nD) (h : d ≠ e) :
    Disjoint (slab M d).view.set (slab M e).view.set := View.disjoint_slice (slab_disjoint d e h)

/-- A whole buffer is its 32 slabs, each at some contents; -/
theorem any_split (c : Dev nD) (M : Memref sig .tc .vmem S32x24x768 .bf16) (f : M.view.ty.Contents (Elt F)) :
    (M.view.loc (c : Thread nD τ) ↦[M.view.set]{fullShare} f : sProp 𝕄) ⊢ bigSep Finset.univ fun d => any (F := F) c M d := by
  rw [← slab_sets M, pointsTo_biUnion _ _ fun d _ e _ h => slab_views_disjoint M d e h]
  exact bigSep_mono fun d _ => (owns_intro (c : Thread nD τ) (slab M d) fullShare f).trans (own_any c M d _)

/-- and back. -/
theorem any_join (c : Dev nD) (M : Memref sig .tc .vmem S32x24x768 .bf16) :
    (bigSep Finset.univ fun d => any (F := F) c M d)
      ⊢ (iprop(∃ f, M.view.loc (c : Thread nD τ) ↦[M.view.set]{fullShare} f) : sProp 𝕄) := by
  unfold any own
  iintro H
  ihave H := (BI.bigSep_exists_pi Finset.univ fun (d : Dev nD) (X : Slab F) => (owns (c : Thread nD τ) (slab M d) fullShare X : sProp 𝕄)) $$ H
  icases H with ⟨%X, H⟩
  simp only [owns_eq_rep]
  ihave H := (pointsTo_biUnion_join (ℓ := M.view.loc (c : Thread nD τ)) (q := fullShare) (Finset.univ : Finset (Dev nD)) (fun d => (slab M d).view.set) (fun d => (slab M d).view.rep (X d))
    (fun _ => Classical.choice (elt_nonempty (F := F) _)) (fun d _ e _ h => slab_views_disjoint M d e h)) $$ H
  icases H with ⟨%g, -, H⟩
  rw [slab_sets]
  iexists g
  iexact H

/-- A slab held whole is held in shares dealt among a set of devices. -/
theorem own_deal (c : Dev nD) (M : Memref sig .tc .vmem S32x24x768 .bf16) (d : Dev nD) (X : Slab F) (s : Finset (Dev nD)) (hs : s.Nonempty) :
    (own c M d fullShare X : sProp 𝕄) = bigSep s fun i => own c M d (Transfers.dealOf fullShare s i) X := by
  unfold own
  simp only [owns_eq_rep]
  exact Transfers.pointsTo_deal s hs fullShare

end Cert.RunProof

end
-- ==== Proof.Contents.lean ====
/-
  What the buffers hold. A device computes 32 chunks of 24 rows, one per device; device `c` adds up the chunks made for it,
  in its own order, and its sum, rounded, is what every other device writes as the rows of `c`.
-/
module

public import proofs.«01_k».proof.Proof.Slots
public import Idealize.ShloMosaic.Lib.ValueIdx

@[expose] public section

noncomputable section

namespace Cert.RunProof

open Cert.KernelIdeal Cert.KernelIdeal.Gen
open Idealize.ShloMosaic
open Idealize.ShloMosaic.TcCoe
open Idealize.ShloMosaic.ValueIdx (ix2)

variable {F : FTy → Type} [FloatOps F]

/-- The three operands as each device has them. -/
structure Ins (F : FTy → Type) where
  x : Dev nD → Vec F S768x768 .bf16
  w1 : Dev nD → Vec F S768x1536 .bf16
  w2 : Dev nD → Vec F S1536x768 .bf16

variable (I : Ins F)

theorem dev_lt (d : Dev nD) : d.val < 32 := d.isLt

set_option backward.proofsInPublic true in
/-- The order in which device `c` fills and sends its chunks. -/
def ordS (c : Dev nD) (i : ℕ) : Dev nD := ⟨(c.val / 8 + i / 8) % 4 * 8 + i % 8, by show _ < 32; omega⟩
set_option backward.proofsInPublic true in
/-- The order in which device `c` adds up what the others sent it. -/
def ordR (c : Dev nD) (i : ℕ) : Dev nD := ⟨(c.val / 8 + 4 - i / 8 % 4) % 4 * 8 + i % 8, by show _ < 32; omega⟩
set_option backward.proofsInPublic true in
/-- The order of the device numbers. -/
def ordI (i : ℕ) : Dev nD := ⟨i % 32, by show _ < 32; omega⟩

set_option backward.proofsInPublic true in
/-- Row block `q` (of 192 rows) of device `c`'s copy of the first operand. -/
def xblk (c : Dev nD) (q : Fin 4) : Vec F S192x768 .bf16 := fun y =>
  I.x c (ix2 (n0 := 768) (n1 := 768) ⟨q.val * 192 + (y 0).val, by have := (y 0).isLt; have : (y 0).val < 192 := this; omega⟩ (y 1))

/-- The two products of a row block by the device's pieces of the weights. -/
def prod (c : Dev nD) (q : Fin 4) : FVec F S192x768 .bf16 := k0_pay3 (k0_pay1 (I.w1 c)) (k0_pay2 (I.w2 c)) (xblk I c q)

theorem slices (j : Fin 8) : S192x768.Slices ![24 * j.val, 0] S24x768 := by revert j; decide

/-- 24 rows of a block, as a slab. -/
def chunkOf (p : FVec F S192x768 .bf16) (j : Fin 8) : Slab F :=
  shapeCast S1x24x768 (extractStridedSlice S24x768 ![24 * j.val, 0] p (slices j)) shapeCasts_S24x768_S1x24x768

set_option backward.proofsInPublic true in
def grp (d : Dev nD) : Fin 4 := ⟨d.val / 8, by have := dev_lt d; omega⟩
set_option backward.proofsInPublic true in
def pos (d : Dev nD) : Fin 8 := ⟨d.val % 8, by omega⟩

/-- What device `c` computes for device `d`. -/
def chunk (c d : Dev nD) : Slab F := chunkOf (prod I c (grp d)) (pos d)

set_option backward.proofsInPublic true in
/-- The row block that device `c` works on in its round `k`. -/
def grpS (c : Dev nD) (k : ℕ) : Fin 4 := ⟨(c.val / 8 + k) % 4, by omega⟩

theorem chunk_ordS (c : Dev nD) (i : ℕ) : chunk I c (ordS c i) = chunkOf (prod I c (grpS c (i / 8))) ⟨i % 8, by omega⟩ := by
  unfold chunk
  rw [show grp (ordS c i) = grpS c (i / 8) from Fin.ext (by show ((c.val / 8 + i / 8) % 4 * 8 + i % 8) / 8 = (c.val / 8 + i / 8) % 4; omega),
    show pos (ordS c i) = ⟨i % 8, by omega⟩ from Fin.ext (by show ((c.val / 8 + i / 8) % 4 * 8 + i % 8) % 8 = i % 8; omega)]

/-- The device number and the group number, as the program computes them. -/
def wordD (c : Dev nD) : BitVec 32 := Scalar.remsi (Scalar.divsi (Dev.word c) 1#32) 32#32
def wordG (c : Dev nD) : BitVec 32 :=
  Scalar.select (Scalar.andi (Scalar.cmpi .ne
      (Scalar.subi (Scalar.extui (Scalar.cmpi .sgt (wordD c) 0#32)) (Scalar.extui (Scalar.cmpi .slt (wordD c) 0#32)))
      (Scalar.subi (Scalar.extui (Scalar.cmpi .sgt 8#32 0#32)) (Scalar.extui (Scalar.cmpi .slt 8#32 0#32))))
    (Scalar.cmpi .ne (Scalar.remsi (wordD c) 8#32) 0#32)) (Scalar.subi (Scalar.divsi (wordD c) 8#32) 1#32) (Scalar.divsi (wordD c) 8#32)

/-- Whether the chunk added at place `8 k + j` is the device's own. -/
def selfBit (vD vG k j : BitVec 32) : BitVec 1 :=
  Scalar.cmpi .eq (Scalar.addi (Scalar.muli
    (Scalar.select
      (Scalar.andi (Scalar.xori (Scalar.cmpi .slt (Scalar.remsi (Scalar.subi vG k) (Scalar.select (Scalar.cmpi .eq 4#32 0#32) 1#32 4#32)) 0#32)
          (Scalar.cmpi .slt (Scalar.select (Scalar.cmpi .eq 4#32 0#32) 1#32 4#32) 0#32))
        (Scalar.cmpi .ne (Scalar.remsi (Scalar.subi vG k) (Scalar.select (Scalar.cmpi .eq 4#32 0#32) 1#32 4#32)) 0#32))
      (Scalar.addi (Scalar.remsi (Scalar.subi vG k) (Scalar.select (Scalar.cmpi .eq 4#32 0#32) 1#32 4#32)) (Scalar.select (Scalar.cmpi .eq 4#32 0#32) 1#32 4#32))
      (Scalar.remsi (Scalar.subi vG k) (Scalar.select (Scalar.cmpi .eq 4#32 0#32) 1#32 4#32))) 8#32) j) vD

/-- Adding one chunk, left out when the bit is set. -/
def addChunk (r : FVec F S24x768 .f32) (b : BitVec 1) (X : Slab F) : FVec F S24x768 .f32 :=
  addf r (Scalar.select b (k0_pay47 (F := F)) (k0_pay46 X))

/-- The running sum of device `c` after `i` places. -/
def red (c : Dev nD) : ℕ → FVec F S24x768 .f32
  | 0 => k0_pay46 (chunk I c c)
  | i + 1 => addChunk (red c i) (selfBit (wordD c) (wordG c) (BitVec.ofNat 32 (i / 8)) (BitVec.ofNat 32 (i % 8))) (chunk I (ordR c i) c)

/-- The whole sum, and the slab it is sent as. -/
def redb (c : Dev nD) : Slab F := shapeCast S1x24x768 (truncf .bf16 (red I c 32) bitsLt_bf16_f32) shapeCasts_S24x768_S1x24x768

/-- The rows of device `n` in device `c`'s result. -/
def outBlk (c n : Dev nD) : FVec F S24x768 .f32 := if n = c then red I c 32 else k0_pay74 (redb I n)

set_option backward.proofsInPublic true in
/-- Device `c`'s result. -/
def outAt (c : Dev nD) : Vec F S768x768 .f32 := fun y =>
  outBlk I c ⟨(y 0).val / 24, by have : (y 0).val < 768 := (y 0).isLt; show _ < 32; omega⟩ (ix2 (n0 := 24) (n1 := 768) ⟨(y 0).val % 24, by omega⟩ (y 1))

/-- The bit says what it is named after. -/
theorem selfBit_eq : ∀ (c : Dev nD) (i : Fin 32), selfBit (wordD c) (wordG c) (BitVec.ofNat 32 (i.val / 8)) (BitVec.ofNat 32 (i.val % 8))
    = if ordR c i.val = c then 1#1 else 0#1 := by decide +kernel

end Cert.RunProof

end
-- ==== Proof.Protocol.lean ====
/-
  The synchronization of the devices: one semaphore cell per wait. Every device signals every other device's barrier
  cell, which hands it the slabs those devices let it write; a copy of a chunk credits a send cell of the sender and a
  receive cell of the receiver, and likewise a copy of a sum. Each cell is used for one round.
-/
module

public import proofs.«01_k».proof.Proof.Contents

@[expose] public section

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-! ## The cells -/

abbrev barS : Sem sig := (SemArray.scalar (sig.barrier 0 rfl) : Sems sig S_).sem
abbrev barCell (c : Dev nD) : GSem nD τ sig := ((c : Thread nD τ), .reg barS)

set_option backward.proofsInPublic true in
/-- The DMA semaphores: families 0 and 1 the sends of the chunks and of the sums, 2 and 3 the receives. -/
def dsem (a : Fin 4) (i : Dev nD) : DmaSem sig := ⟨4 + (32 * a.val + i.val), by have := a.isLt; have := dev_lt i; show _ < 132; omega⟩
abbrev dc (a : Fin 4) (c i : Dev nD) : GSem nD τ sig := ((c : Thread nD τ), .dma (dsem a i))

set_option backward.proofsInPublic true in
def semIdx (q : DmaSem sig) : Dev nD := ⟨(q.val - 4) % 32, by show _ < 32; omega⟩
def semFam (q : DmaSem sig) : ℕ := (q.val - 4) / 32

theorem semIdx_dsem (a : Fin 4) (i : Dev nD) : semIdx (dsem a i) = i :=
  Fin.ext (by show (4 + (32 * a.val + i.val) - 4) % 32 = i.val; have := dev_lt i; omega)
theorem semFam_dsem (a : Fin 4) (i : Dev nD) : semFam (dsem a i) = a.val := by
  show (4 + (32 * a.val + i.val) - 4) / 32 = a.val; have := dev_lt i; omega
theorem dsem_ge (a : Fin 4) (i : Dev nD) : 4 ≤ (dsem a i).val := Nat.le_add_right _ _

theorem dsem_inj {a a' : Fin 4} {i i' : Dev nD} (h : dsem a i = dsem a' i') : a = a' ∧ i = i' :=
  ⟨Fin.ext (by rw [← semFam_dsem a i, ← semFam_dsem a' i', h]), by rw [← semIdx_dsem a i, ← semIdx_dsem a' i', h]⟩

/-- The cell of an element of a semaphore array. -/
theorem sem_at (a : Fin 4) (i : Dev nD) {off : Fin 1 → ℕ} (hoff : off = ![i.val]) {inb : ∀ x, off x + S1.size x ≤ S32.size x} :
    ((((match a with | 0 => cc0_scratch3 | 1 => cc0_scratch4 | 2 => cc0_scratch5 | 3 => cc0_scratch6 : DmaSems sig S32).slice
        (Rect.unit (s := S32) off S1.size inb)).squeeze S_ squeezes_S1_S_).sem : DmaSem sig) = dsem a i := by
  subst hoff
  fin_cases a <;> (revert i; decide +kernel)

/-- The credit of a copy of one slab. -/
abbrev N : ℕ := ((slab sndM 0).squeeze S24x768 squeezes_S1x24x768_S24x768).view.dmaCredit
theorem N_pos : 0 < N := View.dmaCredit_pos _ (by decide)

/-! ## The schedule -/

/-- The peers of a device. -/
abbrev peers (c : Dev nD) : Finset (Dev nD) := Finset.univ.erase c

theorem peers_nonempty (c : Dev nD) : (peers c).Nonempty := by revert c; decide

/-- The share of its sum that device `c` lends to the copy for device `d`. -/
abbrev lent (c d : Dev nD) : PosShare TreeShare := Transfers.dealOf fullShare (peers c) d

/-- What arrives with the credit of a DMA cell: the slab sent is back, or the slab received is there. -/
def dmaPay (a : ℕ) (c i : Dev nD) : sProp 𝕄 :=
  if a = 0 then own c sndM i fullShare (chunk I c i)
  else if a = 1 then own c rc2M c (lent c i) (redb I c)
  else if a = 2 then own c rc1M i fullShare (chunk I i c)
  else own c rc2M i fullShare (redb I i)

/-- What arrives with the signal of device `d`: its slabs for the device signalled. -/
def barPay (c d : Dev nD) : sProp 𝕄 := iprop(any d rc1M c ∗ any d rc2M c)

def sched : Rounds.Schedule (GSem nD τ sig) (Dev nD) 𝕄 where
  duties g r := if r = 0 ∧ g.1.2 = .tc then
      (match g.2 with
      | .reg s => if s = barS then peers g.1.1 else ∅
      | .dma q => if 4 ≤ q.val ∧ semIdx q ≠ g.1.1 then {semIdx q} else ∅)
    else ∅
  unitless _ := False
  amount g _ _ := match g.2 with | .reg _ => 1 | .dma _ => N
  payload g _ d := match g.2 with
    | .reg _ => barPay g.1.1 d
    | .dma q => dmaPay I (semFam q) g.1.1 d
  amount_pos g _ _ _ := by
    obtain ⟨t, s⟩ := g
    cases s
    · exact Nat.one_pos
    · exact N_pos

instance dmaPay_storable (a : ℕ) (c i : Dev nD) : BI.Storable (upEmb : UEmb _ 𝕄) (dmaPay I a c i) := by
  unfold dmaPay
  (repeat' split) <;> infer_instance

instance sched_storable (g : GSem nD τ sig) (r : ℕ) (d : Dev nD) :
    BI.Storable (upEmb : UEmb _ 𝕄) ((sched I).payload g r d) := by
  obtain ⟨t, s⟩ := g
  cases s
  · show BI.Storable upEmb (barPay t.1 d); unfold barPay; infer_instance
  · show BI.Storable upEmb (dmaPay I (semFam _) t.1 d); infer_instance

theorem duties_bar (c : Dev nD) : (sched I).duties (barCell c) 0 = peers c := by
  dsimp only [sched]; rw [if_pos ⟨rfl, rfl⟩, if_pos rfl]
theorem duties_dma (a : Fin 4) (c i : Dev nD) (h : i ≠ c) : (sched I).duties (dc a c i) 0 = {i} := by
  dsimp only [sched]
  rw [if_pos ⟨rfl, rfl⟩, if_pos ⟨dsem_ge a i, by rw [semIdx_dsem]; exact h⟩, semIdx_dsem]
theorem duties_self (a : Fin 4) (c : Dev nD) : (sched I).duties (dc a c c) 0 = ∅ := by
  dsimp only [sched]
  rw [if_pos ⟨rfl, rfl⟩, if_neg fun h => h.2 (semIdx_dsem a c)]
theorem duties_later (g : GSem nD τ sig) : ∀ r, 1 ≤ r → (sched I).duties g r = ∅ :=
  fun r hr => by dsimp only [sched]; rw [if_neg fun h => by omega]

theorem expect_bar (c : Dev nD) : (sched I).expect (barCell c) 0 = 31 := by
  unfold Schedule.expect Schedule.amountOf
  rw [duties_bar, Finset.sum_congr rfl fun d _ => (show (sched I).amount (barCell c) 0 d = 1 from rfl), Finset.sum_const,
    Finset.card_erase_of_mem (Finset.mem_univ c), Finset.card_univ, smul_eq_mul]
  rfl
theorem expect_dma (a : Fin 4) (c i : Dev nD) (h : i ≠ c) : (sched I).expect (dc a c i) 0 = N := by
  unfold Schedule.expect Schedule.amountOf; rw [duties_dma I a c i h, Finset.sum_singleton]; rfl

theorem rest_bar (c : Dev nD) : bigSep ((sched I).duties (barCell c) 0 \ ∅) (fun d => (sched I).payload (barCell c) 0 d)
    = bigSep (peers c) (fun d => barPay c d) := by
  rw [Finset.sdiff_empty, duties_bar]; rfl
theorem payload_dma (a : Fin 4) (c i d : Dev nD) : (sched I).payload (dc a c i) 0 d = dmaPay I a.val c d := by
  dsimp only [sched]; rw [semFam_dsem]
theorem rest_dma (a : Fin 4) (c i : Dev nD) (h : i ≠ c) :
    bigSep ((sched I).duties (dc a c i) 0 \ ∅) (fun d => (sched I).payload (dc a c i) 0 d) = dmaPay I a.val c i := by
  rw [Finset.sdiff_empty, duties_dma I a c i h, bigSep_singleton, payload_dma]

/-! ## The orders -/

/-- The devices not among the first `i` of an order. -/
def left (o : ℕ → Dev nD) (i : ℕ) : Finset (Dev nD) := Finset.univ.filter fun d => ∀ j < i, o j ≠ d

/-- An order goes through every device once. -/
def IsOrd (o : ℕ → Dev nD) : Prop := (∀ i < 32, ∀ j < i, o j ≠ o i) ∧ ∀ d : Dev nD, ∃ j < 32, o j = d

theorem isOrdS : ∀ c : Dev nD, IsOrd (ordS c) := by unfold IsOrd; decide +kernel
theorem isOrdR : ∀ c : Dev nD, IsOrd (ordR c) := by unfold IsOrd; decide +kernel
theorem isOrdI : IsOrd ordI := by unfold IsOrd; decide +kernel

section Orders
variable {o : ℕ → Dev nD}

theorem left_zero : left o 0 = Finset.univ := Finset.filter_true_of_mem fun _ _ _ h => absurd h (Nat.not_lt_zero _)
theorem left_end (h : IsOrd o) : left o 32 = ∅ := Finset.filter_false_of_mem fun d _ hd => by
  obtain ⟨j, hj, hjd⟩ := h.2 d; exact hd j hj hjd
theorem mem_left (h : IsOrd o) {i : ℕ} (hi : i < 32) : o i ∈ left o i := Finset.mem_filter.mpr ⟨Finset.mem_univ _, h.1 i hi⟩
theorem left_succ (i : ℕ) : left o (i + 1) = (left o i).erase (o i) := by
  ext d
  rw [Finset.mem_erase, left, left, Finset.mem_filter, Finset.mem_filter]
  constructor
  · exact fun ⟨_, h⟩ => ⟨fun h' => h i (Nat.lt_succ_self _) h'.symm, Finset.mem_univ _, fun j hj => h j (Nat.lt_succ_of_lt hj)⟩
  · rintro ⟨h, _, h'⟩
    refine ⟨Finset.mem_univ _, fun j hj => ?_⟩
    rcases Nat.lt_succ_iff_lt_or_eq.mp hj with hj | rfl
    · exact h' j hj
    · exact fun e => h e.symm
theorem not_mem_left {i j : ℕ} (h : j < i) : o j ∉ left o i := fun h' => (Finset.mem_filter.mp h').2 j h rfl

/-- A pass over the devices in an order: the first `i` are done, the others are to do. -/
def phase (o : ℕ → Dev nD) (T D : Dev nD → sProp 𝕄) (i : ℕ) : sProp 𝕄 := bigSep Finset.univ fun d => if d ∈ left o i then T d else D d

theorem phase_zero (T D : Dev nD → sProp 𝕄) : phase o T D 0 = bigSep Finset.univ T :=
  bigSep_congr fun d _ => if_pos (by rw [left_zero]; exact Finset.mem_univ d)
theorem phase_end (h : IsOrd o) (T D : Dev nD → sProp 𝕄) : phase o T D 32 = bigSep Finset.univ D :=
  bigSep_congr fun d _ => if_neg (by rw [left_end h]; exact Finset.notMem_empty d)
/-- One step of a pass. -/
theorem phase_step (h : IsOrd o) (T D : Dev nD → sProp 𝕄) {i : ℕ} (hi : i < 32) :
    phase o T D i ⊢ iprop(T (o i) ∗ (D (o i) -∗ phase o T D (i + 1))) := by
  have h1 : phase o T D i = iprop(T (o i) ∗ bigSep (Finset.univ.erase (o i)) fun d => if d ∈ left o i then T d else D d) := by
    unfold phase; rw [bigSep_erase (Finset.mem_univ (o i)), if_pos (mem_left h hi)]; rfl
  have h2 : phase o T D (i + 1) = iprop(D (o i) ∗ bigSep (Finset.univ.erase (o i)) fun d => if d ∈ left o i then T d else D d) := by
    unfold phase
    rw [bigSep_erase (Finset.mem_univ (o i)), if_neg (not_mem_left (Nat.lt_succ_self i))]
    refine congrArg (fun X => iprop(D (o i) ∗ X)) (bigSep_congr fun d hd => ?_)
    rw [left_succ]
    exact if_congr (Finset.mem_erase.trans ⟨fun h => h.2, fun h => ⟨Finset.ne_of_mem_erase hd, h⟩⟩) rfl rfl
  rw [h1, h2]
  iintro ⟨H, Hr⟩
  isplitl [H]; · iexact H
  iintro H
  isplitl [H] <;> iassumption
/-- One device of a pass that is done with, looked at. -/
theorem phase_done (T D : Dev nD → sProp 𝕄) {i j : ℕ} (hj : j < i) :
    phase o T D i ⊢ iprop(D (o j) ∗ (D (o j) -∗ phase o T D i)) := by
  have h1 : phase o T D i = iprop(D (o j) ∗ bigSep (Finset.univ.erase (o j)) fun d => if d ∈ left o i then T d else D d) := by
    unfold phase; rw [bigSep_erase (Finset.mem_univ (o j)), if_neg (not_mem_left hj)]; rfl
  rw [h1]
  iintro ⟨H, Hr⟩
  isplitl [H]; · iexact H
  iintro H
  isplitl [H] <;> iassumption

/-- What is owed to the devices to come. -/
def owing (o : ℕ → Dev nD) (t : Dev nD → CellTallies nD τ sig Unit) (i : ℕ) : CellTallies nD τ sig Unit := ∑ d ∈ left o i, t d
theorem owing_step (h : IsOrd o) (t : Dev nD → CellTallies nD τ sig Unit) {i : ℕ} (hi : i < 32) : owing o t i = owing o t (i + 1) + t (o i) := by
  unfold owing; rw [left_succ, Finset.sum_erase_add _ _ (mem_left h hi)]
theorem owing_end (h : IsOrd o) (t : Dev nD → CellTallies nD τ sig Unit) : owing o t 32 = 0 := by
  unfold owing; rw [left_end h]; exact Finset.sum_empty
theorem owing_zero (t : Dev nD → CellTallies nD τ sig Unit) : owing o t 0 = ∑ d, t d := by
  unfold owing; rw [left_zero]
theorem owing_pos (t : Dev nD → CellTallies nD τ sig Unit) {i : ℕ} {g : GSem nD τ sig} {u : Unit} (h : 0 < owing o t i g u) :
    ∃ d, 0 < t d g u := by
  unfold owing at h
  rw [Finset.sum_apply, Finsupp.finset_sum_apply] at h
  by_contra hn
  rw [Finset.sum_eq_zero fun d _ => Nat.eq_zero_of_not_pos fun hp => hn ⟨d, hp⟩] at h
  exact Nat.lt_irrefl 0 h

end Orders

/-! ## What a device owes, and the levels -/

/-- To device `d`: a barrier signal, the credit of its chunk, the credit of the sum. -/
def tB (c d : Dev nD) : CellTallies nD τ sig Unit := if d = c then 0 else tallyAt (barCell d) () 1
def t1 (c d : Dev nD) : CellTallies nD τ sig Unit := if d = c then 0 else tallyAt (dc 2 d c) () N
def t2 (c d : Dev nD) : CellTallies nD τ sig Unit := if d = c then 0 else tallyAt (dc 3 d c) () N

theorem tB_self {c d : Dev nD} (h : d = c) : tB c d = 0 := if_pos h
theorem t1_self {c d : Dev nD} (h : d = c) : t1 c d = 0 := if_pos h
theorem t2_self {c d : Dev nD} (h : d = c) : t2 c d = 0 := if_pos h
theorem tB_peer {c d : Dev nD} (h : d ≠ c) : tB c d = tallyAt (barCell d) () 1 := if_neg h
theorem t1_peer {c d : Dev nD} (h : d ≠ c) : t1 c d = tallyAt (dc 2 d c) () N := if_neg h
theorem t2_peer {c d : Dev nD} (h : d ≠ c) : t2 c d = tallyAt (dc 3 d c) () N := if_neg h

/-- What device `c` owes at launch. -/
def O₀ (c : Dev nD) : CellTallies nD τ sig Unit := owing ordI (t2 c) 0 + owing (ordS c) (t1 c) 0 + owing ordI (tB c) 0

def L (g : GSem nD τ sig) : Finset Unit := if g.1.2 = .tc then {()} else ∅
/-- Barrier cells at 1, the receives of the chunks at 2, of the sums at 3, everything else at 0. -/
def lv (g : GSem nD τ sig) (_ : Unit) : ℕ := match g.2 with
  | .reg _ => 1
  | .dma q => if semFam q = 2 then 2 else if semFam q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem tB_pos {c d : Dev nD} {g : GSem nD τ sig} {u : Unit} (h : 0 < tB c d g u) : g = barCell d := by
  unfold tB at h
  split at h
  · exact absurd h (Nat.lt_irrefl 0)
  · rw [tallyAt_apply] at h; by_contra hn; rw [if_neg fun h' => hn h'.1] at h; exact Nat.lt_irrefl 0 h
theorem t1_pos {c d : Dev nD} {g : GSem nD τ sig} {u : Unit} (h : 0 < t1 c d g u) : g = dc 2 d c := by
  unfold t1 at h
  split at h
  · exact absurd h (Nat.lt_irrefl 0)
  · rw [tallyAt_apply] at h; by_contra hn; rw [if_neg fun h' => hn h'.1] at h; exact Nat.lt_irrefl 0 h
theorem t2_pos {c d : Dev nD} {g : GSem nD τ sig} {u : Unit} (h : 0 < t2 c d g u) : g = dc 3 d c := by
  unfold t2 at h
  split at h
  · exact absurd h (Nat.lt_irrefl 0)
  · rw [tallyAt_apply] at h; by_contra hn; rw [if_neg fun h' => hn h'.1] at h; exact Nat.lt_irrefl 0 h

theorem lv_bar (d : Dev nD) (u : Unit) : lv (barCell d) u = 1 := rfl
theorem lv_dc2 (d i : Dev nD) (u : Unit) : lv (dc 2 d i) u = 2 := by show (if semFam (dsem 2 i) = 2 then _ else _) = 2; rw [semFam_dsem]; rfl
theorem lv_dc3 (d i : Dev nD) (u : Unit) : lv (dc 3 d i) u = 3 := by show (if semFam (dsem 3 i) = 2 then _ else _) = 3; rw [semFam_dsem]; rfl

/-- What is owed in the three passes, at the levels of the cells owed. -/
theorem owed_lv {c : Dev nD} {i j k : ℕ} {g : GSem nD τ sig} {u : Unit}
    (h : 0 < (owing ordI (t2 c) i + owing (ordS c) (t1 c) j + owing ordI (tB c) k) g u) :
    u ∈ L g ∧ 0 < lv g u := by
  rw [Pi.add_apply, Finsupp.add_apply, Pi.add_apply, Finsupp.add_apply] at h
  have h3 : 0 < owing ordI (t2 c) i g u ∨ 0 < owing (ordS c) (t1 c) j g u ∨ 0 < owing ordI (tB c) k g u := by omega
  rcases h3 with h | h | h
  · obtain ⟨d, hd⟩ := owing_pos _ h; rw [t2_pos hd, L_tc, lv_dc3]; exact ⟨Finset.mem_singleton_self _, by decide⟩
  · obtain ⟨d, hd⟩ := owing_pos _ h; rw [t1_pos hd, L_tc, lv_dc2]; exact ⟨Finset.mem_singleton_self _, by decide⟩
  · obtain ⟨d, hd⟩ := owing_pos _ h; rw [tB_pos hd, L_tc, lv_bar]; exact ⟨Finset.mem_singleton_self _, by decide⟩

/-- A device may wait for its barrier while it owes chunks and sums, -/
theorem mayWait_bar (c : Dev nD) (i j : ℕ) :
    (levAts L lv : sProp 𝕄) ⊢ MayWait (c : Thread nD τ) (.reg barS) () (owing ordI (t2 c) i + owing (ordS c) (t1 c) j) := by
  have key : ∀ (g : GSem nD τ sig) (u : Unit), 0 < (owing ordI (t2 c) i + owing (ordS c) (t1 c) j) g u → u ∈ L g ∧ 1 < lv g u := by
    intro g u h
    rw [Pi.add_apply, Finsupp.add_apply] at h
    have h3 : 0 < owing ordI (t2 c) i g u ∨ 0 < owing (ordS c) (t1 c) j g u := by omega
    rcases h3 with h | h
    · obtain ⟨d, hd⟩ := owing_pos _ h; rw [t2_pos hd, L_tc, lv_dc3]; exact ⟨Finset.mem_singleton_self _, by decide⟩
    · obtain ⟨d, hd⟩ := owing_pos _ h; rw [t1_pos hd, L_tc, lv_dc2]; exact ⟨Finset.mem_singleton_self _, by decide⟩
  exact MayOwe.of_cut (L := L) (lev := lv) 1 (fun p hp => by rw [Finset.mem_singleton.mp hp, L_tc]; exact Finset.mem_singleton_self _)
    (fun g u hg => (key g u hg).1) (fun p hp => by rw [Finset.mem_singleton.mp hp]; exact le_refl _) (fun g u hg => (key g u hg).2)

/-- for a chunk while it owes sums, -/
theorem mayWait_chunk (c s : Dev nD) (i : ℕ) :
    (levAts L lv : sProp 𝕄) ⊢ MayWait (c : Thread nD τ) (.dma (dsem 2 s)) () (owing ordI (t2 c) i) := by
  have key : ∀ (g : GSem nD τ sig) (u : Unit), 0 < owing ordI (t2 c) i g u → u ∈ L g ∧ 2 < lv g u := fun g u h => by
    obtain ⟨d, hd⟩ := owing_pos _ h; rw [t2_pos hd, L_tc, lv_dc3]; exact ⟨Finset.mem_singleton_self _, by decide⟩
  exact MayOwe.of_cut (L := L) (lev := lv) 2 (fun p hp => by rw [Finset.mem_singleton.mp hp, L_tc]; exact Finset.mem_singleton_self _)
    (fun g u hg => (key g u hg).1) (fun p hp => by rw [Finset.mem_singleton.mp hp]; exact le_of_eq (lv_dc2 c s _)) (fun g u hg => (key g u hg).2)

/-- and for the copies to and from its own arrays whatever it owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (owed_lv hg).1) (fun p hp => ?_) (fun g u hg => (owed_lv hg).2)
    rw [Finset.mem_singleton.mp hp]
    show (if semFam q = 2 then 2 else if semFam q = 3 then 3 else 0) ≤ 0
    have h0 : semFam q = 0 := by unfold semFam; omega
    rw [h0]; decide
  · rw [MayWait_zero]; iintro -; iempintro

theorem mayWait_none (c : Dev nD) (sm : SemLoc sig) : (levAts L lv : sProp 𝕄) ⊢ MayWait (c : Thread nD τ) sm () 0 := by
  rw [MayWait_zero]; iintro -; iempintro

/-! ## What every device knows -/

abbrev Cell : Type := Dev nD × Option (Fin 4 × Dev nD)
abbrev cellAt : Cell → GSem nD τ sig
  | (c, none) => barCell c
  | (c, some (a, i)) => dc a c i

/-- Every cell's invariant, and that every cell has reached its round. -/
def recs (K : Cell → ℕ) : sProp 𝕄 :=
  iprop((bigSep Finset.univ fun x : Cell => iprop(cellInv ER (sched I) (K x) (cellAt x) ∗ reached ER (cellAt x) 0)) ∗ levAts L lv)

instance recs_persistent (K : Cell → ℕ) : BI.Persistent (recs I K) := by unfold recs; infer_instance

theorem recs_cell (K : Cell → ℕ) (x : Cell) :
    recs I K ⊢ iprop(cellInv ER (sched I) (K x) (cellAt x) ∗ reached ER (cellAt x) 0) := by
  unfold recs
  iintro ⟨H, -⟩
  ihave H := (Rounds.bigSep_pick (Finset.mem_univ x)) $$ H
  icases H with ⟨H, -⟩
  iexact H
theorem recs_lev (K : Cell → ℕ) : recs I K ⊢ (levAts L lv : sProp 𝕄) := by
  unfold recs
  iintro ⟨-, H⟩
  iexact H

/-- What device `c` owes now. -/
def owesE (c : Dev nD) (O : CellTallies nD τ sig Unit) : sProp 𝕄 := iprop(∃ W, owes (c : Thread nD τ) O W)

end Cert.RunProof

end
-- ==== Proof.Signal.lean ====
/-
  The first pass: a device signals the barrier cell of each of the others, and hands over the slabs the signalled device
  will write.
-/
module

public import proofs.«01_k».proof.Proof.Protocol

@[expose] public section

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-- To signal device `d`: the right to, and the slabs handed over. -/
def tA (d : Dev nD) : sProp 𝕄 := if d = c then iprop(emp) else iprop(dutyTok ER (barCell d) 0 c ∗ barPay d c)

/-- After `i` signals. -/
def stA (i : ℕ) : sProp 𝕄 :=
  iprop(recs I K ∗ owesE c (owing ordI (t2 c) 0 + owing (ordS c) (t1 c) 0 + owing ordI (tB c) i) ∗ phase ordI (tA c) (fun _ => iprop(emp)) i)

theorem tA_self : tA (F := F) c c = iprop(emp) := if_pos rfl
theorem tA_peer {d : Dev nD} (h : d ≠ c) : tA (F := F) c d = iprop(dutyTok ER (barCell d) 0 c ∗ barPay d c) := if_neg h

/-- A signal of one unit. -/
theorem signal_op (d : Dev nD) {α : Type} (e : Prog (TpuEff nD τ sig (Elt F) Λ₀ .tc) α) :
    (semSignalWord d barS 1#32 >>= fun _ => e) = .op (.semSignal (d : Thread nD τ) barS 1) (fun _ => e) := rfl

theorem payload_bar (d : Dev nD) : barPay d c ⊢ (sched I).payload (barCell d) 0 c := .rfl

theorem mem_peers {c d : Dev nD} (h : d ≠ c) : c ∈ peers d := Finset.mem_erase.mpr ⟨h.symm, Finset.mem_univ c⟩

/-- One signal, left out at the device's own number. -/
theorem signal_step (i : ℕ) {cond : BitVec 1} {dev : cond = 1#1 → Dev nD} {α : Type} {e : Prog (TpuEff nD τ sig (Elt F) Λ₀ .tc) α}
    {Q : α → sProp 𝕄} {R : sProp 𝕄} (hdev : ∀ h, dev h = ordI i)
    (hk : iprop(stA I K c (i + 1) ∗ R) ⊢ wpk c e Q)
    (hi : i < 32 := by decide) (hcond : cond = 1#1 ↔ ordI i ≠ c := by clear * -; revert c; decide +kernel) :
    iprop(stA I K c i ∗ R) ⊢ wpk c (if h : cond = 1#1 then semSignalWord (dev h : Dev nD) barS 1#32 >>= fun _ => e else e) Q := by
  have hp := phase_step isOrdI (tA (F := F) c) (fun _ => iprop(emp)) hi
  unfold stA owesE at hk ⊢
  rw [owing_step isOrdI (tB c) hi]
  by_cases h : ordI i = c
  · rw [dif_neg (fun h' => hcond.mp h' h), tB_self h, add_zero]
    iintro ⟨⟨#Hr, HO, Hp⟩, HR⟩
    ihave Hp := hp $$ Hp
    icases Hp with ⟨-, Hp⟩
    iapply hk
    isplitr [HR]
    · isplitr; · iexact Hr
      isplitl [HO]; · iexact HO
      iapply Hp; iempintro
    · iexact HR
  · rw [tA_peer c h] at hp
    rw [dif_pos (hcond.mpr h), hdev, tB_peer h, signal_op]
    iintro ⟨⟨#Hr, ⟨%W, HO⟩, Hp⟩, HR⟩
    ihave Hp := hp $$ Hp
    icases Hp with ⟨⟨Htok, Hpay⟩, Hp⟩
    ihave Hc := (recs_cell I K (ordI i, none)) $$ Hr
    icases Hc with ⟨Hinv, Hreach⟩
    iapply (Rounds.wp_signal 𝒱₀ ER (sched I) (c : Thread nD τ) none (dst := (ordI i : Thread nD τ)) (κ := K (ordI i, none)) (d := c)
      (r := 0) (k := fun _ => e) (by rw [duties_bar]; exact mem_peers h) rfl () _ (add_assoc _ _ _).symm) $$ [HO Htok Hpay Hinv Hreach]
    · isplitl [Hinv]; · iexact Hinv
      isplitl [HO]; · iexact HO
      isplitl [Htok]; · iexact Htok
      isplitl [Hpay]; · iapply (payload_bar I c (ordI i)); iexact Hpay
      iexact Hreach
    iintro HO
    iapply hk
    isplitr [HR]
    · isplitr; · iexact Hr
      isplitl [HO]; · iexists W; iexact HO
      iapply Hp; iempintro
    · iexact HR

end Cert.RunProof

end
-- ==== Proof.Copies.lean ====
/-
  A slab copied to another device.
-/
module

public import proofs.«01_k».proof.Proof.Signal

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ)

/-- The slab at an offset, its unit axis dropped. -/
abbrev slabAt (M : Memref sig .tc .vmem S32x24x768 .bf16) (o : Fin 3 → ℕ) (i : ∀ a, o a + S1x24x768.size a ≤ S32x24x768.size a) :
    Memref sig .tc .vmem S24x768 .bf16 :=
  (M.slice (Rect.unit (s := S32x24x768) o S1x24x768.size i) (fun _ => rfl)).squeeze S24x768 squeezes_S1x24x768_S24x768

/-- A slab with its unit axis dropped has the elements of the slab. -/
theorem squeezed_pts (c : Dev nD) (M : Memref sig .tc .vmem S32x24x768 .bf16) (d : Dev nD) (q : PosShare TreeShare) (f) :
    (((slab M d).squeeze S24x768 squeezes_S1x24x768_S24x768).view.loc (c : Thread nD τ)
        ↦[((slab M d).squeeze S24x768 squeezes_S1x24x768_S24x768).view.set]{q} f : sProp 𝕄)
      = ((slab M d).view.loc (c : Thread nD τ) ↦[(slab M d).view.set]{q} f) := by
  rw [show ((slab M d).squeeze S24x768 squeezes_S1x24x768_S24x768).view.set = (slab M d).view.set from View.set_reshape _ _]

theorem squeezed_in (c : Dev nD) (M : Memref sig .tc .vmem S32x24x768 .bf16) (d : Dev nD) (q : PosShare TreeShare) (f) :
    ((slab M d).view.loc (c : Thread nD τ) ↦[(slab M d).view.set]{q} f : sProp 𝕄)
      ⊢ (((slab M d).squeeze S24x768 squeezes_S1x24x768_S24x768).view.loc (c : Thread nD τ)
        ↦[((slab M d).squeeze S24x768 squeezes_S1x24x768_S24x768).view.set]{q} f) := by
  rw [squeezed_pts]

theorem own_of (c : Dev nD) (M : Memref sig .tc .vmem S32x24x768 .bf16) (d : Dev nD) (q : PosShare TreeShare) (f) (X : Slab F)
    (h : (slab M d).view.read (Elt F) f = X) :
    (((slab M d).squeeze S24x768 squeezes_S1x24x768_S24x768).view.loc (c : Thread nD τ)
        ↦[((slab M d).squeeze S24x768 squeezes_S1x24x768_S24x768).view.set]{q} f : sProp 𝕄) ⊢ own c M d q X := by
  rw [squeezed_pts]
  unfold own owns
  iintro H
  iexists f
  isplitr; · ipureintro; exact h
  iexact H

/-- A copy of one slab to another device: the sender's slab goes to the cell it is waited for at, and what arrives is
    the receiver's slab, written over. -/
theorem copy_slab (c d s : Dev nD) (hd : d ≠ c) (a₁ a₂ : Fin 4) (M M' : Memref sig .tc .vmem S32x24x768 .bf16)
    (q : PosShare TreeShare) (X : Slab F)
    (hp₁ : own c M s q X ⊢ dmaPay I a₁.val c d) (hp₂ : own d M' c fullShare X ⊢ dmaPay I a₂.val d c)
    (O : CellTallies nD τ sig Unit)
    {s₁ s₂ : DmaSem sig} (h₁ : s₁ = dsem a₁ d) (h₂ : s₂ = dsem a₂ c)
    {o₅ o₆ : Fin 3 → ℕ} (h₅ : o₅ = ![c.val, 0, 0]) (h₆ : o₆ = ![s.val, 0, 0])
    {i₅ : ∀ a, o₅ a + S1x24x768.size a ≤ S32x24x768.size a} {i₆ : ∀ a, o₆ a + S1x24x768.size a ≤ S32x24x768.size a}
    (hN : ((slab M' c).squeeze S24x768 squeezes_S1x24x768_S24x768).view.amount (.dma (dsem a₂ c)) = N)
    {dev : Dev nD} (hdev : dev = d)
    {hsc : (slabAt M' o₅ i₅).view.ref.isScScratch = false}
    {hsrc : (slabAt M o₆ i₆).view.WordExact}
    {hdst : (slabAt M' o₅ i₅).view.WordExact}
    {hsem : DmaTarget.Typed .vmem (.dma s₂) (.remote (Dev.tc dev : Thread nD τ) (slabAt M' o₅ i₅) (.dma s₁) hsc)}
    {α : Type} {Q : α → sProp 𝕄} {k : PUnit → Prog (TpuEff nD τ sig (Elt F) Λ₀ .tc) α} :
    iprop(recs I K ∗ owesE c (O + tallyAt (dc a₂ d c) () N) ∗ own c M s q X ∗ any d M' c
        ∗ dutyTok ER (dc a₁ c d) 0 d ∗ dutyTok ER (dc a₂ d c) 0 c)
      ⊢ iprop(((owesE c O ∗ cred (tallyAt (dc a₁ c d) () N)) -∗ wpk c (k ⟨⟩) Q)
        -∗ wpk c (.op (.enqueueDma (slabAt M o₆ i₆)
            (.remote (Dev.tc dev : Thread nD τ) (slabAt M' o₅ i₅) (.dma s₁) hsc)
            (.dma s₂) hsrc hdst hsem) k) Q) := by
  subst h₁ h₂ h₅ h₆ hdev
  unfold any own owns owesE
  iintro ⟨#Hr, ⟨%W, HO⟩, ⟨%fs, %hfs, Hs⟩, ⟨%Y, %fd, %hfd, Hd⟩, Ht₁, Ht₂⟩ Hk
  ihave Hc₁ := (recs_cell I K (c, some (a₁, dev))) $$ Hr
  icases Hc₁ with ⟨Hi₁, Hr₁⟩
  ihave Hc₂ := (recs_cell I K (dev, some (a₂, c))) $$ Hr
  icases Hc₂ with ⟨Hi₂, Hr₂⟩
  iapply (Rounds.wp_send_pointsTo 𝒱₀ ER (sched I) (c : Thread nD τ) none (κ₁ := K (c, some (a₁, dev))) (κ₂ := K (dev, some (a₂, c)))
    (c' := (Dev.tc dev : Thread nD τ)) (src := (slab M s).squeeze S24x768 squeezes_S1x24x768_S24x768)
    (dst := (slab M' c).squeeze S24x768 squeezes_S1x24x768_S24x768) (q := q) (fs := fs)
    (r₁ := 0) (r₂ := 0) (d₁ := dev) (d₂ := c) (fd := fd) (sS := .dma (dsem a₁ dev)) (sem := .dma (dsem a₂ c))
    (by rw [duties_dma I a₁ c dev hd]; exact Finset.mem_singleton_self _)
    (by rw [duties_dma I a₂ dev c hd.symm]; exact Finset.mem_singleton_self _)
    () () N hN rfl rfl O rfl (W := W)
    (by rw [payload_dma]; exact (own_of c M s q fs X hfs).trans hp₁)
    (by rw [payload_dma]; exact (own_of dev M' c fullShare _ X ((copied M M' s c fs fd).trans hfs)).trans hp₂)) $$ [HO Hs Hd Ht₁ Ht₂ Hi₁ Hi₂ Hr₁ Hr₂]
  · isplitl [Hi₁]; · iexact Hi₁
    isplitl [Hi₂]; · iexact Hi₂
    isplitl [Hs]; · iapply (squeezed_in (F := F) c M s q fs); iexact Hs
    isplitl [Hd]; · iapply (squeezed_in (F := F) dev M' c fullShare fd); iexact Hd
    isplitl [HO]; · iexact HO
    isplitl [Ht₁]; · iexact Ht₁
    isplitl [Hr₁]; · iexact Hr₁
    isplitl [Ht₂]; · iexact Ht₂
    iexact Hr₂
  iintro ⟨Hcr, HO⟩
  iapply Hk
  isplitl [HO]; · iexists W; iexact HO
  iexact Hcr

/-- A wait for a copy of one slab takes what its cell hands over. -/
theorem wait_slab (c i : Dev nD) (hi : i ≠ c) (a : Fin 4) (O : CellTallies nD τ sig Unit)
    (hO : (levAts L lv : sProp 𝕄) ⊢ MayWait (c : Thread nD τ) (.dma (dsem a i)) () O)
    {sm : DmaSem sig} (hsm : sm = dsem a i) {src dst : Memref sig .tc .vmem S24x768 .bf16} (hN : dst.view.dmaCredit = N)
    {h₁ h₂} {α : Type} {Q : α → sProp 𝕄} {k : PUnit → Prog (TpuEff nD τ sig (Elt F) Λ₀ .tc) α} :
    iprop(recs I K ∗ owesE c O ∗ cred (tallyAt (dc a c i) () N) ∗ atPos ER (dc a c i) 0 ∅ 0)
      ⊢ iprop(((owesE c O ∗ atPos ER (dc a c i) 1 ∅ 0 ∗ dmaPay I a.val c i) -∗ wpk c (k ⟨⟩) Q)
        -∗ wpk c (.op (.waitDma2 sm src dst h₁ h₂) k) Q) := by
  subst hsm
  unfold owesE
  rw [← hN]
  have hpay : bigSep ((sched I).duties (dc a c i) 0 \ ∅) (fun d => (sched I).payload (dc a c i) 0 d) ⊢ dmaPay I a.val c i := by
    rw [rest_dma I a c i hi]
  have hm := (recs_lev I K).trans hO
  iintro ⟨#Hr, ⟨%W, HO⟩, Hc, Hat⟩ Hk
  ihave Hcl := (recs_cell I K (c, some (a, i))) $$ Hr
  icases Hcl with ⟨Hi, -⟩
  ihave Hm := hm $$ Hr
  iapply (Rounds.wp_wait_rest_token 𝒱₀ ER (sched I) (c : Thread nD τ) none (κ := K (c, some (a, i)))
    (w := .waitDma2 (dsem a i) src dst h₁ h₂) (sm := .dma (dsem a i)) (k' := dst.view.dmaCredit)
    (wpE_waitDma2_eq 𝒱₀ (c : Thread nD τ) none Set.univ) (Set.mem_univ _) () (O := O) (W := W) (R := 0) (m := 0) (T := ∅)
    (by rw [expect_dma I a c i hi, Nat.zero_add, ← hN])) $$ [HO Hc Hat Hi Hm]
  · isplitl [Hi]; · iexact Hi
    isplitl [Hc]; · iexact Hc
    isplitl [HO]; · iexact HO
    isplitl [Hm]; · iexact Hm
    iexact Hat
  iintro ⟨HO, Hat, -, Hp⟩
  ihave Hp := hpay $$ Hp
  iapply Hk
  isplitl [HO]; · iexists _; iexact HO
  isplitl [Hat]; · iexact Hat
  iexact Hp

end Cert.RunProof

end
-- ==== Proof.Sends.lean ====
/-
  The second pass: a device fills one slab for each device, and sends it.
-/
module

public import proofs.«01_k».proof.Proof.Copies

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## A pass's state -/

/-- What device `c` has for device `d` before it fills the slab for it: the slab, and, for another device, the rights to
    send and to land and the slab of the other device that is written. -/
def tS (d : Dev nD) : sProp 𝕄 :=
  iprop(any c sndM d ∗ if d = c then iprop(emp) else iprop(dutyTok ER (dc 0 c d) 0 d ∗ dutyTok ER (dc 2 d c) 0 c ∗ any d rc1M c))
/-- What it has after: its own slab filled, or what it may wait for. -/
def dS (d : Dev nD) : sProp 𝕄 :=
  if d = c then own c sndM c fullShare (chunk I c c) else cred (tallyAt (dc 0 c d) () N)

/-- What is owed with `i` chunks sent. -/
abbrev oS (i : ℕ) : CellTallies nD τ sig Unit := owing ordI (t2 c) 0 + owing (ordS c) (t1 c) i

/-- After `i` chunks sent; -/
def stB (i : ℕ) : sProp 𝕄 := iprop(recs I K ∗ owesE c (oS c i) ∗ phase (ordS c) (tS c) (dS I c) i)
/-- with chunk `i` in hand; -/
def stL (i : ℕ) : sProp 𝕄 :=
  iprop(recs I K ∗ owesE c (oS c i) ∗ tS c (ordS c i) ∗ (dS I c (ordS c i) -∗ phase (ordS c) (tS c) (dS I c) (i + 1)))
/-- with chunk `i` filled. -/
def stM (i : ℕ) : sProp 𝕄 :=
  iprop(recs I K ∗ owesE c (oS c i) ∗ own c sndM (ordS c i) fullShare (chunk I c (ordS c i))
    ∗ (if ordS c i = c then iprop(emp)
        else iprop(dutyTok ER (dc 0 c (ordS c i)) 0 (ordS c i) ∗ dutyTok ER (dc 2 (ordS c i) c) 0 c ∗ any (ordS c i) rc1M c))
    ∗ (dS I c (ordS c i) -∗ phase (ordS c) (tS c) (dS I c) (i + 1)))

/-! ## Its steps -/

/-- The slab that is filled next, read first, -/
theorem fill_load (i : ℕ) {off : Fin 3 → ℕ} {inb : ∀ a, off a + S1x24x768.size a ≤ S32x24x768.size a}
    {hl : sndM.view.LoadsAt (Rect.unit (s := S32x24x768) off S1x24x768.size inb).toLoadRect}
    {α : Type} {Q : α → sProp 𝕄} {R : sProp 𝕄}
    {k : (S1x24x768.Idx → Elt F .bf16) → Prog (TpuEff nD τ sig (Elt F) Λ₀ .tc) α}
    (hk : ∀ X, iprop(stL I K c i ∗ R) ⊢ wpk c (k X) Q)
    (hi : i < 32 := by decide) (hoff : off = ![(ordS c i).val, 0, 0] := by clear * -; revert c; decide +kernel) :
    iprop(stB I K c i ∗ R) ⊢ wpk c (Prog.lift (.load sndM (Rect.unit (s := S32x24x768) off S1x24x768.size inb).toLoadRect hl) >>= k) Q := by
  have hp := phase_step (isOrdS c) (tS (F := F) c) (dS I c) hi
  show _ ⊢ wpk c (.op _ k) Q
  unfold stL tS any at hk
  unfold stB
  unfold tS any at hp ⊢
  iintro ⟨⟨#Hr, HO, Hp⟩, HR⟩
  ihave Hp := hp $$ Hp
  icases Hp with ⟨⟨⟨%X, Hs⟩, Ht⟩, Hp⟩
  iapply (wp_load_slab c (ordS c i) sndM fullShare X hoff) $$ Hs
  iintro Hs
  iapply (hk X)
  isplitr [HR]
  · isplitr; · iexact Hr
    isplitl [HO]; · iexact HO
    isplitl [Hs Ht]
    · isplitl [Hs]
      · iexists X; iexact Hs
      · iexact Ht
    iexact Hp
  iexact HR

/-- and then written. -/
theorem fill_store (i : ℕ) {off : Fin 3 → ℕ} {inb : ∀ a, off a + S1x24x768.size a ≤ S32x24x768.size a}
    {w : Slab F} (hw : w = chunkOf (prod I c (grpS c (i / 8))) ⟨i % 8, by omega⟩)
    {hs : (sndM.access (Rect.unit (s := S32x24x768) off S1x24x768.size inb) : View sig .tc .vmem _ _).Stores Finset.univ} {ha}
    {α : Type} {Q : α → sProp 𝕄} {R : sProp 𝕄}
    {k : PUnit → Prog (TpuEff nD τ sig (Elt F) Λ₀ .tc) α}
    (hk : iprop(stM I K c i ∗ R) ⊢ wpk c (k ⟨⟩) Q) (hoff : off = ![(ordS c i).val, 0, 0] := by clear * -; revert c; decide +kernel) :
    iprop(stL I K c i ∗ R) ⊢ wpk c (Prog.lift (.store sndM (Rect.unit (s := S32x24x768) off S1x24x768.size inb) w Finset.univ hs ha) >>= k) Q := by
  rw [← chunk_ordS] at hw
  subst hw
  show _ ⊢ wpk c (.op _ k) Q
  unfold stM at hk
  unfold stL tS
  iintro ⟨⟨#Hr, HO, ⟨Hs, Ht⟩, Hp⟩, HR⟩
  iapply (wp_store_slab c (ordS c i) sndM (chunk I c (ordS c i)) hoff) $$ Hs
  iintro Hs
  iapply hk
  isplitr [HR]
  · isplitr; · iexact Hr
    isplitl [HO]; · iexact HO
    isplitl [Hs]; · iexact Hs
    isplitl [Ht]; · iexact Ht
    iexact Hp
  iexact HR

/-- A chunk is sent, unless it is the device's own. -/
theorem send_step (i : ℕ) {cond : BitVec 1} {o₃ o₄ : Fin 1 → ℕ} {o₅ o₆ : Fin 3 → ℕ} {dev : cond = 1#1 → Dev nD}
    {i₃ : cond = 1#1 → ∀ x, o₃ x + S1.size x ≤ S32.size x} {i₄ : cond = 1#1 → ∀ x, o₄ x + S1.size x ≤ S32.size x}
    {i₅ : cond = 1#1 → ∀ a, o₅ a + S1x24x768.size a ≤ S32x24x768.size a} {i₆ : cond = 1#1 → ∀ a, o₆ a + S1x24x768.size a ≤ S32x24x768.size a}
    {hsc : ∀ h : cond = 1#1, (slabAt rc1M o₅ (i₅ h)).view.ref.isScScratch = false}
    {hsrc : ∀ h : cond = 1#1, (slabAt sndM o₆ (i₆ h)).view.WordExact} {hdst : ∀ h : cond = 1#1, (slabAt rc1M o₅ (i₅ h)).view.WordExact}
    {hsem : ∀ h : cond = 1#1, DmaTarget.Typed .vmem (.dma ((cc0_scratch5.slice (Rect.unit (s := S32) o₄ S1.size (i₄ h))).squeeze S_ squeezes_S1_S_).sem)
      (.remote (Dev.tc (dev h) : Thread nD τ) (slabAt rc1M o₅ (i₅ h)) (.dma ((cc0_scratch3.slice (Rect.unit (s := S32) o₃ S1.size (i₃ h))).squeeze S_ squeezes_S1_S_).sem) (hsc h))}
    {α : Type} {Q : α → sProp 𝕄} {R : sProp 𝕄} {e : Prog (TpuEff nD τ sig (Elt F) Λ₀ .tc) α}
    (hk : iprop(stB I K c (i + 1) ∗ R) ⊢ wpk c e Q)
    (hi : i < 32 := by decide) (hcond : cond = 1#1 ↔ ordS c i ≠ c := by clear * -; revert c; decide +kernel) (h₃ : o₃ = ![(ordS c i).val] := by clear * -; revert c; decide +kernel)
    (h₄ : o₄ = ![c.val] := by clear * -; revert c; decide +kernel) (h₅ : o₅ = ![c.val, 0, 0] := by clear * -; revert c; decide +kernel)
    (h₆ : o₆ = ![(ordS c i).val, 0, 0] := by clear * -; revert c; decide +kernel) (hdev : ∀ h, dev h = ordS c i := by clear * -; revert c; decide +kernel) :
    iprop(stM I K c i ∗ R) ⊢ wpk c (if h : cond = 1#1 then
      Prog.lift (.enqueueDma (slabAt sndM o₆ (i₆ h))
            (.remote (Dev.tc (dev h) : Thread nD τ) (slabAt rc1M o₅ (i₅ h))
              (.dma ((cc0_scratch3.slice (Rect.unit (s := S32) o₃ S1.size (i₃ h))).squeeze S_ squeezes_S1_S_).sem) (hsc h))
            (.dma ((cc0_scratch5.slice (Rect.unit (s := S32) o₄ S1.size (i₄ h))).squeeze S_ squeezes_S1_S_).sem) (hsrc h) (hdst h) (hsem h)) >>= fun _ => e else e) Q := by
  unfold stB at hk
  unfold stM
  by_cases h : ordS c i = c
  · have e₁ : dS I c (ordS c i) = own c sndM (ordS c i) fullShare (chunk I c (ordS c i)) := by
      unfold dS; rw [if_pos h, h]
    rw [dif_neg (fun h' => hcond.mp h' h), e₁, if_pos h]
    unfold oS
    rw [owing_step (isOrdS c) (t1 c) hi, t1_self h, add_zero]
    iintro ⟨⟨#Hr, HO, Hs, -, Hp⟩, HR⟩
    iapply hk
    isplitr [HR]
    · isplitr; · iexact Hr
      isplitl [HO]; · iexact HO
      iapply Hp; iexact Hs
    iexact HR
  · have e₁ : dS I c (ordS c i) = cred (tallyAt (dc 0 c (ordS c i)) () N) := by unfold dS; rw [if_neg h]
    rw [dif_pos (hcond.mpr h), e₁, if_neg h]
    unfold oS
    rw [owing_step (isOrdS c) (t1 c) hi, t1_peer h, ← add_assoc]
    show _ ⊢ wpk c (.op _ fun _ => e) Q
    iintro ⟨⟨#Hr, HO, Hs, ⟨Ht₁, Ht₂, Hd⟩, Hp⟩, HR⟩
    iapply (copy_slab I K c (ordS c i) (ordS c i) h 0 2 sndM rc1M fullShare (chunk I c (ordS c i))
      (.rfl) (.rfl) (oS c (i + 1)) (sem_at 0 (ordS c i) h₃) (sem_at 2 c h₄) h₅ h₆ rfl (hdev _)) $$ [HO Hs Ht₁ Ht₂ Hd]
    · isplitr; · iexact Hr
      isplitl [HO]; · iexact HO
      isplitl [Hs]; · iexact Hs
      isplitl [Hd]; · iexact Hd
      isplitl [Ht₁]; · iexact Ht₁
      iexact Ht₂
    iintro ⟨HO, Hc⟩
    iapply hk
    isplitr [HR]
    · isplitr; · iexact Hr
      isplitl [HO]; · iexact HO
      iapply Hp; iexact Hc
    iexact HR

end Cert.RunProof

end
-- ==== Proof.Gather.lean ====
/-
  The third pass: a device waits for the chunk of each device, and reads it.
-/
module

public import proofs.«01_k».proof.Proof.Copies

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## A pass's state -/

/-- What device `c` has for device `d` before it waits for its chunk: its own chunk, or what it may wait for. -/
def tG (d : Dev nD) : sProp 𝕄 :=
  if d = c then own c rc1M c fullShare (chunk I c c) else iprop(cred (tallyAt (dc 2 c d) () N) ∗ atPos ER (dc 2 c d) 0 ∅ 0)
/-- What it has after: the chunk. -/
def dG (d : Dev nD) : sProp 𝕄 :=
  iprop(own c rc1M d fullShare (chunk I d c) ∗ if d = c then iprop(emp) else atPos ER (dc 2 c d) 1 ∅ 0)

/-- After `i` chunks received. -/
def stC (i : ℕ) : sProp 𝕄 := iprop(recs I K ∗ owesE c (owing ordI (t2 c) 0) ∗ phase (ordR c) (tG I c) (dG I c) i)

/-! ## Its steps -/

/-- A chunk is waited for, unless it is the device's own. -/
theorem recv_step (i : ℕ) {cond : BitVec 1} {o₁ : Fin 1 → ℕ} {o₂ : Fin 3 → ℕ}
    {i₁ : cond = 1#1 → ∀ x, o₁ x + S1.size x ≤ S32.size x} {i₂ : cond = 1#1 → ∀ a, o₂ a + S1x24x768.size a ≤ S32x24x768.size a}
    {hsrc : ∀ h : cond = 1#1, (slabAt rc1M o₂ (i₂ h)).view.WordExact} {hdst : ∀ h : cond = 1#1, (slabAt rc1M o₂ (i₂ h)).view.WordExact}
    {α : Type} {Q : α → sProp 𝕄} {R : sProp 𝕄} {e : Prog (TpuEff nD τ sig (Elt F) Λ₀ .tc) α}
    (hk : iprop(stC I K c (i + 1) ∗ R) ⊢ wpk c e Q)
    (hi : i < 32 := by decide) (hcond : cond = 1#1 ↔ ordR c i ≠ c := by clear * -; revert c; decide +kernel) (h₁ : o₁ = ![(ordR c i).val] := by clear * -; revert c; decide +kernel) :
    iprop(stC I K c i ∗ R) ⊢ wpk c (if h : cond = 1#1 then
      Prog.lift (.waitDma2 ((cc0_scratch5.slice (Rect.unit (s := S32) o₁ S1.size (i₁ h))).squeeze S_ squeezes_S1_S_).sem
        (slabAt rc1M o₂ (i₂ h)) (slabAt rc1M o₂ (i₂ h)) (hsrc h) (hdst h)) >>= fun _ => e else e) Q := by
  have hp := phase_step (isOrdR c) (tG I c) (dG I c) hi
  unfold stC at hk ⊢
  by_cases h : ordR c i = c
  · have e₁ : tG I c (ordR c i) = own c rc1M (ordR c i) fullShare (chunk I (ordR c i) c) := by unfold tG; rw [if_pos h, h]
    have e₂ : dG I c (ordR c i) = iprop(own c rc1M (ordR c i) fullShare (chunk I (ordR c i) c) ∗ emp) := by unfold dG; rw [if_pos h]
    rw [e₁, e₂] at hp
    rw [dif_neg (fun h' => hcond.mp h' h)]
    iintro ⟨⟨#Hr, HO, Hp⟩, HR⟩
    ihave Hp := hp $$ Hp
    icases Hp with ⟨Hs, Hp⟩
    iapply hk
    isplitr [HR]
    · isplitr; · iexact Hr
      isplitl [HO]; · iexact HO
      iapply Hp
      isplitl [Hs]; · iexact Hs
      iempintro
    iexact HR
  · have e₁ : tG I c (ordR c i) = iprop(cred (tallyAt (dc 2 c (ordR c i)) () N) ∗ atPos ER (dc 2 c (ordR c i)) 0 ∅ 0) := by
      unfold tG; rw [if_neg h]
    have e₂ : dG I c (ordR c i) = iprop(own c rc1M (ordR c i) fullShare (chunk I (ordR c i) c) ∗ atPos ER (dc 2 c (ordR c i)) 1 ∅ 0) := by
      unfold dG; rw [if_neg h]
    have e₃ : dmaPay I (2 : Fin 4).val c (ordR c i) ⊢ own c rc1M (ordR c i) fullShare (chunk I (ordR c i) c) := .rfl
    rw [e₁, e₂] at hp
    rw [dif_pos (hcond.mpr h)]
    show _ ⊢ wpk c (.op _ fun _ => e) Q
    iintro ⟨⟨#Hr, HO, Hp⟩, HR⟩
    ihave Hp := hp $$ Hp
    icases Hp with ⟨⟨Hc, Hat⟩, Hp⟩
    iapply (wait_slab I K c (ordR c i) h 2 (owing ordI (t2 c) 0) (mayWait_chunk c (ordR c i) 0) (sem_at 2 (ordR c i) h₁)
      (src := slabAt rc1M o₂ (i₂ (hcond.mpr h))) (dst := slabAt rc1M o₂ (i₂ (hcond.mpr h))) rfl) $$ [HO Hc Hat]
    · isplitr; · iexact Hr
      isplitl [HO]; · iexact HO
      isplitl [Hc]; · iexact Hc
      iexact Hat
    iintro ⟨HO, Hat, Hs⟩
    ihave Hs := e₃ $$ Hs
    iapply hk
    isplitr [HR]
    · isplitr; · iexact Hr
      isplitl [HO]; · iexact HO
      iapply Hp
      isplitl [Hs]; · iexact Hs
      iexact Hat
    iexact HR

/-- The chunk just received is read. -/
theorem recv_load (i : ℕ) {off : Fin 3 → ℕ} {inb : ∀ a, off a + S1x24x768.size a ≤ S32x24x768.size a}
    {hl : rc1M.view.LoadsAt (Rect.unit (s := S32x24x768) off S1x24x768.size inb).toLoadRect}
    {α : Type} {Q : α → sProp 𝕄} {R : sProp 𝕄}
    {k : (S1x24x768.Idx → Elt F .bf16) → Prog (TpuEff nD τ sig (Elt F) Λ₀ .tc) α}
    (hk : iprop(stC I K c (i + 1) ∗ R) ⊢ wpk c (k (chunk I (ordR c i) c)) Q) (hoff : off = ![(ordR c i).val, 0, 0] := by clear * -; revert c; decide +kernel) :
    iprop(stC I K c (i + 1) ∗ R) ⊢ wpk c (Prog.lift (.load rc1M (Rect.unit (s := S32x24x768) off S1x24x768.size inb).toLoadRect hl) >>= k) Q := by
  have hp := phase_done (o := ordR c) (tG I c) (dG I c) (Nat.lt_succ_self i)
  show _ ⊢ wpk c (.op _ k) Q
  unfold stC at hk ⊢
  generalize phase (ordR c) (tG I c) (dG I c) (i + 1) = P at hp hk ⊢
  unfold dG at hp
  iintro ⟨⟨#Hr, HO, Hp⟩, HR⟩
  ihave Hp := hp $$ Hp
  icases Hp with ⟨⟨Hs, Hat⟩, Hp⟩
  iapply (wp_load_slab c (ordR c i) rc1M fullShare (chunk I (ordR c i) c) hoff) $$ Hs
  iintro Hs
  iapply hk
  isplitr [HR]
  · isplitr; · iexact Hr
    isplitl [HO]; · iexact HO
    iapply Hp
    isplitl [Hs]; · iexact Hs
    iexact Hat
  iexact HR

end Cert.RunProof

end
-- ==== Proof.Share.lean ====
/-
  The fourth pass: a device sends its sum to each of the others.
-/
module

public import proofs.«01_k».proof.Proof.Copies

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## A pass's state -/

/-- What device `c` has for device `d` before it sends its sum: a share of it, the rights to send and to land, and the
    slab of the other device that is written. -/
def tD (d : Dev nD) : sProp 𝕄 :=
  if d = c then iprop(emp) else iprop(own c rc2M c (lent c d) (redb I c) ∗ dutyTok ER (dc 1 c d) 0 d ∗ dutyTok ER (dc 3 d c) 0 c ∗ any d rc2M c)
/-- What it has after: what it may wait for. -/
def dD (d : Dev nD) : sProp 𝕄 := if d = c then iprop(emp) else cred (tallyAt (dc 1 c d) () N)

/-- After the sum was sent `i` times. -/
def stD (i : ℕ) : sProp 𝕄 := iprop(recs I K ∗ owesE c (owing ordI (t2 c) i) ∗ phase ordI (tD I c) (dD c) i)

/-- The sum is sent, unless to the device itself. -/
theorem share_step (i : ℕ) {cond : BitVec 1} {o₃ o₄ : Fin 1 → ℕ} {o₅ : Fin 3 → ℕ} {dev : cond = 1#1 → Dev nD}
    (hdev : ∀ h, dev h = ordI i)
    {i₃ : cond = 1#1 → ∀ x, o₃ x + S1.size x ≤ S32.size x} {i₄ : cond = 1#1 → ∀ x, o₄ x + S1.size x ≤ S32.size x}
    {i₅ : cond = 1#1 → ∀ a, o₅ a + S1x24x768.size a ≤ S32x24x768.size a}
    {hsc : ∀ h : cond = 1#1, (slabAt rc2M o₅ (i₅ h)).view.ref.isScScratch = false}
    {hsrc : ∀ h : cond = 1#1, (slabAt rc2M o₅ (i₅ h)).view.WordExact} {hdst : ∀ h : cond = 1#1, (slabAt rc2M o₅ (i₅ h)).view.WordExact}
    {hsem : ∀ h : cond = 1#1, DmaTarget.Typed .vmem (.dma ((cc0_scratch6.slice (Rect.unit (s := S32) o₄ S1.size (i₄ h))).squeeze S_ squeezes_S1_S_).sem)
      (.remote (Dev.tc (dev h) : Thread nD τ) (slabAt rc2M o₅ (i₅ h)) (.dma ((cc0_scratch4.slice (Rect.unit (s := S32) o₃ S1.size (i₃ h))).squeeze S_ squeezes_S1_S_).sem) (hsc h))}
    {α : Type} {Q : α → sProp 𝕄} {R : sProp 𝕄} {e : Prog (TpuEff nD τ sig (Elt F) Λ₀ .tc) α}
    (hk : iprop(stD I K c (i + 1) ∗ R) ⊢ wpk c e Q)
    (hi : i < 32 := by decide) (hcond : cond = 1#1 ↔ ordI i ≠ c := by clear * -; revert c; decide +kernel) (h₃ : o₃ = ![(ordI i).val] := by decide)
    (h₄ : o₄ = ![c.val] := by clear * -; revert c; decide +kernel) (h₅ : o₅ = ![c.val, 0, 0] := by clear * -; revert c; decide +kernel) :
    iprop(stD I K c i ∗ R) ⊢ wpk c (if h : cond = 1#1 then
      Prog.lift (.enqueueDma (slabAt rc2M o₅ (i₅ h))
            (.remote (Dev.tc (dev h) : Thread nD τ) (slabAt rc2M o₅ (i₅ h))
              (.dma ((cc0_scratch4.slice (Rect.unit (s := S32) o₃ S1.size (i₃ h))).squeeze S_ squeezes_S1_S_).sem) (hsc h))
            (.dma ((cc0_scratch6.slice (Rect.unit (s := S32) o₄ S1.size (i₄ h))).squeeze S_ squeezes_S1_S_).sem) (hsrc h) (hdst h) (hsem h)) >>= fun _ => e else e) Q := by
  have hp := phase_step isOrdI (tD I c) (dD c) hi
  unfold stD at hk ⊢
  rw [owing_step isOrdI (t2 c) hi]
  by_cases h : ordI i = c
  · have e₁ : tD I c (ordI i) = iprop(emp) := by unfold tD; rw [if_pos h]
    have e₂ : dD (F := F) c (ordI i) = iprop(emp) := by unfold dD; rw [if_pos h]
    rw [e₁, e₂] at hp
    rw [dif_neg (fun h' => hcond.mp h' h), t2_self h, add_zero]
    iintro ⟨⟨#Hr, HO, Hp⟩, HR⟩
    ihave Hp := hp $$ Hp
    icases Hp with ⟨-, Hp⟩
    iapply hk
    isplitr [HR]
    · isplitr; · iexact Hr
      isplitl [HO]; · iexact HO
      iapply Hp; iempintro
    iexact HR
  · have e₁ : tD I c (ordI i) = iprop(own c rc2M c (lent c (ordI i)) (redb I c) ∗ dutyTok ER (dc 1 c (ordI i)) 0 (ordI i)
        ∗ dutyTok ER (dc 3 (ordI i) c) 0 c ∗ any (ordI i) rc2M c) := by unfold tD; rw [if_neg h]
    have e₂ : dD (F := F) c (ordI i) = cred (tallyAt (dc 1 c (ordI i)) () N) := by unfold dD; rw [if_neg h]
    rw [e₁, e₂] at hp
    rw [dif_pos (hcond.mpr h), t2_peer h]
    show _ ⊢ wpk c (.op _ fun _ => e) Q
    iintro ⟨⟨#Hr, HO, Hp⟩, HR⟩
    ihave Hp := hp $$ Hp
    icases Hp with ⟨⟨Hs, Ht₁, Ht₂, Hd⟩, Hp⟩
    iapply (copy_slab I K c (ordI i) c h 1 3 rc2M rc2M (lent c (ordI i)) (redb I c)
      (.rfl) (.rfl) (owing ordI (t2 c) (i + 1)) (sem_at 1 (ordI i) h₃) (sem_at 3 c h₄) h₅ h₅ rfl (hdev _)) $$ [HO Hs Ht₁ Ht₂ Hd]
    · isplitr; · iexact Hr
      isplitl [HO]; · iexact HO
      isplitl [Hs]; · iexact Hs
      isplitl [Hd]; · iexact Hd
      isplitl [Ht₁]; · iexact Ht₁
      iexact Ht₂
    iintro ⟨HO, Hc⟩
    iapply hk
    isplitr [HR]
    · isplitr; · iexact Hr
      isplitl [HO]; · iexact HO
      iapply Hp; iexact Hc
    iexact HR

end Cert.RunProof

end
-- ==== Proof.Collect.lean ====
/-
  The fifth pass: a device takes the sum of each of the others, and writes its rows of the result.
-/
module

public import proofs.«01_k».proof.Proof.Copies

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## The rows of the result -/

theorem rows_inb (d : Dev nD) : ∀ a, (![24 * d.val, 0] : Fin 2 → ℕ) a + S24x768.size a ≤ S768x768.size a := by
  revert d; decide

/-- The rows of device `d`. -/
abbrev rowsR (d : Dev nD) : Rect S768x768 := Rect.unit (s := S768x768) ![24 * d.val, 0] S24x768.size (rows_inb d)
abbrev rowsV (d : Dev nD) : View sig .tc .vmem S24x768 .f32 := outM.access (rowsR d)

/-- Device `c` holds its staged result, at `f`. -/
abbrev outP (c : Dev nD) (f : outM.view.ty.Contents (Elt F)) : sProp 𝕄 := outM.view.loc (c : Thread nD τ) ↦[outM.view.set]{fullShare} f

theorem rows_disjoint (d e : Dev nD) (h : d ≠ e) : Disjoint (rowsR d).set (rowsR e).set := by
  refine Rect.unit_disjoint (0 : Fin 2) ?_
  have h' : d.val ≠ e.val := fun h' => h (Fin.ext h')
  show 24 * d.val + 24 ≤ 24 * e.val ∨ 24 * e.val + 24 ≤ 24 * d.val
  omega

theorem rows_kept (d e : Dev nD) (h : d ≠ e) (f : outM.view.ty.Contents (Elt F)) (w : FVec F S24x768 .f32) :
    (rowsV d).read (Elt F) ((rowsV e).write (Elt F) f w Finset.univ) = (rowsV d).read (Elt F) f :=
  View.read_slice_write_slice_of_disjoint (rowsR d) (rowsR e) f w Finset.univ (View.disjoint_slice (rows_disjoint d e h))

theorem rows_written (d : Dev nD) (f : outM.view.ty.Contents (Elt F)) (w : FVec F S24x768 .f32) :
    (rowsV d).read (Elt F) ((rowsV d).write (Elt F) f w Finset.univ) = w := View.read_write_univ (v := rowsV d) f w

/-- A result that reads right in each device's rows is right. -/
theorem rows_all (f : outM.view.ty.Contents (Elt F)) (h : ∀ d, (rowsV d).read (Elt F) f = outBlk I c d) : f = outAt I c := by
  funext y
  have hy : (y 0).val < 768 := (y 0).isLt
  have e := congrFun (h ⟨(y 0).val / 24, by show _ < 32; omega⟩) (ix2 (n0 := 24) (n1 := 768) ⟨(y 0).val % 24, by omega⟩ (y 1))
  refine Eq.trans (congrArg f ?_) e
  funext a
  refine Fin.ext ?_
  match a with
  | ⟨0, _⟩ => show (y 0).val = 24 * ((y 0).val / 24) + 1 * ((y 0).val % 24); omega
  | ⟨1, _⟩ => show (y 1).val = 0 + 1 * (y 1).val; omega

/-! ## A pass's state -/

/-- What device `c` may wait for from device `d`. -/
def tE (d : Dev nD) : sProp 𝕄 := if d = c then iprop(emp) else iprop(cred (tallyAt (dc 3 c d) () N) ∗ atPos ER (dc 3 c d) 0 ∅ 0)
/-- What it has after: the sum of that device. -/
def dE (d : Dev nD) : sProp 𝕄 := if d = c then iprop(emp) else iprop(own c rc2M d fullShare (redb I d) ∗ atPos ER (dc 3 c d) 1 ∅ 0)

/-- With the sums of `i` devices taken; the rows of those devices, and its own, are right. -/
def stE (i : ℕ) : sProp 𝕄 :=
  iprop(recs I K ∗ owesE c 0 ∗ phase ordI (tE c) (dE I c) i
    ∗ ∃ f : outM.view.ty.Contents (Elt F), ⌜∀ d, d ∉ (left ordI i).erase c → (rowsV d).read (Elt F) f = outBlk I c d⌝ ∗ outP c f)

theorem rows_next (i : ℕ) {f f' : outM.view.ty.Contents (Elt F)} (h : ∀ d, d ∉ (left ordI i).erase c → (rowsV d).read (Elt F) f = outBlk I c d)
    (hk : ∀ d, d ≠ ordI i → (rowsV d).read (Elt F) f' = (rowsV d).read (Elt F) f)
    (hw : (rowsV (ordI i)).read (Elt F) f' = outBlk I c (ordI i)) :
    ∀ d, d ∉ (left ordI (i + 1)).erase c → (rowsV d).read (Elt F) f' = outBlk I c d := by
  intro d hd
  by_cases hdi : d = ordI i
  · rw [hdi]; exact hw
  · rw [hk d hdi]
    refine h d fun hm => hd ?_
    rw [left_succ]
    exact Finset.mem_erase.mpr ⟨Finset.ne_of_mem_erase hm, Finset.mem_erase.mpr ⟨hdi, Finset.mem_of_mem_erase hm⟩⟩

/-- The sum of a device is waited for, read, and its rows are written. -/
theorem take_step (i : ℕ) {cond : BitVec 1} {o₁ : Fin 1 → ℕ} {o₂ : Fin 3 → ℕ} {o₃ : Fin 2 → ℕ}
    {w : Slab F → FVec F S24x768 .f32} (hw : ∀ X, w X = k0_pay74 X)
    {i₁ : ∀ x, o₁ x + S1.size x ≤ S32.size x} {i₂ : ∀ a, o₂ a + S1x24x768.size a ≤ S32x24x768.size a}
    {i₃ : ∀ a, o₃ a + S24x768.size a ≤ S768x768.size a}
    {p₁ p₂ : (slabAt rc2M o₂ i₂).view.WordExact}
    {hl : rc2M.view.LoadsAt (Rect.unit (s := S32x24x768) o₂ S1x24x768.size i₂).toLoadRect}
    {hl' : outM.view.LoadsAt (Rect.unit (s := S768x768) o₃ S24x768.size i₃).toLoadRect}
    {hs : (outM.access (Rect.unit (s := S768x768) o₃ S24x768.size i₃) : View sig .tc .vmem _ _).Stores Finset.univ} {ha}
    {α : Type} {Q : α → sProp 𝕄} {R : sProp 𝕄} {e : Prog (TpuEff nD τ sig (Elt F) Λ₀ .tc) α}
    (hk : iprop(stE I K c (i + 1) ∗ R) ⊢ wpk c e Q)
    (hi : i < 32 := by decide) (hcond : cond = 1#1 ↔ ordI i ≠ c := by clear * -; revert c; decide +kernel) (h₁ : o₁ = ![(ordI i).val] := by decide)
    (h₂ : o₂ = ![(ordI i).val, 0, 0] := by decide) (h₃ : o₃ = ![24 * (ordI i).val, 0] := by decide) :
    iprop(stE I K c i ∗ R) ⊢ wpk c (if h : cond = 1#1 then
      Prog.lift (.waitDma2 ((cc0_scratch6.slice (Rect.unit (s := S32) o₁ S1.size i₁)).squeeze S_ squeezes_S1_S_).sem
          (slabAt rc2M o₂ i₂) (slabAt rc2M o₂ i₂) p₁ p₂) >>= fun _ =>
        Prog.lift (.load rc2M (Rect.unit (s := S32x24x768) o₂ S1x24x768.size i₂).toLoadRect hl) >>= fun X =>
        Prog.lift (.load outM (Rect.unit (s := S768x768) o₃ S24x768.size i₃).toLoadRect hl') >>= fun _ =>
        Prog.lift (.store outM (Rect.unit (s := S768x768) o₃ S24x768.size i₃) (w X) Finset.univ hs ha) >>= fun _ => e
      else e) Q := by
  have hp := phase_step isOrdI (tE (F := F) c) (dE I c) hi
  unfold stE at hk ⊢
  by_cases h : ordI i = c
  · have e₁ : tE (F := F) c (ordI i) = iprop(emp) := by unfold tE; rw [if_pos h]
    have e₂ : dE I c (ordI i) = iprop(emp) := by unfold dE; rw [if_pos h]
    rw [e₁, e₂] at hp
    rw [dif_neg (fun h' => hcond.mp h' h)]
    have hl : (left ordI (i + 1)).erase c = (left ordI i).erase c := by
      rw [left_succ, h, Finset.erase_idem]
    rw [hl] at hk
    iintro ⟨⟨#Hr, HO, Hp, Hf⟩, HR⟩
    ihave Hp := hp $$ Hp
    icases Hp with ⟨-, Hp⟩
    iapply hk
    isplitr [HR]
    · isplitr; · iexact Hr
      isplitl [HO]; · iexact HO
      isplitl [Hp]
      · iapply Hp; iempintro
      iexact Hf
    iexact HR
  · have e₁ : tE (F := F) c (ordI i) = iprop(cred (tallyAt (dc 3 c (ordI i)) () N) ∗ atPos ER (dc 3 c (ordI i)) 0 ∅ 0) := by unfold tE; rw [if_neg h]
    have e₂ : dE I c (ordI i) = iprop(own c rc2M (ordI i) fullShare (redb I (ordI i)) ∗ atPos ER (dc 3 c (ordI i)) 1 ∅ 0) := by unfold dE; rw [if_neg h]
    have e₃ : dmaPay I (3 : Fin 4).val c (ordI i) ⊢ own c rc2M (ordI i) fullShare (redb I (ordI i)) := .rfl
    rw [e₁, e₂] at hp
    rw [dif_pos (hcond.mpr h)]
    subst h₃
    show _ ⊢ wpk c (.op _ fun _ => .op _ fun X => .op _ fun _ => .op (.store outM (rowsR (ordI i)) (w X) Finset.univ hs ha) fun _ => e) Q
    iintro ⟨⟨#Hr, HO, Hp, ⟨%f, %hf, Hf⟩⟩, HR⟩
    ihave Hp := hp $$ Hp
    icases Hp with ⟨⟨Hc, Hat⟩, Hp⟩
    iapply (wait_slab I K c (ordI i) h 3 0 (mayWait_none c _) (sem_at 3 (ordI i) h₁)
      (src := slabAt rc2M o₂ i₂) (dst := slabAt rc2M o₂ i₂) rfl) $$ [HO Hc Hat]
    · isplitr; · iexact Hr
      isplitl [HO]; · iexact HO
      isplitl [Hc]; · iexact Hc
      iexact Hat
    iintro ⟨HO, Hat, Hs⟩
    ihave Hs := e₃ $$ Hs
    iapply (wp_load_slab c (ordI i) rc2M fullShare (redb I (ordI i)) h₂) $$ Hs
    iintro Hs
    iapply (wp_load_rect 𝒱₀ (c : Thread nD τ) none Set.univ (m := outM) (r := rowsR (ordI i)) (hl := hl') (S := outM.view.set) (q := fullShare) (f := f)
      (View.set_slice_subset _ _)) $$ Hf
    iintro Hf
    iapply (wp_store 𝒱₀ (c : Thread nD τ) none Set.univ (m := outM) (r := rowsR (ordI i)) (w := w (redb I (ordI i))) (Mk := Finset.univ)
      (S := outM.view.set) (f := f) (hx := hs) (hm := ha) (k := fun _ => e) (View.set_slice_subset _ _)) $$ Hf
    iintro Hf
    iapply hk
    isplitr [HR]
    · isplitr; · iexact Hr
      isplitl [HO]; · iexact HO
      isplitl [Hp Hs Hat]
      · iapply Hp
        isplitl [Hs]; · iexact Hs
        iexact Hat
      iexists ((rowsV (ordI i)).write (Elt F) f (w (redb I (ordI i))) Finset.univ)
      isplitr
      · ipureintro
        refine rows_next I c i hf (fun d hd => rows_kept d (ordI i) hd f _) ?_
        rw [rows_written, hw, outBlk, if_neg h]
      · iexact Hf
    iexact HR

end Cert.RunProof

end
-- ==== Proof.Drain.lean ====
/-
  The last pass: a device waits for the copies that it sent.
-/
module

public import proofs.«01_k».proof.Proof.Copies

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## A pass's state -/

/-- What device `c` may wait for of its two copies to device `d`. -/
def tF (d : Dev nD) : sProp 𝕄 :=
  if d = c then iprop(emp) else iprop((cred (tallyAt (dc 0 c d) () N) ∗ atPos ER (dc 0 c d) 0 ∅ 0) ∗ (cred (tallyAt (dc 1 c d) () N) ∗ atPos ER (dc 1 c d) 0 ∅ 0))
/-- What it has after: the slab that was sent and the share of the sum. -/
def dF (d : Dev nD) : sProp 𝕄 :=
  if d = c then iprop(emp) else iprop((atPos ER (dc 0 c d) 1 ∅ 0 ∗ own c sndM d fullShare (chunk I c d))
    ∗ (atPos ER (dc 1 c d) 1 ∅ 0 ∗ own c rc2M c (lent c d) (redb I c)))

/-- With the copies to `i` devices waited for. -/
def stF (i : ℕ) : sProp 𝕄 := iprop(recs I K ∗ owesE c 0 ∗ phase ordI (tF c) (dF I c) i)

/-- The two copies to a device are waited for. -/
theorem drain_step (i : ℕ) {cond : BitVec 1} {o₁ o₂ : Fin 1 → ℕ} {o₃ o₄ o₅ : Fin 3 → ℕ}
    {i₁ : cond = 1#1 → ∀ x, o₁ x + S1.size x ≤ S32.size x} {i₂ : cond = 1#1 → ∀ x, o₂ x + S1.size x ≤ S32.size x}
    {i₃ : cond = 1#1 → ∀ a, o₃ a + S1x24x768.size a ≤ S32x24x768.size a} {i₄ : cond = 1#1 → ∀ a, o₄ a + S1x24x768.size a ≤ S32x24x768.size a}
    {i₅ : cond = 1#1 → ∀ a, o₅ a + S1x24x768.size a ≤ S32x24x768.size a}
    {p₁ : ∀ h : cond = 1#1, (slabAt rc1M o₃ (i₃ h)).view.WordExact} {p₂ : ∀ h : cond = 1#1, (slabAt sndM o₄ (i₄ h)).view.WordExact}
    {p₃ p₄ : ∀ h : cond = 1#1, (slabAt rc2M o₅ (i₅ h)).view.WordExact}
    {α : Type} {Q : α → sProp 𝕄} {R : sProp 𝕄} {e : Prog (TpuEff nD τ sig (Elt F) Λ₀ .tc) α}
    (hk : iprop(stF I K c (i + 1) ∗ R) ⊢ wpk c e Q)
    (hi : i < 32 := by decide) (hcond : cond = 1#1 ↔ ordI i ≠ c := by clear * -; revert c; decide +kernel) (h₁ : o₁ = ![(ordI i).val] := by decide) (h₂ : o₂ = ![(ordI i).val] := by decide) :
    iprop(stF I K c i ∗ R) ⊢ wpk c (if h : cond = 1#1 then
      Prog.lift (.waitDma2 ((cc0_scratch3.slice (Rect.unit (s := S32) o₁ S1.size (i₁ h))).squeeze S_ squeezes_S1_S_).sem
          (slabAt rc1M o₃ (i₃ h)) (slabAt sndM o₄ (i₄ h)) (p₁ h) (p₂ h)) >>= fun _ =>
        Prog.lift (.waitDma2 ((cc0_scratch4.slice (Rect.unit (s := S32) o₂ S1.size (i₂ h))).squeeze S_ squeezes_S1_S_).sem
          (slabAt rc2M o₅ (i₅ h)) (slabAt rc2M o₅ (i₅ h)) (p₃ h) (p₄ h)) >>= fun _ => e else e) Q := by
  have hp := phase_step isOrdI (tF (F := F) c) (dF I c) hi
  unfold stF at hk ⊢
  by_cases h : ordI i = c
  · have e₁ : tF (F := F) c (ordI i) = iprop(emp) := by unfold tF; rw [if_pos h]
    have e₂ : dF I c (ordI i) = iprop(emp) := by unfold dF; rw [if_pos h]
    rw [e₁, e₂] at hp
    rw [dif_neg (fun h' => hcond.mp h' h)]
    iintro ⟨⟨#Hr, HO, Hp⟩, HR⟩
    ihave Hp := hp $$ Hp
    icases Hp with ⟨-, Hp⟩
    iapply hk
    isplitr [HR]
    · isplitr; · iexact Hr
      isplitl [HO]; · iexact HO
      iapply Hp; iempintro
    iexact HR
  · have e₁ : tF (F := F) c (ordI i) = iprop((cred (tallyAt (dc 0 c (ordI i)) () N) ∗ atPos ER (dc 0 c (ordI i)) 0 ∅ 0)
        ∗ (cred (tallyAt (dc 1 c (ordI i)) () N) ∗ atPos ER (dc 1 c (ordI i)) 0 ∅ 0)) := by unfold tF; rw [if_neg h]
    have e₂ : dF I c (ordI i) = iprop((atPos ER (dc 0 c (ordI i)) 1 ∅ 0 ∗ own c sndM (ordI i) fullShare (chunk I c (ordI i)))
        ∗ (atPos ER (dc 1 c (ordI i)) 1 ∅ 0 ∗ own c rc2M c (lent c (ordI i)) (redb I c))) := by unfold dF; rw [if_neg h]
    have e₃ : dmaPay I (0 : Fin 4).val c (ordI i) ⊢ own c sndM (ordI i) fullShare (chunk I c (ordI i)) := .rfl
    have e₄ : dmaPay I (1 : Fin 4).val c (ordI i) ⊢ own c rc2M c (lent c (ordI i)) (redb I c) := .rfl
    rw [e₁, e₂] at hp
    rw [dif_pos (hcond.mpr h)]
    show _ ⊢ wpk c (.op _ fun _ => .op _ fun _ => e) Q
    iintro ⟨⟨#Hr, HO, Hp⟩, HR⟩
    ihave Hp := hp $$ Hp
    icases Hp with ⟨⟨⟨Hc₁, Hat₁⟩, Hc₂, Hat₂⟩, Hp⟩
    iapply (wait_slab I K c (ordI i) h 0 0 (mayWait_none c _) (sem_at 0 (ordI i) h₁)
      (src := slabAt rc1M o₃ (i₃ (hcond.mpr h))) (dst := slabAt sndM o₄ (i₄ (hcond.mpr h))) rfl) $$ [HO Hc₁ Hat₁]
    · isplitr; · iexact Hr
      isplitl [HO]; · iexact HO
      isplitl [Hc₁]; · iexact Hc₁
      iexact Hat₁
    iintro ⟨HO, Hat₁, Hs₁⟩
    ihave Hs₁ := e₃ $$ Hs₁
    iapply (wait_slab I K c (ordI i) h 1 0 (mayWait_none c _) (sem_at 1 (ordI i) h₂)
      (src := slabAt rc2M o₅ (i₅ (hcond.mpr h))) (dst := slabAt rc2M o₅ (i₅ (hcond.mpr h))) rfl) $$ [HO Hc₂ Hat₂]
    · isplitr; · iexact Hr
      isplitl [HO]; · iexact HO
      isplitl [Hc₂]; · iexact Hc₂
      iexact Hat₂
    iintro ⟨HO, Hat₂, Hs₂⟩
    ihave Hs₂ := e₄ $$ Hs₂
    iapply hk
    isplitr [HR]
    · isplitr; · iexact Hr
      isplitl [HO]; · iexact HO
      iapply Hp
      isplitl [Hat₁ Hs₁]
      · isplitl [Hat₁]; · iexact Hat₁
        iexact Hs₁
      isplitl [Hat₂]; · iexact Hat₂
      iexact Hs₂
    iexact HR

end Cert.RunProof

end
-- ==== Proof.Turns.lean ====
/-
  What a device holds beside the pass it is in, and the steps between the passes.
-/
module

public import proofs.«01_k».proof.Proof.Sends
public import proofs.«01_k».proof.Proof.Gather
public import proofs.«01_k».proof.Proof.Share
public import proofs.«01_k».proof.Proof.Collect
public import proofs.«01_k».proof.Proof.Drain
public import Idealize.ShloMosaic.Lib.Pipeline.Value

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## Splitting a program -/

/-- A piece of a program and the rest of it, -/
theorem enter {α β : Type} {P : sProp 𝕄} {p : Prog (TpuEff nD τ sig (Elt F) Λ₀ .tc) α} {k : α → Prog (TpuEff nD τ sig (Elt F) Λ₀ .tc) β} {Q : β → sProp 𝕄}
    (h : P ⊢ wpk c p fun a => wpk c (k a) Q) : P ⊢ wpk c (p >>= k) Q := by
  unfold wpk
  rw [wp_bind]; exact h

/-- and the end of a piece. -/
theorem leave {α : Type} {P : sProp 𝕄} {v : α} {Q : α → sProp 𝕄} (h : P ⊢ Q v) : P ⊢ wpk c (pure v) Q :=
  h.trans (le_wp_ret _ _ _ v Q)

/-- The device's number. -/
theorem device_step {α : Type} {P : sProp 𝕄} {k : Dev nD → Prog (TpuEff nD τ sig (Elt F) Λ₀ .tc) α} {Q : α → sProp 𝕄}
    (h : P ⊢ wpk c (k c) Q) : P ⊢ wpk c (Prog.lift .deviceId >>= k) Q := by
  show P ⊢ wp frame (wpE (defs₀ (F := F)) 𝒱₀ (c : Thread nD τ) none) Set.univ (.op .deviceId k) Q
  rw [wp_deviceId]; exact h

/-! ## One thing per device -/

abbrev each (Φ : Dev nD → sProp 𝕄) : sProp 𝕄 := bigSep Finset.univ Φ

theorem each_self (X : sProp 𝕄) (Φ : Dev nD → sProp 𝕄) : each (fun d => if d = c then X else Φ d) = iprop(X ∗ bigSep (peers c) Φ) := by
  unfold each
  rw [bigSep_erase (Finset.mem_univ c), if_pos rfl]
  exact congrArg (fun Y => iprop(X ∗ Y)) (bigSep_congr fun d hd => if_neg (Finset.ne_of_mem_erase hd))

theorem each_peers (Φ : Dev nD → sProp 𝕄) : each (fun d => if d = c then iprop(emp) else Φ d) = bigSep (peers c) Φ :=
  (each_self c _ Φ).trans (equiv_iff.mp Idealize.SL.BI.emp_sep)

theorem each_sep (Φ Ψ : Dev nD → sProp 𝕄) : (each fun d => iprop(Φ d ∗ Ψ d)) = iprop(each Φ ∗ each Ψ) := bigSep_sep _ _ _
theorem each_two (Φ Ψ : Dev nD → sProp 𝕄) : iprop(each Φ ∗ each Ψ) ⊢ each fun d => iprop(Φ d ∗ Ψ d) := by rw [each_sep]
theorem each_mono {Φ Ψ : Dev nD → sProp 𝕄} (h : ∀ d, Φ d ⊢ Ψ d) : each Φ ⊢ each Ψ := bigSep_mono fun d _ => h d
theorem each_apart (Φ Ψ : Dev nD → sProp 𝕄) : (each fun d => iprop(Φ d ∗ Ψ d)) ⊢ iprop(each Φ ∗ each Ψ) := by rw [each_sep]

/-! ## What is held beside a pass -/

abbrev xM : Memref sig .tc .vmem S768x768 .bf16 := Memref.whole cc0_stg0_0
abbrev w1M : Memref sig .tc .vmem S768x1536 .bf16 := Memref.whole cc0_stg1_0
abbrev w2M : Memref sig .tc .vmem S1536x768 .bf16 := Memref.whole cc0_stg2_0

/-- The staged operands, and what else is held. -/
def withIns (R : sProp 𝕄) : sProp 𝕄 :=
  iprop((xM.view.loc (c : Thread nD τ) ↦[xM.view.set]{fullShare} I.x c) ∗ (w1M.view.loc (c : Thread nD τ) ↦[w1M.view.set]{fullShare} I.w1 c)
    ∗ (w2M.view.loc (c : Thread nD τ) ↦[w2M.view.set]{fullShare} I.w2 c) ∗ R)

def uS (d : Dev nD) : sProp 𝕄 := if d = c then iprop(emp) else iprop(dutyTok ER (dc 0 c d) 0 d ∗ dutyTok ER (dc 2 d c) 0 c)
def uG (d : Dev nD) : sProp 𝕄 := if d = c then iprop(emp) else iprop(cred (tallyAt (dc 2 c d) () N) ∗ atPos ER (dc 2 c d) 0 ∅ 0)
def uD (d : Dev nD) : sProp 𝕄 := if d = c then iprop(emp) else iprop(dutyTok ER (dc 1 c d) 0 d ∗ dutyTok ER (dc 3 d c) 0 c)
def vD (d : Dev nD) : sProp 𝕄 := if d = c then iprop(emp) else iprop(dutyTok ER (dc 1 c d) 0 d ∗ dutyTok ER (dc 3 d c) 0 c ∗ any d rc2M c)
def uF (d : Dev nD) : sProp 𝕄 := if d = c then iprop(emp) else iprop(atPos ER (dc 0 c d) 0 ∅ 0 ∗ atPos ER (dc 1 c d) 0 ∅ 0)

/-- What the later passes start from: -/
def later : sProp 𝕄 := iprop((∃ f, outP (F := F) c f) ∗ each (tE (F := F) c) ∗ each (uF (F := F) c))
/-- before the barrier, -/
def RA : sProp 𝕄 :=
  iprop((cred (tallyAt (barCell c) () 31) ∗ atPos ER (barCell c) 0 ∅ 0) ∗ (each (any (F := F) c sndM) ∗ each (uS (F := F) c))
    ∗ any (F := F) c rc1M c ∗ any (F := F) c rc2M c ∗ each (uG (F := F) c) ∗ each (uD (F := F) c) ∗ later (F := F) c)
/-- after it, -/
def RB : sProp 𝕄 :=
  iprop(atPos ER (barCell c) 1 ∅ 0 ∗ any (F := F) c rc1M c ∗ any (F := F) c rc2M c ∗ each (uG (F := F) c) ∗ each (vD (F := F) c) ∗ later (F := F) c)
/-- when the chunks are sent, -/
def RC : sProp 𝕄 :=
  iprop(atPos ER (barCell c) 1 ∅ 0 ∗ each (dS I c) ∗ any (F := F) c rc2M c ∗ each (vD (F := F) c) ∗ later (F := F) c)
/-- when they are received, -/
def RD : sProp 𝕄 :=
  iprop(atPos ER (barCell c) 1 ∅ 0 ∗ each (dS I c) ∗ each (dG I c) ∗ later (F := F) c)
/-- when the sum is sent, -/
def RE : sProp 𝕄 :=
  iprop(atPos ER (barCell c) 1 ∅ 0 ∗ each (dS I c) ∗ each (dG I c) ∗ each (dD (F := F) c) ∗ each (uF (F := F) c))
/-- and when the sums are received. -/
def RF : sProp 𝕄 :=
  iprop(outP c (outAt I c) ∗ atPos ER (barCell c) 1 ∅ 0 ∗ own c sndM c fullShare (chunk I c c) ∗ each (dG I c) ∗ each (dE I c))

/-! ## Loads of the operands -/

theorem w1_load {A R : sProp 𝕄} {off : Fin 2 → ℕ} (hoff : off = fun _ => 0) {inb : ∀ a, off a + S768x1536.size a ≤ S768x1536.size a}
    {hl : w1M.view.LoadsAt (Rect.unit (s := S768x1536) off S768x1536.size inb).toLoadRect}
    {α : Type} {Q : α → sProp 𝕄} {k : Vec F S768x1536 .bf16 → Prog (TpuEff nD τ sig (Elt F) Λ₀ .tc) α}
    (hk : iprop(A ∗ withIns I c R) ⊢ wpk c (k (I.w1 c)) Q) :
    iprop(A ∗ withIns I c R) ⊢ wpk c (Prog.lift (.load w1M (Rect.unit (s := S768x1536) off S768x1536.size inb).toLoadRect hl) >>= k) Q := by
  show _ ⊢ wpk c (.op _ k) Q
  have hr : ((w1M.access (Rect.unit (s := S768x1536) off S768x1536.size inb)) : View sig .tc .vmem _ _).read (Elt F) (I.w1 c) = I.w1 c :=
    Memref.read_access_unit_zero (Elt F) cc0_stg1_0 hoff inb (I.w1 c)
  unfold withIns at hk ⊢
  iintro ⟨HA, Hx, H1, H2, HR⟩
  iapply (wp_load_rect 𝒱₀ (c : Thread nD τ) none Set.univ (m := w1M) (r := Rect.unit (s := S768x1536) off S768x1536.size inb) (hl := hl)
    (S := w1M.view.set) (q := fullShare) (f := I.w1 c) (View.set_slice_subset _ _)) $$ H1
  iintro H1
  rw [hr]
  iapply hk
  isplitl [HA]; · iexact HA
  isplitl [Hx]; · iexact Hx
  isplitl [H1]; · iexact H1
  isplitl [H2]; · iexact H2
  iexact HR

theorem w2_load {A R : sProp 𝕄} {off : Fin 2 → ℕ} (hoff : off = fun _ => 0) {inb : ∀ a, off a + S1536x768.size a ≤ S1536x768.size a}
    {hl : w2M.view.LoadsAt (Rect.unit (s := S1536x768) off S1536x768.size inb).toLoadRect}
    {α : Type} {Q : α → sProp 𝕄} {k : Vec F S1536x768 .bf16 → Prog (TpuEff nD τ sig (Elt F) Λ₀ .tc) α}
    (hk : iprop(A ∗ withIns I c R) ⊢ wpk c (k (I.w2 c)) Q) :
    iprop(A ∗ withIns I c R) ⊢ wpk c (Prog.lift (.load w2M (Rect.unit (s := S1536x768) off S1536x768.size inb).toLoadRect hl) >>= k) Q := by
  show _ ⊢ wpk c (.op _ k) Q
  have hr : ((w2M.access (Rect.unit (s := S1536x768) off S1536x768.size inb)) : View sig .tc .vmem _ _).read (Elt F) (I.w2 c) = I.w2 c :=
    Memref.read_access_unit_zero (Elt F) cc0_stg2_0 hoff inb (I.w2 c)
  unfold withIns at hk ⊢
  iintro ⟨HA, Hx, H1, H2, HR⟩
  iapply (wp_load_rect 𝒱₀ (c : Thread nD τ) none Set.univ (m := w2M) (r := Rect.unit (s := S1536x768) off S1536x768.size inb) (hl := hl)
    (S := w2M.view.set) (q := fullShare) (f := I.w2 c) (View.set_slice_subset _ _)) $$ H2
  iintro H2
  rw [hr]
  iapply hk
  isplitl [HA]; · iexact HA
  isplitl [Hx]; · iexact Hx
  isplitl [H1]; · iexact H1
  isplitl [H2]; · iexact H2
  iexact HR

/-- The rows loaded are a row block. -/
theorem x_load (q : Fin 4) {A R : sProp 𝕄} {off : Fin 2 → ℕ} (hoff : off = ![q.val * 192, 0]) {inb : ∀ a, off a + S192x768.size a ≤ S768x768.size a}
    {hl : xM.view.LoadsAt (Rect.unit (s := S768x768) off S192x768.size inb).toLoadRect}
    {α : Type} {Q : α → sProp 𝕄} {k : Vec F S192x768 .bf16 → Prog (TpuEff nD τ sig (Elt F) Λ₀ .tc) α}
    (hk : iprop(A ∗ withIns I c R) ⊢ wpk c (k (xblk I c q)) Q) :
    iprop(A ∗ withIns I c R) ⊢ wpk c (Prog.lift (.load xM (Rect.unit (s := S768x768) off S192x768.size inb).toLoadRect hl) >>= k) Q := by
  subst hoff
  show _ ⊢ wpk c (.op _ k) Q
  have hr : ((xM.access (Rect.unit (s := S768x768) ![q.val * 192, 0] S192x768.size inb)) : View sig .tc .vmem _ _).read (Elt F) (I.x c) = xblk I c q := by
    funext y
    refine congrArg (I.x c) ?_
    funext a
    refine Fin.ext ?_
    match a with
    | ⟨0, _⟩ => show q.val * 192 + 1 * (y 0).val = q.val * 192 + (y 0).val; omega
    | ⟨1, _⟩ => show 0 + 1 * (y 1).val = (y 1).val; omega
  unfold withIns at hk ⊢
  iintro ⟨HA, Hx, H1, H2, HR⟩
  iapply (wp_load_rect 𝒱₀ (c : Thread nD τ) none Set.univ (m := xM) (r := Rect.unit (s := S768x768) ![q.val * 192, 0] S192x768.size inb) (hl := hl)
    (S := xM.view.set) (q := fullShare) (f := I.x c) (View.set_slice_subset _ _)) $$ Hx
  iintro Hx
  rw [hr]
  iapply hk
  isplitl [HA]; · iexact HA
  isplitl [Hx]; · iexact Hx
  isplitl [H1]; · iexact H1
  isplitl [H2]; · iexact H2
  iexact HR

/-! ## From the barrier to the sends -/

/-- What the barrier hands over, dealt to the two passes that send. -/
theorem dealt : iprop((each (any (F := F) c sndM) ∗ each (uS (F := F) c)) ∗ bigSep (peers c) (barPay (F := F) c) ∗ each (uD (F := F) c))
    ⊢ iprop(each (tS (F := F) c) ∗ each (vD (F := F) c)) := by
  have h : ∀ d, iprop((any (F := F) c sndM d ∗ uS c d) ∗ (if d = c then iprop(emp) else barPay c d) ∗ uD c d) ⊢ iprop(tS (F := F) c d ∗ vD c d) := by
    intro d
    unfold uS uD tS vD barPay
    by_cases h : d = c
    · simp only [if_pos h]
      iintro ⟨⟨H, -⟩, -, -⟩
      isplitl [H]
      · isplitl [H]; · iexact H
        iempintro
      iempintro
    · simp only [if_neg h]
      iintro ⟨⟨H, Ht₁, Ht₂⟩, ⟨H₁, H₂⟩, Hu₁, Hu₂⟩
      isplitl [H Ht₁ Ht₂ H₁]
      · isplitl [H]; · iexact H
        isplitl [Ht₁]; · iexact Ht₁
        isplitl [Ht₂]; · iexact Ht₂
        iexact H₁
      isplitl [Hu₁]; · iexact Hu₁
      isplitl [Hu₂]; · iexact Hu₂
      iexact H₂
  have h' := (each_mono h).trans (each_apart _ _)
  refine .trans ?_ h'
  rw [each_sep (fun d => iprop(any c sndM d ∗ uS c d)), each_sep (any c sndM), each_sep _ (uD c), each_peers]

/-- The wait for the barrier. -/
theorem barrier_step {n : ℕ} (hn : n = 32) {α : Type} {e : Prog (TpuEff nD τ sig (Elt F) Λ₀ .tc) α} {Q : α → sProp 𝕄}
    (hk : iprop(stB I K c 0 ∗ withIns I c (RB (F := F) c)) ⊢ wpk c e Q) :
    iprop(stA I K c n ∗ withIns I c (RA (F := F) c)) ⊢ wpk c (semWaitWord barS 31#32 >>= fun _ => e) Q := by
  subst hn
  have hd := dealt (F := F) c
  unfold stB oS owesE at hk
  unfold stA owesE withIns RA
  unfold withIns RB at hk
  rw [phase_zero] at hk
  rw [owing_end isOrdI, add_zero]
  have hm := mayWait_bar (F := F) c 0 0
  have hl := recs_lev I K
  have hc := recs_cell I K (c, none)
  show _ ⊢ wpk c (.op (.semWait barS 31) fun _ => e) Q
  iintro ⟨⟨#Hr, ⟨%W, HO⟩, -⟩, Hx, H1, H2, ⟨Hcr, Hat⟩, Hs, Hr1, Hr2, HG, HD, HL⟩
  ihave Hc := hc $$ Hr
  icases Hc with ⟨Hinv, -⟩
  ihave Hlv := hl $$ Hr
  iapply (Rounds.wp_wait_rest_token 𝒱₀ ER (sched I) (c : Thread nD τ) none (Es := Set.univ) (κ := K (c, none)) (sm := .reg barS) (k' := 31) (R := 0) (m := 0) (T := ∅)
    (wpE_semWait_eq 𝒱₀ (c : Thread nD τ) none Set.univ) (Set.mem_univ _) () (by rw [expect_bar])) $$ [HO Hcr Hat Hinv Hlv]
  · isplitl [Hinv]; · iexact Hinv
    isplitl [Hcr]; · iexact Hcr
    isplitl [HO]; · iexact HO
    isplitl [Hlv]; · iapply hm; iexact Hlv
    iexact Hat
  rw [rest_bar]
  iintro ⟨HO, Hat, -, Hp⟩
  ihave H := hd $$ [Hs Hp HD]
  · isplitl [Hs]; · iexact Hs
    isplitl [Hp]; · iexact Hp
    iexact HD
  icases H with ⟨HS, HV⟩
  iapply hk
  isplitl [HO HS]
  · isplitr; · iexact Hr
    isplitl [HO]; · iexists _; iexact HO
    iexact HS
  isplitl [Hx]; · iexact Hx
  isplitl [H1]; · iexact H1
  isplitl [H2]; · iexact H2
  isplitl [Hat]; · iexact Hat
  isplitl [Hr1]; · iexact Hr1
  isplitl [Hr2]; · iexact Hr2
  isplitl [HG]; · iexact HG
  isplitl [HV]; · iexact HV
  iexact HL

/-! ## From the sends to the receives -/

/-- A slab reshaped and back is the slab. -/
theorem recast (X : Slab F) : k0_pay45 X = X := shapeCast_shapeCast X _ _

/-- The device's own chunk goes from the one buffer to the other, and is read there. -/
theorem self_steps {n : ℕ} (hn : n = 32) {off : Fin 3 → ℕ} (hoff : off = ![c.val, 0, 0]) {inb : ∀ a, off a + S1x24x768.size a ≤ S32x24x768.size a}
    {hl₁ : sndM.view.LoadsAt (Rect.unit (s := S32x24x768) off S1x24x768.size inb).toLoadRect}
    {hl₂ hl₃ : rc1M.view.LoadsAt (Rect.unit (s := S32x24x768) off S1x24x768.size inb).toLoadRect}
    {hs : (rc1M.access (Rect.unit (s := S32x24x768) off S1x24x768.size inb) : View sig .tc .vmem _ _).Stores Finset.univ} {ha}
    {w : Slab F → Slab F} (hw : ∀ X, w X = k0_pay45 X)
    {α : Type} {Q : α → sProp 𝕄} {k : (S1x24x768.Idx → Elt F .bf16) → Prog (TpuEff nD τ sig (Elt F) Λ₀ .tc) α}
    (hk : iprop(stC I K c 0 ∗ withIns I c (RC I c)) ⊢ wpk c (k (chunk I c c)) Q) :
    iprop(stB I K c n ∗ withIns I c (RB (F := F) c)) ⊢ wpk c (
      Prog.lift (.load sndM (Rect.unit (s := S32x24x768) off S1x24x768.size inb).toLoadRect hl₁) >>= fun X =>
      Prog.lift (.load rc1M (Rect.unit (s := S32x24x768) off S1x24x768.size inb).toLoadRect hl₂) >>= fun _ =>
      Prog.lift (.store rc1M (Rect.unit (s := S32x24x768) off S1x24x768.size inb) (w X) Finset.univ hs ha) >>= fun _ =>
      Prog.lift (.load rc1M (Rect.unit (s := S32x24x768) off S1x24x768.size inb).toLoadRect hl₃) >>= k) Q := by
  subst hn
  show _ ⊢ wpk c (.op _ fun X => .op _ fun _ => .op _ fun _ => .op _ k) Q
  have hd : each (dS I c) = iprop(own c sndM c fullShare (chunk I c c) ∗ bigSep (peers c) fun d => cred (tallyAt (dc 0 c d) () N)) :=
    each_self c _ _
  have hG : iprop(own c rc1M c fullShare (chunk I c c) ∗ each (uG (F := F) c)) ⊢ each (tG I c) := by
    have h : each (tG I c) = iprop(own c rc1M c fullShare (chunk I c c) ∗ bigSep (peers c) fun d => iprop(cred (tallyAt (dc 2 c d) () N) ∗ atPos ER (dc 2 c d) 0 ∅ 0)) :=
      each_self c _ _
    have h' : each (uG (F := F) c) = bigSep (peers c) fun d => iprop(cred (tallyAt (dc 2 c d) () N) ∗ atPos ER (dc 2 c d) 0 ∅ 0) := each_peers c _
    rw [h, h']
  unfold stB oS withIns RB
  unfold stC withIns RC at hk
  rw [phase_zero, hd] at hk
  rw [phase_end (isOrdS c), show bigSep Finset.univ (dS I c) = _ from hd, owing_end (isOrdS c), add_zero]
  rw [show any (F := F) c rc1M c = iprop(∃ X : Slab F, own c rc1M c fullShare X) from rfl]
  iintro ⟨⟨#Hr, HO, Hs, Hcr⟩, Hx, H1, H2, Hat, ⟨%Y, Hr1⟩, Hr2, HG, HD, HL⟩
  iapply (wp_load_slab c c sndM fullShare (chunk I c c) hoff) $$ Hs
  iintro Hs
  iapply (wp_load_slab c c rc1M fullShare Y hoff) $$ Hr1
  iintro Hr1
  ihave Hr1 := (own_any c rc1M c Y) $$ Hr1
  iapply (wp_store_slab c c rc1M (w (chunk I c c)) hoff) $$ Hr1
  rw [hw, recast]
  iintro Hr1
  iapply (wp_load_slab c c rc1M fullShare (chunk I c c) hoff) $$ Hr1
  iintro Hr1
  iapply hk
  isplitl [HO Hr1 HG]
  · isplitr; · iexact Hr
    isplitl [HO]; · iexact HO
    iapply hG
    isplitl [Hr1]; · iexact Hr1
    iexact HG
  isplitl [Hx]; · iexact Hx
  isplitl [H1]; · iexact H1
  isplitl [H2]; · iexact H2
  isplitl [Hat]; · iexact Hat
  isplitl [Hs Hcr]
  · isplitl [Hs]; · iexact Hs
    iexact Hcr
  isplitl [Hr2]; · iexact Hr2
  isplitl [HD]; · iexact HD
  iexact HL

/-! ## From the receives to the sums -/

/-- The sum, stored, is lent to the copies. -/
theorem lend : iprop(own c rc2M c fullShare (redb I c) ∗ each (vD (F := F) c)) ⊢ each (tD I c) := by
  have h : each (vD (F := F) c) = bigSep (peers c) fun d => iprop(dutyTok ER (dc 1 c d) 0 d ∗ dutyTok ER (dc 3 d c) 0 c ∗ any d rc2M c) := each_peers c _
  have h' : each (tD I c) = iprop((bigSep (peers c) fun d => own c rc2M c (lent c d) (redb I c))
      ∗ bigSep (peers c) fun d => iprop(dutyTok ER (dc 1 c d) 0 d ∗ dutyTok ER (dc 3 d c) 0 c ∗ any d rc2M c)) :=
    (each_peers c _).trans (bigSep_sep _ _ _)
  rw [h, h', own_deal c rc2M c (redb I c) (peers c) (peers_nonempty c)]

theorem sum_steps {n : ℕ} (hn : n = 32) {off : Fin 3 → ℕ} (hoff : off = ![c.val, 0, 0]) {inb : ∀ a, off a + S1x24x768.size a ≤ S32x24x768.size a}
    {hl : rc2M.view.LoadsAt (Rect.unit (s := S32x24x768) off S1x24x768.size inb).toLoadRect}
    {hs : (rc2M.access (Rect.unit (s := S32x24x768) off S1x24x768.size inb) : View sig .tc .vmem _ _).Stores Finset.univ} {ha}
    {w : Slab F} (hw : w = redb I c)
    {α : Type} {Q : α → sProp 𝕄} {e : Prog (TpuEff nD τ sig (Elt F) Λ₀ .tc) α}
    (hk : iprop(stD I K c 0 ∗ withIns I c (RD I c)) ⊢ wpk c e Q) :
    iprop(stC I K c n ∗ withIns I c (RC I c)) ⊢ wpk c (
      Prog.lift (.load rc2M (Rect.unit (s := S32x24x768) off S1x24x768.size inb).toLoadRect hl) >>= fun _ =>
      Prog.lift (.store rc2M (Rect.unit (s := S32x24x768) off S1x24x768.size inb) w Finset.univ hs ha) >>= fun _ => e) Q := by
  subst hn
  show _ ⊢ wpk c (.op _ fun _ => .op _ fun _ => e) Q
  subst hw
  have hD := lend I c
  unfold stC withIns RC
  unfold stD withIns RD at hk
  rw [phase_zero] at hk
  rw [phase_end (isOrdR c), show any (F := F) c rc2M c = iprop(∃ X : Slab F, own c rc2M c fullShare X) from rfl]
  iintro ⟨⟨#Hr, HO, HG⟩, Hx, H1, H2, Hat, HS, ⟨%Y, Hr2⟩, HD, HL⟩
  iapply (wp_load_slab c c rc2M fullShare Y hoff) $$ Hr2
  iintro Hr2
  ihave Hr2 := (own_any c rc2M c Y) $$ Hr2
  iapply (wp_store_slab c c rc2M (redb I c) hoff) $$ Hr2
  iintro Hr2
  iapply hk
  isplitl [HO Hr2 HD]
  · isplitr; · iexact Hr
    isplitl [HO]; · iexact HO
    iapply hD
    isplitl [Hr2]; · iexact Hr2
    iexact HD
  isplitl [Hx]; · iexact Hx
  isplitl [H1]; · iexact H1
  isplitl [H2]; · iexact H2
  isplitl [Hat]; · iexact Hat
  isplitl [HS]; · iexact HS
  isplitl [HG]; · iexact HG
  iexact HL

/-- The device's own rows of the result. -/
theorem own_rows_steps {n : ℕ} (hn : n = 32) {off : Fin 2 → ℕ} (hoff : off = ![24 * c.val, 0]) {inb : ∀ a, off a + S24x768.size a ≤ S768x768.size a}
    {hl : outM.view.LoadsAt (Rect.unit (s := S768x768) off S24x768.size inb).toLoadRect}
    {hs : (outM.access (Rect.unit (s := S768x768) off S24x768.size inb) : View sig .tc .vmem _ _).Stores Finset.univ} {ha}
    {w : FVec F S24x768 .f32} (hw : w = red I c 32)
    {α : Type} {Q : α → sProp 𝕄} {e : Prog (TpuEff nD τ sig (Elt F) Λ₀ .tc) α}
    (hk : iprop(stE I K c 0 ∗ withIns I c (RE I c)) ⊢ wpk c e Q) :
    iprop(stD I K c n ∗ withIns I c (RD I c)) ⊢ wpk c (
      Prog.lift (.load outM (Rect.unit (s := S768x768) off S24x768.size inb).toLoadRect hl) >>= fun _ =>
      Prog.lift (.store outM (Rect.unit (s := S768x768) off S24x768.size inb) w Finset.univ hs ha) >>= fun _ => e) Q := by
  subst hn
  subst hoff hw
  show _ ⊢ wpk c (.op _ fun _ => .op (.store outM (rowsR c) (red I c 32) Finset.univ hs ha) fun _ => e) Q
  unfold stD withIns RD later
  unfold stE withIns RE at hk
  rw [phase_zero] at hk
  rw [phase_end isOrdI, owing_end isOrdI]
  iintro ⟨⟨#Hr, HO, HD⟩, Hx, H1, H2, Hat, HS, HG, ⟨%f, Hf⟩, HE, HF⟩
  iapply (wp_load_rect 𝒱₀ (c : Thread nD τ) none Set.univ (m := outM) (r := rowsR c) (hl := hl) (S := outM.view.set) (q := fullShare) (f := f)
    (View.set_slice_subset _ _)) $$ Hf
  iintro Hf
  iapply (wp_store 𝒱₀ (c : Thread nD τ) none Set.univ (m := outM) (r := rowsR c) (w := red I c 32) (Mk := Finset.univ)
    (S := outM.view.set) (f := f) (hx := hs) (hm := ha) (k := fun _ => e) (View.set_slice_subset _ _)) $$ Hf
  iintro Hf
  iapply hk
  isplitl [HO HE Hf]
  · isplitr; · iexact Hr
    isplitl [HO]; · iexact HO
    isplitl [HE]; · iexact HE
    iexists ((rowsV c).write (Elt F) f (red I c 32) Finset.univ)
    isplitr
    · ipureintro
      intro d hd
      have hdc : d = c := by
        by_contra h
        exact hd (Finset.mem_erase.mpr ⟨h, by rw [left_zero]; exact Finset.mem_univ d⟩)
      rw [hdc, rows_written, outBlk, if_pos rfl]
    iexact Hf
  isplitl [Hx]; · iexact Hx
  isplitl [H1]; · iexact H1
  isplitl [H2]; · iexact H2
  isplitl [Hat]; · iexact Hat
  isplitl [HS]; · iexact HS
  isplitl [HG]; · iexact HG
  isplitl [HD]; · iexact HD
  iexact HF

/-! ## From the sums to the last waits -/

theorem waiting : iprop((bigSep (peers c) fun d => (cred (tallyAt (dc 0 c d) () N) : sProp 𝕄)) ∗ each (dD (F := F) c) ∗ each (uF (F := F) c)) ⊢ each (tF (F := F) c) := by
  have h : ∀ d, iprop((if d = c then iprop(emp) else cred (tallyAt (dc 0 c d) () N)) ∗ dD (F := F) c d ∗ uF c d) ⊢ tF (F := F) c d := by
    intro d
    unfold dD uF tF
    by_cases h : d = c
    · simp only [if_pos h]
      iintro ⟨-, -, H⟩
      iexact H
    · simp only [if_neg h]
      iintro ⟨H₁, H₂, H₃, H₄⟩
      isplitl [H₁ H₃]
      · isplitl [H₁]; · iexact H₁
        iexact H₃
      isplitl [H₂]; · iexact H₂
      iexact H₄
  refine .trans ?_ (each_mono h)
  rw [each_sep, each_sep (dD (F := F) c), each_peers]

theorem collected {n : ℕ} (hn : n = 32) : iprop(stE I K c n ∗ withIns I c (RE I c)) ⊢ iprop(stF I K c 0 ∗ withIns I c (RF I c)) := by
  subst hn
  have hd : each (dS I c) = iprop(own c sndM c fullShare (chunk I c c) ∗ bigSep (peers c) fun d => cred (tallyAt (dc 0 c d) () N)) :=
    each_self c _ _
  have hF := waiting (F := F) c
  unfold stE stF withIns RE RF
  rw [phase_end isOrdI, phase_zero, hd]
  iintro ⟨⟨#Hr, HO, HE, ⟨%f, %hf, Hf⟩⟩, Hx, H1, H2, Hat, ⟨Hs, Hc⟩, HG, HD, HU⟩
  have he : f = outAt I c := rows_all I c f fun d => hf d (by rw [left_end isOrdI]; exact Finset.notMem_empty d)
  subst he
  isplitl [HO HD HU Hc]
  · isplitr; · iexact Hr
    isplitl [HO]; · iexact HO
    iapply hF
    isplitl [Hc]; · iexact Hc
    isplitl [HD]; · iexact HD
    iexact HU
  isplitl [Hx]; · iexact Hx
  isplitl [H1]; · iexact H1
  isplitl [H2]; · iexact H2
  isplitl [Hf]; · iexact Hf
  isplitl [Hat]; · iexact Hat
  isplitl [Hs]; · iexact Hs
  isplitl [HG]; · iexact HG
  iexact HE

end Cert.RunProof

end
-- ==== Proof.Body.lean ====
/-
  One device's run of the whole kernel.
-/
module

public import proofs.«01_k».proof.Proof.Turns

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

attribute [local irreducible] wp

set_option maxHeartbeats 4000000

/-- The body run from the first barrier signal to the last wait, part by part. -/
theorem body_run (Q : PUnit → sProp 𝕄) (hk : iprop(stF I K c 32 ∗ withIns I c (RF I c)) ⊢ Q ⟨⟩) :
    iprop(stA I K c 0 ∗ withIns I c (RA (F := F) c)) ⊢ wpk c (cc0_body (F := F) xM (Memref.isWhole_whole _) w1M (Memref.isWhole_whole _) w2M (Memref.isWhole_whole _)
      outM (Memref.isWhole_whole _) sndM (Memref.isWhole_whole _) rc1M (Memref.isWhole_whole _) rc2M (Memref.isWhole_whole _) cc0_scratch3 cc0_scratch4 cc0_scratch5 cc0_scratch6) Q := by
  rw [cc0_body_eq_skeleton]
  unfold cc0_body_skel
  refine enter c ?_
  rw [k0_part46_eq_skeleton]
  unfold k0_part46_skel
  refine enter c ?_
  rw [k0_part1_eq_skeleton]
  unfold k0_part1_skel
  refine device_step c ?_
  iterate 4 refine signal_step I K c _ (fun _ => rfl) ?_
  refine leave c ?_
  refine enter c ?_
  rw [k0_part2_eq_skeleton]
  unfold k0_part2_skel
  iterate 10 refine signal_step I K c _ (fun _ => rfl) ?_
  refine leave c ?_
  refine enter c ?_
  rw [k0_part3_eq_skeleton]
  unfold k0_part3_skel
  iterate 10 refine signal_step I K c _ (fun _ => rfl) ?_
  refine leave c ?_
  refine enter c ?_
  rw [k0_part4_eq_skeleton]
  unfold k0_part4_skel
  iterate 8 refine signal_step I K c _ (fun _ => rfl) ?_
  refine w1_load I c (by decide) ?_
  refine w2_load I c (by decide) ?_
  refine leave c ?_
  refine enter c ?_
  rw [k0_part5_eq_skeleton]
  unfold k0_part5_skel
  refine x_load I c (grpS c 0) (by clear * -; revert c; decide +kernel) ?_
  refine barrier_step I K c (by decide) ?_
  refine fill_load I K c _ (fun _ => ?_)
  refine fill_store I K c _ rfl ?_
  refine send_step I K c _ ?_
  refine fill_load I K c _ (fun _ => ?_)
  refine fill_store I K c _ rfl ?_
  refine leave c ?_
  refine enter c ?_
  rw [k0_part6_eq_skeleton]
  unfold k0_part6_skel
  refine send_step I K c _ ?_
  iterate 3
    refine fill_load I K c _ (fun _ => ?_)
    refine fill_store I K c _ rfl ?_
    refine send_step I K c _ ?_
  refine leave c ?_
  refine enter c ?_
  rw [k0_part7_eq_skeleton]
  unfold k0_part7_skel
  iterate 3
    refine fill_load I K c _ (fun _ => ?_)
    refine fill_store I K c _ rfl ?_
    refine send_step I K c _ ?_
  refine leave c ?_
  refine enter c ?_
  rw [k0_part8_eq_skeleton]
  unfold k0_part8_skel
  refine x_load I c (grpS c 1) (by clear * -; revert c; decide +kernel) ?_
  iterate 2
    refine fill_load I K c _ (fun _ => ?_)
    refine fill_store I K c _ rfl ?_
    refine send_step I K c _ ?_
  refine fill_load I K c _ (fun _ => ?_)
  refine leave c ?_
  refine enter c ?_
  rw [k0_part9_eq_skeleton]
  unfold k0_part9_skel
  refine fill_store I K c _ rfl ?_
  refine send_step I K c _ ?_
  iterate 3
    refine fill_load I K c _ (fun _ => ?_)
    refine fill_store I K c _ rfl ?_
    refine send_step I K c _ ?_
  refine leave c ?_
  refine enter c ?_
  rw [k0_part10_eq_skeleton]
  unfold k0_part10_skel
  iterate 2
    refine fill_load I K c _ (fun _ => ?_)
    refine fill_store I K c _ rfl ?_
    refine send_step I K c _ ?_
  refine x_load I c (grpS c 2) (by clear * -; revert c; decide +kernel) ?_
  refine leave c ?_
  refine enter c ?_
  rw [k0_part11_eq_skeleton]
  unfold k0_part11_skel
  iterate 3
    refine fill_load I K c _ (fun _ => ?_)
    refine fill_store I K c _ rfl ?_
    refine send_step I K c _ ?_
  refine leave c ?_
  refine enter c ?_
  rw [k0_part12_eq_skeleton]
  unfold k0_part12_skel
  iterate 3
    refine fill_load I K c _ (fun _ => ?_)
    refine fill_store I K c _ rfl ?_
    refine send_step I K c _ ?_
  refine fill_load I K c _ (fun _ => ?_)
  refine fill_store I K c _ rfl ?_
  refine leave c ?_
  refine enter c ?_
  rw [k0_part13_eq_skeleton]
  unfold k0_part13_skel
  refine send_step I K c _ ?_
  refine fill_load I K c _ (fun _ => ?_)
  refine fill_store I K c _ rfl ?_
  refine send_step I K c _ ?_
  refine x_load I c (grpS c 3) (by clear * -; revert c; decide +kernel) ?_
  refine leave c ?_
  refine enter c ?_
  rw [k0_part14_eq_skeleton]
  unfold k0_part14_skel
  iterate 3
    refine fill_load I K c _ (fun _ => ?_)
    refine fill_store I K c _ rfl ?_
    refine send_step I K c _ ?_
  refine fill_load I K c _ (fun _ => ?_)
  refine fill_store I K c _ rfl ?_
  refine leave c ?_
  refine enter c ?_
  rw [k0_part15_eq_skeleton]
  unfold k0_part15_skel
  refine send_step I K c _ ?_
  iterate 3
    refine fill_load I K c _ (fun _ => ?_)
    refine fill_store I K c _ rfl ?_
    refine send_step I K c _ ?_
  refine leave c ?_
  refine enter c ?_
  rw [k0_part16_eq_skeleton]
  unfold k0_part16_skel
  refine fill_load I K c _ (fun _ => ?_)
  refine fill_store I K c _ rfl ?_
  refine send_step I K c _ ?_
  refine self_steps I K c (by decide) (by clear * -; revert c; decide +kernel) (fun _ => rfl) ?_
  refine recv_step I K c _ ?_
  refine leave c ?_
  refine enter c ?_
  rw [k0_part17_eq_skeleton]
  unfold k0_part17_skel
  refine recv_load I K c _ ?_
  refine recv_step I K c _ ?_
  refine recv_load I K c _ ?_
  refine leave c ?_
  refine enter c ?_
  rw [k0_part18_eq_skeleton]
  unfold k0_part18_skel
  iterate 2
    refine recv_step I K c _ ?_
    refine recv_load I K c _ ?_
  refine leave c ?_
  refine enter c ?_
  rw [k0_part19_eq_skeleton]
  unfold k0_part19_skel
  refine recv_step I K c _ ?_
  refine recv_load I K c _ ?_
  refine leave c ?_
  refine enter c ?_
  rw [k0_part20_eq_skeleton]
  unfold k0_part20_skel
  iterate 2
    refine recv_step I K c _ ?_
    refine recv_load I K c _ ?_
  refine leave c ?_
  refine enter c ?_
  rw [k0_part21_eq_skeleton]
  unfold k0_part21_skel
  refine recv_step I K c _ ?_
  refine recv_load I K c _ ?_
  refine recv_step I K c _ ?_
  refine leave c ?_
  refine enter c ?_
  rw [k0_part22_eq_skeleton]
  unfold k0_part22_skel
  refine recv_load I K c _ ?_
  refine recv_step I K c _ ?_
  refine recv_load I K c _ ?_
  refine leave c ?_
  refine enter c ?_
  rw [k0_part23_eq_skeleton]
  unfold k0_part23_skel
  iterate 2
    refine recv_step I K c _ ?_
    refine recv_load I K c _ ?_
  refine leave c ?_
  refine enter c ?_
  rw [k0_part24_eq_skeleton]
  unfold k0_part24_skel
  refine recv_step I K c _ ?_
  refine recv_load I K c _ ?_
  refine leave c ?_
  refine enter c ?_
  rw [k0_part25_eq_skeleton]
  unfold k0_part25_skel
  iterate 2
    refine recv_step I K c _ ?_
    refine recv_load I K c _ ?_
  refine leave c ?_
  refine enter c ?_
  rw [k0_part26_eq_skeleton]
  unfold k0_part26_skel
  refine recv_step I K c _ ?_
  refine recv_load I K c _ ?_
  refine leave c ?_
  refine enter c ?_
  rw [k0_part27_eq_skeleton]
  unfold k0_part27_skel
  iterate 2
    refine recv_step I K c _ ?_
    refine recv_load I K c _ ?_
  refine leave c ?_
  refine enter c ?_
  rw [k0_part28_eq_skeleton]
  unfold k0_part28_skel
  refine recv_step I K c _ ?_
  refine recv_load I K c _ ?_
  refine recv_step I K c _ ?_
  refine leave c ?_
  refine enter c ?_
  rw [k0_part29_eq_skeleton]
  unfold k0_part29_skel
  refine recv_load I K c _ ?_
  refine recv_step I K c _ ?_
  refine recv_load I K c _ ?_
  refine leave c ?_
  refine enter c ?_
  rw [k0_part30_eq_skeleton]
  unfold k0_part30_skel
  iterate 2
    refine recv_step I K c _ ?_
    refine recv_load I K c _ ?_
  refine leave c ?_
  refine enter c ?_
  rw [k0_part31_eq_skeleton]
  unfold k0_part31_skel
  refine recv_step I K c _ ?_
  refine recv_load I K c _ ?_
  refine leave c ?_
  refine enter c ?_
  rw [k0_part32_eq_skeleton]
  unfold k0_part32_skel
  iterate 2
    refine recv_step I K c _ ?_
    refine recv_load I K c _ ?_
  refine leave c ?_
  refine enter c ?_
  rw [k0_part33_eq_skeleton]
  unfold k0_part33_skel
  refine recv_step I K c _ ?_
  refine recv_load I K c _ ?_
  refine leave c ?_
  refine enter c ?_
  rw [k0_part34_eq_skeleton]
  unfold k0_part34_skel
  iterate 2
    refine recv_step I K c _ ?_
    refine recv_load I K c _ ?_
  refine leave c ?_
  refine enter c ?_
  rw [k0_part35_eq_skeleton]
  unfold k0_part35_skel
  refine recv_step I K c _ ?_
  refine recv_load I K c _ ?_
  refine recv_step I K c _ ?_
  refine leave c ?_
  refine enter c ?_
  rw [k0_part36_eq_skeleton]
  unfold k0_part36_skel
  refine recv_load I K c _ ?_
  refine recv_step I K c _ ?_
  refine recv_load I K c _ ?_
  refine sum_steps I K c (by decide) (by clear * -; revert c; decide +kernel) rfl ?_
  refine share_step I K c _ (fun _ => rfl) ?_
  refine leave c ?_
  refine enter c ?_
  rw [k0_part37_eq_skeleton]
  unfold k0_part37_skel
  iterate 10 refine share_step I K c _ (fun _ => rfl) ?_
  refine leave c ?_
  refine enter c ?_
  rw [k0_part38_eq_skeleton]
  unfold k0_part38_skel
  iterate 10 refine share_step I K c _ (fun _ => rfl) ?_
  refine leave c ?_
  refine enter c ?_
  rw [k0_part39_eq_skeleton]
  unfold k0_part39_skel
  iterate 10 refine share_step I K c _ (fun _ => rfl) ?_
  refine leave c ?_
  refine enter c ?_
  rw [k0_part40_eq_skeleton]
  unfold k0_part40_skel
  refine share_step I K c _ (fun _ => rfl) ?_
  refine own_rows_steps I K c (by decide) (by clear * -; revert c; decide +kernel) rfl ?_
  iterate 8 refine take_step I K c _ (fun _ => rfl) ?_
  refine leave c ?_
  refine enter c ?_
  rw [k0_part41_eq_skeleton]
  unfold k0_part41_skel
  iterate 10 refine take_step I K c _ (fun _ => rfl) ?_
  refine leave c ?_
  refine enter c ?_
  rw [k0_part42_eq_skeleton]
  unfold k0_part42_skel
  iterate 10 refine take_step I K c _ (fun _ => rfl) ?_
  refine leave c ?_
  refine enter c ?_
  rw [k0_part43_eq_skeleton]
  unfold k0_part43_skel
  iterate 4 refine take_step I K c _ (fun _ => rfl) ?_
  refine (collected I K c (by decide)).trans ?_
  iterate 6 refine drain_step I K c _ ?_
  refine leave c ?_
  refine enter c ?_
  rw [k0_part44_eq_skeleton]
  unfold k0_part44_skel
  iterate 10 refine drain_step I K c _ ?_
  refine leave c ?_
  refine enter c ?_
  rw [k0_part45_eq_skeleton]
  unfold k0_part45_skel
  iterate 10 refine drain_step I K c _ ?_
  refine leave c ?_
  iterate 2 refine drain_step I K c _ ?_
  refine leave c ?_
  iterate 4 refine drain_step I K c _ ?_
  exact leave c hk

end Cert.RunProof

end
-- ==== Proof.Close.lean ====
/-
  The end of the run of one device: its cells are read once more and stand at zero, the slabs are put together to the
  whole buffers, and the result is in the staged output.
-/
module

public import proofs.«01_k».proof.Proof.Body

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## The device's positions -/

/-- The position of a device at a cell of its own when all is done: the cell for itself was never used. -/
def posE (a : Fin 4) (d : Dev nD) : sProp 𝕄 := atPos ER (dc a c d) (if d = c then 0 else 1) ∅ 0

/-- The positions at the cells that are never used. -/
def selfs : sProp 𝕄 :=
  iprop(atPos ER (dc 0 c c) 0 ∅ 0 ∗ atPos ER (dc 1 c c) 0 ∅ 0 ∗ atPos ER (dc 2 c c) 0 ∅ 0 ∗ atPos ER (dc 3 c c) 0 ∅ 0)

theorem pos_all (a : Fin 4) :
    iprop(atPos ER (dc a c c) 0 ∅ 0 ∗ bigSep (peers c) fun d => atPos ER (dc a c d) 1 ∅ 0) ⊢ each (posE (F := F) c a) := by
  have h : each (posE (F := F) c a) = iprop(atPos ER (dc a c c) 0 ∅ 0 ∗ bigSep (peers c) fun d => atPos ER (dc a c d) 1 ∅ 0) := by
    unfold each posE
    rw [bigSep_erase (Finset.mem_univ c), if_pos rfl]
    exact congrArg (fun Y => iprop(_ ∗ Y)) (bigSep_congr fun d hd => by rw [if_neg (Finset.ne_of_mem_erase hd)])
  rw [h]

/-! ## Closing the cells -/

theorem no_duty (a : Fin 4) (d : Dev nD) : ∀ r, (if d = c then 0 else 1) ≤ r → (sched I).duties (dc a c d) r = ∅ := by
  intro r hr
  rcases r with _ | r
  · split at hr
    · next h => subst h; exact duties_self I a d
    · omega
  · exact duties_later I _ _ (by omega)

theorem close_dma (a : Fin 4) (d : Dev nD) : iprop(recs I K ∗ posE c a d) ⊢ (|={Set.univ}=> semVal (dc a c d) 0 : sProp 𝕄) := by
  have hc := recs_cell I K (c, some (a, d))
  unfold posE
  iintro ⟨#HR, Hat⟩
  ihave Hc := hc $$ HR
  icases Hc with ⟨#Hc, -⟩
  iapply (Rounds.cell_close ER (sched I) (Set.mem_univ (K (c, some (a, d)))) (fun h => h) (no_duty I c a d))
  isplitr; · iexact Hc
  iexact Hat

theorem close_bar : iprop(recs I K ∗ atPos ER (barCell c) 1 ∅ 0) ⊢ (|={Set.univ}=> semVal (barCell c) 0 : sProp 𝕄) := by
  have hc := recs_cell I K (c, none)
  iintro ⟨#HR, Hat⟩
  ihave Hc := hc $$ HR
  icases Hc with ⟨#Hc, -⟩
  iapply (Rounds.cell_close ER (sched I) (Set.mem_univ (K (c, none))) (fun h => h) (duties_later I (barCell c)))
  isplitr; · iexact Hc
  iexact Hat

/-- What every one of a family makes of itself beside a record. -/
theorem with_recs {J : Type} [DecidableEq J] {s : Finset J} {R : sProp 𝕄} [BI.Persistent R] {Φ Ψ : J → sProp 𝕄} (h : ∀ j, iprop(R ∗ Φ j) ⊢ Ψ j) :
    iprop(R ∗ bigSep s Φ) ⊢ bigSep s Ψ := by
  refine (sep_mono_left (BI.bigSep_of_persistent s R)).trans ?_
  rw [← bigSep_sep']
  exact bigSep_mono fun j _ => h j

theorem close_fam (a : Fin 4) :
    iprop(recs I K ∗ each (posE (F := F) c a)) ⊢ (|={Set.univ}=> each fun d => semVal (dc a c d) 0 : sProp 𝕄) :=
  (with_recs (close_dma I K c a)).trans (bigSep_fupd _ _)

/-- Every counter of the device at zero. -/
def zeros : sProp 𝕄 :=
  iprop(semVal (barCell c) 0 ∗ each (fun d => semVal (dc 0 c d) 0) ∗ each (fun d => semVal (dc 1 c d) 0)
    ∗ each (fun d => semVal (dc 2 c d) 0) ∗ each (fun d => semVal (dc 3 c d) 0))

/-! ## The buffers whole again -/

def bufs : sProp 𝕄 :=
  iprop((∃ f, sndM.view.loc (c : Thread nD τ) ↦[sndM.view.set]{fullShare} f)
    ∗ (∃ f, rc1M.view.loc (c : Thread nD τ) ↦[rc1M.view.set]{fullShare} f)
    ∗ (∃ f, rc2M.view.loc (c : Thread nD τ) ↦[rc2M.view.set]{fullShare} f))

theorem any_join' (M : Memref sig .tc .vmem S32x24x768 .bf16) :
    iprop(any (F := F) c M c ∗ bigSep (peers c) (any (F := F) c M)) ⊢ iprop(∃ f, M.view.loc (c : Thread nD τ) ↦[M.view.set]{fullShare} f) := by
  have h := any_join (F := F) c M
  rw [bigSep_erase (Finset.mem_univ c)] at h
  exact h

theorem own_peers (M : Memref sig .tc .vmem S32x24x768 .bf16) (X : Dev nD → Slab F) :
    (bigSep (peers c) fun d => own c M d fullShare (X d)) ⊢ bigSep (peers c) (any (F := F) c M) :=
  bigSep_mono fun d _ => own_any c M d (X d)

theorem own_back : (bigSep (peers c) fun d => own c rc2M c (lent c d) (redb I c)) ⊢ any (F := F) c rc2M c := by
  have h := own_any (F := F) c rc2M c (redb I c)
  rw [own_deal c rc2M c (redb I c) (peers c) (peers_nonempty c)] at h
  exact h

/-! ## What the passes leave, taken apart -/

theorem dF_apart : each (dF I c) ⊢ iprop(((bigSep (peers c) fun d => atPos ER (dc 0 c d) 1 ∅ 0) ∗ bigSep (peers c) (any (F := F) c sndM))
    ∗ ((bigSep (peers c) fun d => atPos ER (dc 1 c d) 1 ∅ 0) ∗ any (F := F) c rc2M c)) := by
  unfold dF
  rw [each_peers, bigSep_sep', bigSep_sep', bigSep_sep']
  exact BIClass.sep_mono (BIClass.sep_mono .rfl (own_peers c sndM (chunk I c))) (BIClass.sep_mono .rfl (own_back I c))

theorem dG_apart : each (dG I c) ⊢ iprop((∃ f, rc1M.view.loc (c : Thread nD τ) ↦[rc1M.view.set]{fullShare} f)
    ∗ bigSep (peers c) fun d => atPos ER (dc 2 c d) 1 ∅ 0) := by
  unfold dG
  rw [each_sep, each_peers]
  exact BIClass.sep_mono ((each_mono fun d => own_any c rc1M d _).trans (any_join c rc1M)) .rfl

theorem dE_apart : each (dE I c) ⊢ iprop(bigSep (peers c) (any (F := F) c rc2M) ∗ bigSep (peers c) fun d => atPos ER (dc 3 c d) 1 ∅ 0) := by
  unfold dE
  rw [each_peers, bigSep_sep']
  exact BIClass.sep_mono (own_peers c rc2M (redb I)) .rfl

/-- The device when it is done: it owes nothing, the result is there, the buffers are whole and the counters zero. -/
def done : sProp 𝕄 := iprop(owesE c 0 ∗ withIns I c (outP c (outAt I c)) ∗ bufs (F := F) c ∗ zeros (F := F) c)

theorem body_close : iprop((stF I K c 32 ∗ withIns I c (RF I c)) ∗ selfs (F := F) c) ⊢ |={Set.univ}=> done I c := by
  have h0 := close_fam I K c 0
  have h1 := close_fam I K c 1
  have h2 := close_fam I K c 2
  have h3 := close_fam I K c 3
  have hb := close_bar I K c
  unfold done stF withIns RF selfs zeros bufs
  rw [phase_end isOrdI]
  iintro ⟨⟨⟨#HR, HO, HF⟩, Hx, H1, H2, Hout, Hbar, Hown, HG, HE⟩, P0, P1, P2, P3⟩
  ihave HF := (dF_apart I c) $$ HF
  icases HF with ⟨⟨A0, Hs⟩, A1, Hr⟩
  ihave HG := (dG_apart I c) $$ HG
  icases HG with ⟨HG, A2⟩
  ihave HE := (dE_apart I c) $$ HE
  icases HE with ⟨HE, A3⟩
  ihave Hown := (own_any c sndM c (chunk I c c)) $$ Hown
  ihave B0 := (any_join' c sndM) $$ [Hown Hs]
  · isplitl [Hown] <;> iassumption
  ihave B2 := (any_join' c rc2M) $$ [Hr HE]
  · isplitl [Hr] <;> iassumption
  ihave P0 := (pos_all c 0) $$ [P0 A0]
  · isplitl [P0] <;> iassumption
  ihave P1 := (pos_all c 1) $$ [P1 A1]
  · isplitl [P1] <;> iassumption
  ihave P2 := (pos_all c 2) $$ [P2 A2]
  · isplitl [P2] <;> iassumption
  ihave P3 := (pos_all c 3) $$ [P3 A3]
  · isplitl [P3] <;> iassumption
  imod h0 $$ [P0] with P0
  · isplitr; · iexact HR
    iexact P0
  imod h1 $$ [P1] with P1
  · isplitr; · iexact HR
    iexact P1
  imod h2 $$ [P2] with P2
  · isplitr; · iexact HR
    iexact P2
  imod h3 $$ [P3] with P3
  · isplitr; · iexact HR
    iexact P3
  imod hb $$ [Hbar] with Hbar
  · isplitr; · iexact HR
    iexact Hbar
  imodintro
  isplitl [HO]; · iexact HO
  isplitl [Hx H1 H2 Hout]
  · isplitl [Hx]; · iexact Hx
    isplitl [H1]; · iexact H1
    isplitl [H2]; · iexact H2
    iexact Hout
  isplitl [B0 HG B2]
  · isplitl [B0]; · iexact B0
    isplitl [HG]; · iexact HG
    iexact B2
  isplitl [Hbar]; · iexact Hbar
  isplitl [P0]; · iexact P0
  isplitl [P1]; · iexact P1
  isplitl [P2]; · iexact P2
  iexact P3

/-- The body of the kernel on one device, from its start to its end. -/
theorem body_done (Q : PUnit → sProp 𝕄) (hk : done I c ⊢ Q ⟨⟩) :
    iprop((stA I K c 0 ∗ withIns I c (RA (F := F) c)) ∗ selfs (F := F) c) ⊢ wpk c (cc0_body (F := F) xM (Memref.isWhole_whole _) w1M (Memref.isWhole_whole _) w2M (Memref.isWhole_whole _)
      outM (Memref.isWhole_whole _) sndM (Memref.isWhole_whole _) rc1M (Memref.isWhole_whole _) rc2M (Memref.isWhole_whole _) cc0_scratch3 cc0_scratch4 cc0_scratch5 cc0_scratch6) Q := by
  refine (sep_mono_left (body_run I K c (fun _ => iprop(stF I K c 32 ∗ withIns I c (RF I c))) .rfl)).trans ?_
  unfold wpk
  refine (wp_frame_r _ _ _).trans ((wp_mono _ _ _ fun _ => ?_).trans (wp_fupd _ _ _ _ _))
  exact (body_close I K c).trans (BI.fupd_mono hk)

end Cert.RunProof

end
-- ==== Proof.Start.lean ====
/-
  The start: what the launch hands out. Every device gets its positions at its own cells, the rights to signal the
  other devices and to credit their cells, and the credits of what the others owe it; every device knows all cells.
-/
module

public import proofs.«01_k».proof.Proof.Close

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## The cells and the rights, as made -/

theorem cellAt_inj : Function.Injective cellAt := by
  rintro ⟨c, x⟩ ⟨c', x'⟩ h
  have h1 : c = c' := by
    rcases x with _ | ⟨a, i⟩ <;> rcases x' with _ | ⟨a', i'⟩ <;> exact congrArg (fun g : GSem nD τ sig => g.1.1) h
  subst h1
  rcases x with _ | ⟨a, i⟩ <;> rcases x' with _ | ⟨a', i'⟩
  · rfl
  · exact absurd (congrArg Prod.snd h) (fun h' => by cases h')
  · exact absurd (congrArg Prod.snd h) (fun h' => by cases h')
  · have h2 := dsem_inj (SemLoc.dma.inj (congrArg Prod.snd h))
    rw [h2.1, h2.2]

abbrev allCells : Finset (GSem nD τ sig) := Finset.univ.map ⟨cellAt, cellAt_inj⟩

/-- One right per cell and device. -/
abbrev rightAt (x : Cell × Dev nD) : GSem nD τ sig × ℕ × Dev nD := (cellAt x.1, 0, x.2)
theorem rightAt_inj : Function.Injective rightAt := by
  rintro ⟨x, d⟩ ⟨x', d'⟩ h
  have h1 := cellAt_inj (congrArg (fun y : GSem nD τ sig × ℕ × Dev nD => y.1) h)
  have h2 : d = d' := congrArg (fun y : GSem nD τ sig × ℕ × Dev nD => y.2.2) h
  exact Prod.ext h1 h2
abbrev allRights : Finset (GSem nD τ sig × ℕ × Dev nD) := Finset.univ.map ⟨rightAt, rightAt_inj⟩

def u₀ : UU := (initOf (Pipeline.cells cfgs cellOf_inj) (Pipeline.launchToks cfgs cellOf_inj), initOf allCells allRights)

/-- A family over a device's cells, by kind. -/
theorem by_kind (Φ : Option (Fin 4 × Dev nD) → sProp 𝕄) :
    bigSep Finset.univ Φ = iprop(Φ none ∗ each (fun d => Φ (some (0, d))) ∗ each (fun d => Φ (some (1, d)))
      ∗ each (fun d => Φ (some (2, d))) ∗ each (fun d => Φ (some (3, d)))) := by
  have h : (Finset.univ : Finset (Option (Fin 4 × Dev nD))).erase none = Finset.univ.map Function.Embedding.some := by
    ext x; cases x <;> simp
  rw [bigSep_univ_at _ none, h, bigSep_map, bigSep_univ_prod, bigSep_univ_eq_bigSepL [0, 1, 2, 3] (by decide) (by decide)]
  rfl

/-- What is made for device `c`. -/
def made (c : Dev nD) : sProp 𝕄 :=
  iprop((bigSep Finset.univ fun x => roundState ER (sched I) (cellAt (c, x)) 0)
    ∗ (bigSep Finset.univ fun x => reached ER (cellAt (c, x)) 0)
    ∗ (bigSep Finset.univ fun x => atPos ER (cellAt (c, x)) 0 ∅ 0)
    ∗ (bigSep Finset.univ fun x => each fun d => dutyTok ER (cellAt (c, x)) 0 d))

theorem make : BI.own (ER (initOf allCells allRights)) ⊢ (|==> bigSep Finset.univ (made I) : sProp 𝕄) := by
  have hX (Φ : GSem nD τ sig → sProp 𝕄) : bigSep allCells Φ = bigSep Finset.univ fun c : Dev nD => bigSep Finset.univ fun x => Φ (cellAt (c, x)) := by
    rw [bigSep_map, bigSep_univ_prod]; rfl
  have hT : bigSep allRights (fun x => (dutyTok ER x.1 x.2.1 x.2.2 : sProp 𝕄))
      = bigSep Finset.univ fun c : Dev nD => bigSep Finset.univ fun x => each fun d => dutyTok ER (cellAt (c, x)) 0 d := by
    rw [bigSep_map, bigSep_univ_prod, bigSep_univ_prod]; rfl
  have h := Rounds.fund ER (sched I) allCells allRights
  rw [hX, hX, hX, hT] at h
  unfold made
  simp only [bigSep_sep']
  exact h

/-! ## The cells' invariants -/

abbrev osem (x : Fin 4 × Dev nD) : SemLoc sig := .dma (dsem x.1 x.2)

theorem barZero_eq : (unscopedSems0 c : sProp 𝕄) = semVal (barCell c) 0 := by
  unfold unscopedSems0; rw [bigSep_eq_bigSepL_of_eq [SemLoc.reg barS] (by decide) (by decide)]; rfl

theorem ownZeros_eq : (Pipeline.ownSems0 (Ix := Unit) (Name := ℕ) (U := UU) (Lvl := ℕ) (Val := Elt F) (τ := τ) osem c : sProp 𝕄)
    = iprop(each (fun d => semVal (dc 0 c d) 0) ∗ each (fun d => semVal (dc 1 c d) 0) ∗ each (fun d => semVal (dc 2 c d) 0) ∗ each (fun d => semVal (dc 3 c d) 0)) := by
  unfold Pipeline.ownSems0
  rw [bigSep_univ_prod, bigSep_univ_eq_bigSepL [0, 1, 2, 3] (by decide) (by decide)]
  rfl

theorem zeros_eq : iprop(Pipeline.ownSems0 (Ix := Unit) (Name := ℕ) (U := UU) (Lvl := ℕ) (Val := Elt F) (τ := τ) osem c ∗ unscopedSems0 c)
    ⊢ (bigSep Finset.univ fun x => semVal (cellAt (c, x)) 0 : sProp 𝕄) := by
  rw [by_kind, barZero_eq, ownZeros_eq]
  iintro ⟨H, H'⟩
  isplitl [H']
  · iexact H'
  · iexact H

/-- Every cell with its invariant, under some name. -/
def opened (c : Dev nD) : sProp 𝕄 :=
  iprop((bigSep Finset.univ fun x => iprop(∃ κ : ℕ, cellInv ER (sched I) κ (cellAt (c, x)) ∗ reached ER (cellAt (c, x)) 0))
    ∗ (bigSep Finset.univ fun x => atPos ER (cellAt (c, x)) 0 ∅ 0)
    ∗ (bigSep Finset.univ fun x => each fun d => dutyTok ER (cellAt (c, x)) 0 d))

theorem open_cell (g : GSem nD τ sig) : iprop((semVal g 0 ∗ roundState ER (sched I) g 0) ∗ reached ER g 0)
    ⊢ (|={Set.univ}=> ∃ κ : ℕ, cellInv ER (sched I) κ g ∗ reached ER g 0 : sProp 𝕄) := by
  iintro ⟨H, #Hr⟩
  imod ((Rounds.body_intro ER (sched I) g).trans inv_alloc) $$ H with ⟨%κ, H⟩
  imodintro
  iexists κ
  isplitl [H]; · iexact H
  iexact Hr

theorem open_cells : iprop(Pipeline.ownSems0 (Ix := Unit) (Name := ℕ) (U := UU) (Lvl := ℕ) (Val := Elt F) (τ := τ) osem c ∗ unscopedSems0 c ∗ made I c)
    ⊢ |={Set.univ}=> opened I c := by
  have h : iprop(((bigSep Finset.univ fun x => semVal (cellAt (c, x)) 0) ∗ (bigSep Finset.univ fun x => roundState ER (sched I) (cellAt (c, x)) 0))
      ∗ (bigSep Finset.univ fun x => reached ER (cellAt (c, x)) 0))
      ⊢ (|={Set.univ}=> bigSep Finset.univ fun x => iprop(∃ κ : ℕ, cellInv ER (sched I) κ (cellAt (c, x)) ∗ reached ER (cellAt (c, x)) 0) : sProp 𝕄) := by
    rw [← bigSep_sep', ← bigSep_sep']
    exact (bigSep_mono fun x _ => open_cell I (cellAt (c, x))).trans (bigSep_fupd _ _)
  unfold made opened
  iintro ⟨Ho, Hu, Hst, Hr, Hat, Htok⟩
  ihave Hz := (zeros_eq (F := F) c) $$ [Ho Hu]
  · isplitl [Ho] <;> iassumption
  imod h $$ [Hz Hst Hr] with H
  · isplitl [Hz Hst]
    · isplitl [Hz] <;> iassumption
    iexact Hr
  imodintro
  isplitl [H]; · iexact H
  isplitl [Hat] <;> iassumption

/-! ## What each device is handed -/

/-- The rights device `c` uses. -/
def rights : sProp 𝕄 :=
  iprop(each (fun d => dutyTok ER (barCell d) 0 c) ∗ each (fun d => dutyTok ER (dc 0 c d) 0 d) ∗ each (fun d => dutyTok ER (dc 1 c d) 0 d)
    ∗ each (fun d => dutyTok ER (dc 2 d c) 0 c) ∗ each (fun d => dutyTok ER (dc 3 d c) 0 c))

/-- Of the rights of a square, those of the devices swapped. -/
theorem each_swap (Φ : Dev nD → Dev nD → sProp 𝕄) : (each fun c => each fun d => Φ c d) = each fun c => each fun d => Φ d c := by
  unfold each
  rw [← bigSep_univ_prod (fun x : Dev nD × Dev nD => Φ x.1 x.2), ← bigSep_univ_prod (fun x : Dev nD × Dev nD => Φ x.2 x.1)]
  exact bigSep_univ_equiv (Equiv.prodComm (Dev nD) (Dev nD)) (fun x : Dev nD × Dev nD => Φ x.1 x.2)

/-- Of a cell's rights the one of the device it is for. -/
theorem each_diag (Φ : Dev nD → Dev nD → sProp 𝕄) : (each fun i => each fun d => Φ i d) ⊢ each fun i => Φ i i :=
  each_mono fun i => bigSep_elim (Finset.mem_univ i)

theorem deal_rights : (each fun c => bigSep Finset.univ fun x => each fun d => (dutyTok ER (cellAt (c, x)) 0 d : sProp 𝕄)) ⊢ each (rights (F := F)) := by
  have hd (a : Fin 4) : (each fun c => each fun i => each fun d => (dutyTok ER (dc a c i) 0 d : sProp 𝕄)) ⊢ each fun c => each fun i => dutyTok ER (dc a c i) 0 i :=
    each_mono fun c => each_diag fun i d => dutyTok ER (dc a c i) 0 d
  unfold rights
  simp only [by_kind, each_sep]
  iintro ⟨HB, H0, H1, H2, H3⟩
  ihave H0 := (hd 0) $$ H0
  ihave H1 := (hd 1) $$ H1
  ihave H2 := (hd 2) $$ H2
  ihave H3 := (hd 3) $$ H3
  ihave HB := (Entails.of_eq (each_swap fun c d => (dutyTok ER (barCell c) 0 d : sProp 𝕄))) $$ HB
  ihave H2 := (Entails.of_eq (each_swap fun c d => (dutyTok ER (dc 2 c d) 0 d : sProp 𝕄))) $$ H2
  ihave H3 := (Entails.of_eq (each_swap fun c d => (dutyTok ER (dc 3 c d) 0 d : sProp 𝕄))) $$ H3
  isplitl [HB]; · iexact HB
  isplitl [H0]; · iexact H0
  isplitl [H1]; · iexact H1
  isplitl [H2]; · iexact H2
  iexact H3

/-- What a device knows of the cells at launch. -/
def known (K : Cell → ℕ) : sProp 𝕄 := bigSep Finset.univ fun x : Cell => iprop(cellInv ER (sched I) (K x) (cellAt x) ∗ reached ER (cellAt x) 0)

instance known_persistent : BI.Persistent (known I K) := by unfold known; infer_instance

def handed (c : Dev nD) : sProp 𝕄 :=
  iprop((∃ K, known I K) ∗ (bigSep Finset.univ fun x => atPos ER (cellAt (c, x)) 0 ∅ 0) ∗ rights c)

theorem deal : (each (opened I)) ⊢ each (handed I) := by
  have hK : (each fun c => bigSep Finset.univ fun x => iprop(∃ κ : ℕ, cellInv ER (sched I) κ (cellAt (c, x)) ∗ reached ER (cellAt (c, x)) 0))
      ⊢ (∃ K, known I K : sProp 𝕄) := by
    unfold each known
    rw [← bigSep_univ_prod (fun x : Cell => iprop(∃ κ : ℕ, cellInv ER (sched I) κ (cellAt x) ∗ reached ER (cellAt x) 0))]
    exact BI.bigSep_exists_pi Finset.univ (fun (x : Cell) (κ : ℕ) => (iprop(cellInv ER (sched I) κ (cellAt x) ∗ reached ER (cellAt x) 0) : sProp 𝕄))
  have hR (K : Cell → ℕ) := with_recs (F := F) (s := Finset.univ) (R := known I K)
    (Φ := fun c : Dev nD => iprop((bigSep Finset.univ fun x => atPos ER (cellAt (c, x)) 0 ∅ 0) ∗ rights c)) (Ψ := handed I) (fun c => by
      unfold handed
      iintro ⟨H, H'⟩
      isplitl [H]; · iexists K; iexact H
      iexact H')
  unfold opened
  rw [each_sep, each_sep]
  rw [bigSep_sep'] at hR
  iintro ⟨HI, Hat, Htok⟩
  ihave HK := hK $$ HI
  icases HK with ⟨%K, HK⟩
  ihave Htok := (deal_rights (F := F)) $$ Htok
  iapply (hR K)
  isplitl [HK]; · iexact HK
  isplitl [Hat] <;> iassumption

/-- All devices at once, from the counters at zero. -/
theorem start_all : (bigSep Finset.univ fun c => iprop(Pipeline.ownSems0 (Ix := Unit) (Name := ℕ) (U := UU) (Lvl := ℕ) (Val := Elt F) (τ := τ) osem c ∗ unscopedSems0 c ∗ made I c) : sProp 𝕄)
    ⊢ |={Set.univ}=> bigSep Finset.univ (handed I) :=
  ((bigSep_mono fun c _ => open_cells I c).trans (bigSep_fupd _ _)).trans (BI.fupd_mono (deal I))

end Cert.RunProof

end
-- ==== Proof.Credits.lean ====
/-
  The credits at launch: for every unit the devices owe one another, the device it is owed to holds a credit.
-/
module

public import proofs.«01_k».proof.Proof.Close

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

/-! ## What a device is owed, cell by cell -/

theorem bar_ne_dma (d c i : Dev nD) (a : Fin 4) : barCell d ≠ dc a c i := fun h => by cases congrArg Prod.snd h
theorem bar_inj {c d : Dev nD} (h : barCell c = barCell d) : c = d := congrArg (fun g : GSem nD τ sig => g.1.1) h
theorem dc_inj {a b : Fin 4} {c d i j : Dev nD} (h : dc a c i = dc b d j) : c = d ∧ a = b ∧ i = j :=
  ⟨congrArg (fun g : GSem nD τ sig => g.1.1) h, dsem_inj (SemLoc.dma.inj (congrArg Prod.snd h))⟩

/-- The signals a barrier cell is owed. -/
theorem tB_at (e d c : Dev nD) : tB e d (barCell c) () = if d = c then (if e = c then 0 else 1) else 0 := by
  unfold tB
  by_cases hd : d = c
  · subst hd
    rw [if_pos rfl]
    by_cases he : d = e
    · rw [if_pos he, if_pos he.symm]; rfl
    · rw [if_neg he, if_neg (Ne.symm he), tallyAt_apply, if_pos ⟨rfl, rfl⟩]
  · rw [if_neg hd]
    split
    · rfl
    · rw [tallyAt_apply, if_neg fun h => hd (bar_inj h.1.symm)]

theorem t1_at (e d c i : Dev nD) (h : i ≠ c) : t1 e d (dc 2 c i) () = if d = c then (if e = i then N else 0) else 0 := by
  unfold t1
  by_cases hd : d = c
  · subst hd
    rw [if_pos rfl]
    by_cases he : e = i
    · subst he; rw [if_neg h.symm, if_pos rfl, tallyAt_apply, if_pos ⟨rfl, rfl⟩]
    · rw [if_neg he]
      split
      · rfl
      · rw [tallyAt_apply, if_neg fun h' => he (dc_inj h'.1).2.2.symm]
  · rw [if_neg hd]
    split
    · rfl
    · rw [tallyAt_apply, if_neg fun h' => hd (dc_inj h'.1).1.symm]

theorem t2_at (e d c i : Dev nD) (h : i ≠ c) : t2 e d (dc 3 c i) () = if d = c then (if e = i then N else 0) else 0 := by
  unfold t2
  by_cases hd : d = c
  · subst hd
    rw [if_pos rfl]
    by_cases he : e = i
    · subst he; rw [if_neg h.symm, if_pos rfl, tallyAt_apply, if_pos ⟨rfl, rfl⟩]
    · rw [if_neg he]
      split
      · rfl
      · rw [tallyAt_apply, if_neg fun h' => he (dc_inj h'.1).2.2.symm]
  · rw [if_neg hd]
    split
    · rfl
    · rw [tallyAt_apply, if_neg fun h' => hd (dc_inj h'.1).1.symm]

/-- A cell's credit when every device owes one pass. -/
theorem credit_at {o : Dev nD → ℕ → Dev nD} {t : Dev nD → Dev nD → CellTallies nD τ sig Unit} {g : GSem nD τ sig} {c : Dev nD} {v : Dev nD → ℕ} {n : ℕ}
    (ht : ∀ e d, t e d g () = if d = c then v e else 0) (hv : ∑ e, v e = n) :
    tallyOn g (launchCredit (Pipeline.owing fun e => owing (o e) (t e) 0) 0 g) = (tallyAt g () n : CellTallies nD τ sig Unit) := by
  unfold tallyAt
  refine congrArg _ (Finsupp.ext fun u => ?_)
  cases u
  rw [Pipeline.launchCredit_owing, Finsupp.single_eq_same, ← hv]
  refine Finset.sum_congr rfl fun e _ => ?_
  rw [owing_zero, Finset.sum_apply, Finsupp.finset_sum_apply, Finset.sum_congr rfl fun d _ => ht e d, Finset.sum_ite_eq' Finset.univ c fun _ => v e,
    if_pos (Finset.mem_univ c)]

theorem credit_bar : tallyOn (barCell c) (launchCredit (Pipeline.owing fun e => owing ordI (tB e) 0) 0 (barCell c)) = (tallyAt (barCell c) () 31 : CellTallies nD τ sig Unit) :=
  credit_at (o := fun _ => ordI) (fun e d => tB_at e d c) (by revert c; decide +kernel)

theorem credit_chunk (i : Dev nD) (h : i ≠ c) :
    tallyOn (dc 2 c i) (launchCredit (Pipeline.owing fun e => owing (ordS e) (t1 e) 0) 0 (dc 2 c i)) = (tallyAt (dc 2 c i) () N : CellTallies nD τ sig Unit) :=
  credit_at (o := ordS) (fun e d => t1_at e d c i h) (by rw [Finset.sum_ite_eq' Finset.univ i fun _ => N, if_pos (Finset.mem_univ i)])

theorem credit_sum (i : Dev nD) (h : i ≠ c) :
    tallyOn (dc 3 c i) (launchCredit (Pipeline.owing fun e => owing ordI (t2 e) 0) 0 (dc 3 c i)) = (tallyAt (dc 3 c i) () N : CellTallies nD τ sig Unit) :=
  credit_at (o := fun _ => ordI) (fun e d => t2_at e d c i h) (by rw [Finset.sum_ite_eq' Finset.univ i fun _ => N, if_pos (Finset.mem_univ i)])

/-! ## The credits a device holds -/

/-- From all the credits of a device those of one family of cells. -/
theorem family (a : Fin 4) (Ψ : Dev nD → sProp 𝕄) (Φ : SemLoc sig → sProp 𝕄) (h : ∀ i, i ≠ c → Φ (.dma (dsem a i)) ⊢ Ψ i) :
    bigSep Finset.univ Φ ⊢ bigSep (peers c) Ψ := by
  have hs := bigSep_subset (Φ := Φ) (Finset.subset_univ ((peers c).map ⟨fun i => .dma (dsem a i), fun i j h => (dsem_inj (SemLoc.dma.inj h)).2⟩))
  rw [bigSep_map] at hs
  exact hs.trans (bigSep_mono fun i hi => h i (Finset.ne_of_mem_erase hi))

theorem credits : (Pipeline.launchCred O₀ c : sProp 𝕄)
    ⊢ iprop(cred (tallyAt (barCell c) () 31) ∗ (bigSep (peers c) fun d => cred (tallyAt (dc 2 c d) () N))
      ∗ bigSep (peers c) fun d => cred (tallyAt (dc 3 c d) () N)) := by
  have h : (Pipeline.launchCred O₀ c : sProp 𝕄) = iprop((Pipeline.launchCred (fun e => owing ordI (t2 e) 0) c ∗ Pipeline.launchCred (fun e => owing (ordS e) (t1 e) 0) c)
      ∗ Pipeline.launchCred (fun e => owing ordI (tB e) 0) c) := by
    rw [← Pipeline.launchCred_add, ← Pipeline.launchCred_add]; rfl
  have hB : (Pipeline.launchCred (fun e => owing ordI (tB e) 0) c : sProp 𝕄) ⊢ cred (tallyAt (barCell c) () 31) := by
    rw [← credit_bar c]; exact Pipeline.launchCred_elim _ c (SemLoc.reg barS)
  have h1 : (Pipeline.launchCred (fun e => owing (ordS e) (t1 e) 0) c : sProp 𝕄) ⊢ bigSep (peers c) fun d => cred (tallyAt (dc 2 c d) () N) :=
    family c 2 _ _ fun i hi => by rw [← credit_chunk c i hi]
  have h2 : (Pipeline.launchCred (fun e => owing ordI (t2 e) 0) c : sProp 𝕄) ⊢ bigSep (peers c) fun d => cred (tallyAt (dc 3 c d) () N) :=
    family c 3 _ _ fun i hi => by rw [← credit_sum c i hi]
  rw [h]
  iintro ⟨⟨H2, H1⟩, HB⟩
  ihave HB := hB $$ HB
  ihave H1 := h1 $$ H1
  ihave H2 := h2 $$ H2
  isplitl [HB]; · iexact HB
  isplitl [H1] <;> iassumption

end Cert.RunProof

end
-- ==== Proof.Launch.lean ====
/-
  The launch: the whole program runs on every device, from any memory with the counters at zero, to the memory where
  every result array holds what its device computed and every counter is at zero again.
-/
module

public import proofs.«01_k».proof.Proof.Start
public import proofs.«01_k».proof.Proof.Credits
public import proofs.«01_k».proof.Proof.Gen.KernelIdeal.Points
public import Idealize.ShloMosaic.Lib.Pipeline.CollectiveSegs

@[expose] public section

set_option maxRecDepth 20000

noncomputable section

namespace Cert.RunProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Cell → ℕ) (c : Dev nD)

variable (m : (ℓ : Loc nD τ sig) → Buf (Elt F) ℓ) (ρ : Dev nD → PrngReg)

/-- What is staged of the three operands. -/
def ins : Ins F where
  x c := (win0_0.blk (0 : Fin 1)).view.read (Elt F) (m ((c : Thread nD τ).loc main_arg0))
  w1 c := (win0_1.blk (0 : Fin 1)).view.read (Elt F) (m ((c : Thread nD τ).loc main_arg1))
  w2 c := (win0_2.blk (0 : Fin 1)).view.read (Elt F) (m ((c : Thread nD τ).loc main_arg2))

/-! ## From what is dealt to where the body starts -/

/-- What a device starts from, beside its buffers. -/
def start : sProp 𝕄 :=
  iprop(handed I c ∗ (cred (tallyAt (barCell c) () 31) ∗ (bigSep (peers c) fun d => cred (tallyAt (dc 2 c d) () N))
      ∗ bigSep (peers c) fun d => cred (tallyAt (dc 3 c d) () N)) ∗ levAts L lv)

theorem each_split (Φ : Dev nD → sProp 𝕄) : each Φ = iprop(Φ c ∗ bigSep (peers c) Φ) := bigSep_erase (Finset.mem_univ c)

theorem each_drop (Φ : Dev nD → sProp 𝕄) : each Φ ⊢ bigSep (peers c) Φ := bigSep_subset (Finset.subset_univ _)

theorem begin_body : iprop(start I c ∗ bufs (F := F) c ∗ owesE c (O₀ c) ∗ withIns I c iprop(∃ f, outP (F := F) c f))
    ⊢ iprop(∃ K, (stA I K c 0 ∗ withIns I c (RA (F := F) c)) ∗ selfs (F := F) c) := by
  have hs (M : Memref sig .tc .vmem S32x24x768 .bf16) : (iprop(∃ f, M.view.loc (c : Thread nD τ) ↦[M.view.set]{fullShare} f) : sProp 𝕄)
      ⊢ each (any (F := F) c M) := by
    iintro ⟨%f, H⟩
    iapply (any_split (F := F) c M f)
    iexact H
  have ha (a : Fin 4) := Entails.of_eq (each_split c fun d => (atPos ER (dc a c d) 0 ∅ 0 : sProp 𝕄))
  have hany (M : Memref sig .tc .vmem S32x24x768 .bf16) := Entails.of_eq (each_split c (any (F := F) c M))
  have hin (K : Cell → ℕ) : iprop((known I K ∗ levAts L lv) ∗ owesE c (O₀ c)
      ∗ ((bigSep (peers c) fun d => dutyTok ER (barCell d) 0 c) ∗ bigSep (peers c) (any (F := F) c rc1M) ∗ bigSep (peers c) (any (F := F) c rc2M)))
      ⊢ stA I K c 0 := by
    unfold stA recs known O₀
    rw [phase_zero]
    unfold tA barPay
    have h := each_peers c fun d => (iprop(dutyTok ER (barCell d) 0 c ∗ any (F := F) c rc1M d ∗ any (F := F) c rc2M d) : sProp 𝕄)
    unfold each at h
    rw [h, bigSep_sep', bigSep_sep', bigSep_sep']
  have hS : iprop((bigSep (peers c) fun d => dutyTok ER (dc 0 c d) 0 d) ∗ bigSep (peers c) fun d => dutyTok ER (dc 2 d c) 0 c) ⊢ each (uS (F := F) c) := by
    unfold uS; rw [each_peers, bigSep_sep']
  have hD : iprop((bigSep (peers c) fun d => dutyTok ER (dc 1 c d) 0 d) ∗ bigSep (peers c) fun d => dutyTok ER (dc 3 d c) 0 c) ⊢ each (uD (F := F) c) := by
    unfold uD; rw [each_peers, bigSep_sep']
  have hG : iprop((bigSep (peers c) fun d => cred (tallyAt (dc 2 c d) () N)) ∗ bigSep (peers c) fun d => atPos ER (dc 2 c d) 0 ∅ 0) ⊢ each (uG (F := F) c) := by
    unfold uG; rw [each_peers, bigSep_sep']
  have hE : iprop((bigSep (peers c) fun d => cred (tallyAt (dc 3 c d) () N)) ∗ bigSep (peers c) fun d => atPos ER (dc 3 c d) 0 ∅ 0) ⊢ each (tE (F := F) c) := by
    unfold tE; rw [each_peers, bigSep_sep']
  have hF : iprop((bigSep (peers c) fun d => atPos ER (dc 0 c d) 0 ∅ 0) ∗ bigSep (peers c) fun d => atPos ER (dc 1 c d) 0 ∅ 0) ⊢ each (uF (F := F) c) := by
    unfold uF; rw [each_peers, bigSep_sep']
  unfold start handed bufs rights withIns RA later selfs
  rw [by_kind]
  iintro ⟨⟨⟨⟨%K, HK⟩, ⟨PB, P0, P1, P2, P3⟩, TB, T0, T1, T2, T3⟩, ⟨CB, C2, C3⟩, Hlev⟩, ⟨B0, B1, B2⟩, HO, Hx, H1, H2, Hout⟩
  iexists K
  ihave B0 := (hs sndM) $$ B0
  ihave B1 := (hs rc1M) $$ B1
  ihave B2 := (hs rc2M) $$ B2
  ihave B1 := (hany rc1M) $$ B1
  ihave B2 := (hany rc2M) $$ B2
  icases B1 with ⟨B1, B1'⟩
  icases B2 with ⟨B2, B2'⟩
  ihave P0 := (ha 0) $$ P0
  ihave P1 := (ha 1) $$ P1
  ihave P2 := (ha 2) $$ P2
  ihave P3 := (ha 3) $$ P3
  icases P0 with ⟨P0, P0'⟩
  icases P1 with ⟨P1, P1'⟩
  icases P2 with ⟨P2, P2'⟩
  icases P3 with ⟨P3, P3'⟩
  ihave TB := (each_drop c _) $$ TB
  ihave T0 := (each_drop c _) $$ T0
  ihave T1 := (each_drop c _) $$ T1
  ihave T2 := (each_drop c _) $$ T2
  ihave T3 := (each_drop c _) $$ T3
  isplitr [P0 P1 P2 P3]
  · isplitl [HK Hlev HO TB B1' B2']
    · iapply (hin K)
      isplitl [HK Hlev]
      · isplitl [HK] <;> iassumption
      isplitl [HO]; · iexact HO
      isplitl [TB]; · iexact TB
      isplitl [B1'] <;> iassumption
    isplitl [Hx]; · iexact Hx
    isplitl [H1]; · iexact H1
    isplitl [H2]; · iexact H2
    isplitl [CB PB]
    · isplitl [CB] <;> iassumption
    isplitl [B0 T0 T2]
    · isplitl [B0]; · iexact B0
      iapply hS
      isplitl [T0] <;> iassumption
    isplitl [B1]; · iexact B1
    isplitl [B2]; · iexact B2
    isplitl [C2 P2']
    · iapply hG
      isplitl [C2] <;> iassumption
    isplitl [T1 T3]
    · iapply hD
      isplitl [T1] <;> iassumption
    isplitl [Hout]; · iexact Hout
    isplitl [C3 P3']
    · iapply hE
      isplitl [C3] <;> iassumption
    iapply hF
    isplitl [P0'] <;> iassumption
  · isplitl [P0]; · iexact P0
    isplitl [P1]; · iexact P1
    isplitl [P2]; · iexact P2
    iexact P3

/-! ## The body as the launch asks for it -/

def Φ₀ : sProp 𝕄 := iprop(start (ins m) c ∗ bufs (F := F) c)
def Φ₁ : sProp 𝕄 := iprop(bufs (F := F) c ∗ zeros (F := F) c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).w1 c
    | ⟨2, _⟩ => (ins m).w2 c
    | ⟨3, _⟩ => outAt (ins m) c
  Φ t := match t with
    | ⟨0, _⟩ => Φ₀ c m
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ c m ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ (F := F) c ∗ (dats m 0 c).owesAt () t0_0.succ ∗ stg c cc0_stg0_0 ((ins m).x c) ∗ stg c cc0_stg1_0 ((ins m).w1 c)
    ∗ stg c cc0_stg2_0 ((ins m).w2 c) ∗ stg c cc0_stg3_0 (outAt (ins m) c))

theorem before_0 (d) : (dats m 0 c).before (0 : Fin 4) t0_0 d = (ins m).x c := by unfold Dat.before; rw [if_pos (fetch0_0 t0_0)]; rfl
theorem before_1 (d) : (dats m 0 c).before (1 : Fin 4) t0_0 d = (ins m).w1 c := by unfold Dat.before; rw [if_pos (fetch0_1 t0_0)]; rfl
theorem before_2 (d) : (dats m 0 c).before (2 : Fin 4) t0_0 d = (ins m).w2 c := by unfold Dat.before; rw [if_pos (fetch0_2 t0_0)]; rfl

/-- A whole buffer, as the body's steps have it. -/
theorem whole_pts (b : Ref sig .tc) (f : b.ty.Contents (Elt F)) :
    (((c : Thread nD τ).loc b) ↦{fullShare} f : sProp 𝕄) = ((Memref.whole b : Memref sig .tc _ _ _).view.loc (c : Thread nD τ) ↦[(Memref.whole b : Memref sig .tc _ _ _).view.set]{fullShare} f) := by
  simp only [Memref.view_whole, View.set_whole]

theorem stg_pts (b : Ref sig .tc) (X : b.ty.Contents (Elt F)) :
    stg c b X ⊢ ((Memref.whole b : Memref sig .tc _ _ _).view.loc (c : Thread nD τ) ↦[(Memref.whole b : Memref sig .tc _ _ _).view.set]{fullShare} X : sProp 𝕄) := by
  rw [← whole_pts]
  iintro ⟨%f, %h, H⟩
  subst h
  iexact H
theorem pts_stg (b : Ref sig .tc) (X : b.ty.Contents (Elt F)) :
    ((Memref.whole b : Memref sig .tc _ _ _).view.loc (c : Thread nD τ) ↦[(Memref.whole b : Memref sig .tc _ _ _).view.set]{fullShare} X : sProp 𝕄) ⊢ stg c b X := by
  rw [← whole_pts]
  iintro H
  iexists X
  isplitr; · ipureintro; rfl
  iexact H

theorem body_post : done (ins m) c ⊢ bodyPost m c := by
  have hx := pts_stg (F := F) c cc0_stg0_0 ((ins m).x c)
  have h1 := pts_stg (F := F) c cc0_stg1_0 ((ins m).w1 c)
  have h2 := pts_stg (F := F) c cc0_stg2_0 ((ins m).w2 c)
  have ho := pts_stg (F := F) c cc0_stg3_0 (outAt (ins m) c)
  unfold done withIns owesE bodyPost Φ₁ Dat.owesAt Pipeline.owesWithin
  rw [show (dats m 0 c).owed t0_0.succ = 0 from rfl]
  iintro ⟨⟨%W, HO⟩, ⟨Hx, H1, H2, Hout⟩, HB, HZ⟩
  isplitl [HB HZ]
  · isplitl [HB] <;> iassumption
  isplitl [HO]
  · iexists W
    isplitr; · ipureintro; exact fun _ _ => Or.inl trivial
    iexact HO
  isplitl [Hx]; · iapply hx; iexact Hx
  isplitl [H1]; · iapply h1; iexact H1
  isplitl [H2]; · iapply h2; iexact H2
  iapply ho; iexact Hout

theorem body_pre : bodyPre m c ⊢ iprop(∃ K, (stA (ins m) K c 0 ∗ withIns (ins m) c (RA (F := F) c)) ∗ selfs (F := F) c) := by
  have hx := stg_pts (F := F) c cc0_stg0_0 ((ins m).x c)
  have h1 := stg_pts (F := F) c cc0_stg1_0 ((ins m).w1 c)
  have h2 := stg_pts (F := F) c cc0_stg2_0 ((ins m).w2 c)
  have ho (X) := stg_pts (F := F) c cc0_stg3_0 X
  refine BIBase.Entails.trans ?_ (begin_body (ins m) c)
  unfold bodyPre Φ₀ Dat.owesAt Pipeline.owesWithin withIns owesE
  simp only [before_0, before_1, before_2]
  rw [show (dats m 0 c).owed t0_0.castSucc = O₀ c from rfl]
  iintro ⟨⟨Hs, HB⟩, ⟨%W, -, HO⟩, ⟨%d0, Hx⟩, ⟨%d1, H1⟩, ⟨%d2, H2⟩, ⟨%d3, Hout⟩⟩
  isplitl [Hs]; · iexact Hs
  isplitl [HB]; · iexact HB
  isplitl [HO]; · iexists W; iexact HO
  isplitl [Hx]; · iapply hx; iexact Hx
  isplitl [H1]; · iapply h1; iexact H1
  isplitl [H2]; · iapply h2; iexact H2
  iexists _
  iapply (ho _)
  iexact Hout

theorem body_meets : bodyPre m c ⊢ wpk c (cc0_body (F := F) xM (Memref.isWhole_whole _) w1M (Memref.isWhole_whole _) w2M (Memref.isWhole_whole _)
      outM (Memref.isWhole_whole _) sndM (Memref.isWhole_whole _) rc1M (Memref.isWhole_whole _) rc2M (Memref.isWhole_whole _) cc0_scratch3 cc0_scratch4 cc0_scratch5 cc0_scratch6)
      fun _ => bodyPost m c := by
  have h (K : Cell → ℕ) := body_done (ins m) K c (fun _ => bodyPost m c) (body_post c m)
  refine (body_pre c m).trans ?_
  iintro ⟨%K, H⟩
  iapply (h K)
  iexact H

theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_meets c m

/-! ## The launch -/

theorem ownSemFacts : Pipeline.OwnSemFacts cfg0.spec osem where
  isScoped := by decide +kernel
  inj := fun x y h => Prod.ext (dsem_inj (SemLoc.dma.inj h)).1 (dsem_inj (SemLoc.dma.inj h)).2
  disj := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ handed (ins m) c)
      ⊢ |={Set.univ}=> iprop(start (ins m) c ∗ emp) := by
  unfold start
  iintro ⟨-, Hlev, Hcr, -, HG⟩
  ihave Hc := (credits (F := F) c) $$ Hcr
  imodintro
  isplitl
  · isplitl [HG]; · iexact HG
    isplitl [Hc]; · iexact Hc
    iexact Hlev
  · iempintro

theorem bufs_eq (c : Dev nD) : (Pipeline.scopedRest cfg0.spec c : sProp 𝕄) = bufs (F := F) c := by
  rw [scopedRest0_eq]
  unfold bufs
  simp only [Memref.view_whole, View.set_whole]

theorem phi0_intro (c : Dev nD) :
    iprop(start (ins m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ c m from rfl, bufs_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, bufs_eq, ownZeros_eq, barZero_eq]
  unfold Φ₁ zeros
  iintro ⟨Hr, HB, Hz⟩
  isplitl [HB]; · iexact HB
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert s; fin_cases w <;> decide) _ (by
      rcases t with ⟨_ | _, ht⟩
      · exact Or.inl rfl
      · exact Or.inr rfl)

/-- What device `c`'s array of window `w` holds in the end. -/
def finalA (c : Dev nD) (w : Fin cfg0.W) : Buf (Elt F) ((cfg0.win w).arr.view.loc (c : Thread nD τ)) := (dats m 0 c).arrAt w cfg0.N

/-- The run of the program on all devices. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := made (ins m)) (G' := handed (ins m)) (u₀ := u₀)
    (hu₀ := by
      unfold u₀
      iintro Hu
      ihave H := (ownU_pair _ _) $$ Hu
      icases H with ⟨HP, HX⟩
      imod (make (ins m)) $$ HX with HG
      imodintro
      isplitl [HP] <;> iassumption)
    (hglob := start_all (ins m))
    (hA := fun _ _ => rfl) (hpf := fun _ k => k.elim0)
    (X := start (ins m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem kept (w : Fin cfg0.W) (h : (cfg0.win w).isOut = false) : finalA m c w = m ((cfg0.win w).arr.view.loc (c : Thread nD τ)) :=
  (dats (F := F) m 0 c).arrAt_in w h _

end Cert.RunProof

end
-- ==== Proof.Frames.lean ====
/-
  The frames: the kernel, as printed and idealized, ends with its arguments as they were and every counter at zero.
  The run is stated for any float values, so the two frames are the same run at two of them.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 20000

noncomputable section

namespace Cert.RunProof

open Cert.KernelIdeal Cert.KernelIdeal.Gen
open Idealize.ShloMosaic
open Idealize.ShloMosaic.TcCoe
open Idealize.SL.Sem

variable {F : FTy → Type} [FloatOps F]

/-- The run, read at the result and at the arguments. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v1) = finalA m c 3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => ⟨h.1 c 3, (h.1 c 0).trans (kept c m 0 rfl), (h.1 c 1).trans (kept c m 1 rfl),
    (h.1 c 2).trans (kept c m 2 rfl)⟩, h.2⟩) (run_main m ρ)

/-- The run, read at the arguments and the counters alone. -/
theorem run_kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2, h.2⟩) (run_args m ρ)

/-- The two programs have one text: here it is told that their tables of bodies agree. -/
theorem bodies_eq : (Cert.Kernel.defs₀ (F := Bits)) = Cert.KernelIdeal.defs₀ (F := Bits) := by
  unfold Cert.Kernel.defs₀ Cert.KernelIdeal.defs₀
  congr 1
  funext l a
  match l, a with
  | 0, (_, _) => rfl

theorem defs_eq : (Cert.Kernel.defs (F := Bits)) = Cert.KernelIdeal.defs (F := Bits) := congrArg (Pipeline.defs pcfgs) bodies_eq

theorem frame_kernel : Cert.quiescent_Kernel := fun m ρ _ => by
  rw [defs_eq]
  exact run_kept (F := Bits) m ρ

theorem frame_ideal : Cert.quiescent_KernelIdeal := fun m ρ _ => run_kept (F := Ideal) m ρ

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RunProof

end
-- ==== Proof.Result.lean ====
/-
  The arrays around the run: each operand is staged whole, and the result array is what the body left.
-/
module

public import proofs.«01_k».proof.Proof.Launch
public import Idealize.ShloMosaic.Lib.Pipeline.ValueKit

@[expose] public section

set_option maxRecDepth 20000

noncomputable section

namespace Cert.RunProof

open Cert.KernelIdeal Cert.KernelIdeal.Gen
open Idealize.ShloMosaic
open Idealize.ShloMosaic.TcCoe
open Idealize.SL.Sem
open Idealize.ShloMosaic.Pipeline (Dat Window)

variable {F : FTy → Type} [FloatOps F]

variable (m : (ℓ : Loc nD τ sig) → Buf (Elt F) ℓ) (c : Dev nD)

/-! Every window has the one block that is its array. -/

theorem ins_x : (ins m).x c = m ((c : Thread nD τ).loc main_arg0) :=
  funext fun j => congrArg (m ((c : Thread nD τ).loc main_arg0)) (funext fun a =>
    Fin.ext (Window.rect_emb_val_of_index_zero win0_0 (0 : Fin 1) a (by revert a; decide) j))

theorem ins_w1 : (ins m).w1 c = m ((c : Thread nD τ).loc main_arg1) :=
  funext fun j => congrArg (m ((c : Thread nD τ).loc main_arg1)) (funext fun a =>
    Fin.ext (Window.rect_emb_val_of_index_zero win0_1 (0 : Fin 1) a (by revert a; decide) j))

theorem ins_w2 : (ins m).w2 c = m ((c : Thread nD τ).loc main_arg2) :=
  funext fun j => congrArg (m ((c : Thread nD τ).loc main_arg2)) (funext fun a =>
    Fin.ext (Window.rect_emb_val_of_index_zero win0_2 (0 : Fin 1) a (by revert a; decide) j))

/-- The result array. -/
theorem result_eq : finalA m c 3 = outAt (ins m) c := by
  unfold finalA
  refine (dats m 0 c).arrAt_eq_of_after_last 3 t0_0 (by decide +kernel) _ fun j => ?_
  blk_simp
  rfl

end Cert.RunProof

end
-- ==== Proof.Product.lean ====
/-
  One device's share of the product, with ideal floats: the two layers over the device's own columns of the first matrix and
  rows of the second. A chunk holds 24 of its rows.
-/
module

public import proofs.«01_k».proof.Proof.Contents
public import Idealize.ShloMosaic.Lib.MatmulPlain
public import Idealize.ShloMosaic.Lib.ValueLayout
public import Idealize.ShloMosaic.Lib.Pipeline.Value
public import Idealize.ShloMosaic.PureOps.Ideal

@[expose] public section

set_option maxRecDepth 20000

noncomputable section

namespace Cert.RunProof

open Cert.KernelIdeal Cert.KernelIdeal.Gen
open Idealize.ShloMosaic
open Idealize.ShloMosaic.ValueIdx

/-- The two layers at row `r` and column `n`, with `k` hidden units between them. -/
def net {k : ℕ} (x : FVec Ideal ⟨2, ![768, 768]⟩ .bf16) (u : FVec Ideal ⟨2, ![768, k]⟩ .bf16) (v : FVec Ideal ⟨2, ![k, 768]⟩ .bf16)
    (r n : Fin 768) : EReal :=
  ∑ h : Fin k, max (∑ j : Fin 768, x (ix2 r j) * u (ix2 j h)) 0 * v (ix2 h n)

variable (I : Ins Ideal) (c d : Dev nD)

/-- The share of device `c` at row `r` and column `n`. -/
def share (r n : Fin 768) : EReal := net (k := 1536) (I.x c) (I.w1 c) (I.w2 c) r n

/-- Row `y` of row block `q`. -/
def rowOf (q : Fin 4) (y : Fin 192) : Fin 768 := ⟨q.val * 192 + y.val, by omega⟩

theorem zero_f32 : Ideal.ofBits .f32 0x00000000#32 = 0 := by simp [Ideal.ofBits, Ideal.ieee]

theorem hidden_apply (q : Fin 4) (y : Fin 192) (h : Fin 1536) :
    matmul (φ₂ := .bf16) dot_S192x768_S768x1536_S192x1536_1_0_0_1_n_n none (xblk I c q) (I.w1 c) (constant S192x1536 .f32 0x00000000#32) (ix2 y h)
      = ∑ j : Fin 768, I.x c (ix2 (rowOf q y) j) * I.w1 c (ix2 j h) := by
  refine (Ideal.matmul_plain_apply (M := 192) (K := 768) (N := 1536) none (xblk I c q) (I.w1 c) _ y h).trans ?_
  rw [constant_apply, zero_f32, zero_add]
  rfl

/-- A row block's product. -/
theorem prod_apply (q : Fin 4) (y : Fin 192) (n : Fin 768) : prod I c q (ix2 y n) = share I c (rowOf q y) n := by
  unfold prod k0_pay3 k0_pay1 k0_pay2
  dsimp only
  rw [shapeCast_self, shapeCast_self, shapeCast_self, truncf_apply]
  refine (Ideal.matmul_plain_apply (M := 192) (K := 1536) (N := 768) none _ _ _ y n).trans ?_
  rw [constant_apply, zero_f32, zero_add]
  unfold share net
  refine Finset.sum_congr rfl fun h _ => ?_
  rw [truncf_apply, maximumf_apply, hidden_apply]
  congr 2
  exact zero_f32

/-- Row `y` of the rows of device `d`. -/
def rowAt (d : Dev nD) (y : Fin 24) : Fin 768 := ⟨24 * d.val + y.val, by have := dev_lt d; omega⟩

/-- What device `c` computes for device `d`. -/
theorem chunk_apply (y : Fin 24) (n : Fin 768) : chunk I c d (ix3 (0 : Fin 1) y n) = share I c (rowAt d y) n := by
  unfold chunk chunkOf
  rw [shapeCast_ab_1ab_apply (a := 24) (b := 768)]
  have hd := dev_lt d
  refine (slice2_axis0_apply (n0 := 192) (n1 := 768) (m := 24) (24 * (pos d).val) (prod I c (grp d)) _ y n
    ⟨24 * (pos d).val + y.val, by unfold pos; dsimp only; omega⟩ rfl).trans ?_
  rw [prod_apply]
  congr 1
  apply Fin.ext
  unfold rowOf rowAt grp pos
  dsimp only
  omega

end Cert.RunProof

end
-- ==== Proof.Total.lean ====
/-
  What a device ends with, with ideal floats: at every row and column, the sum of the 32 shares.
-/
module

public import proofs.«01_k».proof.Proof.Product
public import proofs.«01_k».proof.Proof.Protocol

@[expose] public section

set_option maxRecDepth 20000

noncomputable section

namespace Cert.RunProof

open Cert.KernelIdeal Cert.KernelIdeal.Gen
open Idealize.ShloMosaic
open Idealize.ShloMosaic.ValueIdx

variable (I : Ins Ideal) (c d : Dev nD)

/-- A slab as it is added and as it is written into the result. -/
theorem widened (X : Slab Ideal) (y : Fin 24) (n : Fin 768) : k0_pay46 X (ix2 y n) = X (ix3 (0 : Fin 1) y n) := by
  unfold k0_pay46
  rw [extf_apply]
  exact shapeCast_1ab_ab_apply (a := 24) (b := 768) X _ y n

theorem written (X : Slab Ideal) (y : Fin 24) (n : Fin 768) : k0_pay74 X (ix2 y n) = X (ix3 (0 : Fin 1) y n) := widened X y n

theorem nothing (y : Fin 24) (n : Fin 768) : k0_pay47 (F := Ideal) (ix2 y n) = 0 := zero_f32

/-- What place `i` of the order adds. -/
def added (y : Fin 24) (n : Fin 768) (s : Dev nD) : EReal := if s = c then 0 else share I s (rowAt c y) n

theorem red_succ (y : Fin 24) (n : Fin 768) (i : ℕ) (hi : i < 32) :
    red I c (i + 1) (ix2 y n) = red I c i (ix2 y n) + added I c y n (ordR c i) := by
  rw [red, addChunk, selfBit_eq c ⟨i, hi⟩, addf_apply]
  congr 1
  unfold added
  by_cases h : ordR c i = c
  · rw [if_pos h, if_pos h]
    exact nothing y n
  · rw [if_neg h, if_neg h]
    exact (widened _ y n).trans (chunk_apply I (ordR c i) c y n)

theorem red_apply (y : Fin 24) (n : Fin 768) : ∀ i ≤ 32, red I c i (ix2 y n)
    = share I c (rowAt c y) n + ∑ j ∈ Finset.range i, added I c y n (ordR c j)
  | 0, _ => by
    rw [Finset.sum_range_zero, add_zero]
    exact (widened _ y n).trans (chunk_apply I c c y n)
  | i + 1, hi => by
    rw [red_succ I c y n i hi, red_apply y n i (Nat.le_of_succ_le hi), Finset.sum_range_succ, add_assoc]

/-- The order goes through every device once. -/
theorem sum_order (f : Dev nD → EReal) : ∑ j ∈ Finset.range 32, f (ordR c j) = ∑ s : Dev nD, f s := by
  refine Finset.sum_bij (fun j _ => ordR c j) (fun _ _ => Finset.mem_univ _) (fun i hi j hj h => ?_) (fun s _ => ?_) fun _ _ => rfl
  · rcases Nat.lt_trichotomy i j with hlt | he | hgt
    · exact absurd h ((isOrdR c).1 j (Finset.mem_range.mp hj) i hlt)
    · exact he
    · exact absurd h.symm ((isOrdR c).1 i (Finset.mem_range.mp hi) j hgt)
  · obtain ⟨j, hj, h⟩ := (isOrdR c).2 s
    exact ⟨j, Finset.mem_range.mpr hj, h⟩

/-- A device's sum is the sum of all shares. -/
theorem red_total (y : Fin 24) (n : Fin 768) : red I c 32 (ix2 y n) = ∑ s : Dev nD, share I s (rowAt c y) n := by
  rw [red_apply I c y n 32 le_rfl, sum_order, ← Finset.add_sum_erase Finset.univ (fun s => share I s (rowAt c y) n) (Finset.mem_univ c),
    ← Finset.add_sum_erase Finset.univ (added I c y n) (Finset.mem_univ c)]
  congr 1
  rw [show added I c y n c = 0 from if_pos rfl, zero_add]
  exact Finset.sum_congr rfl fun s hs => if_neg (Finset.ne_of_mem_erase hs)

theorem redb_apply (y : Fin 24) (n : Fin 768) : redb I c (ix3 (0 : Fin 1) y n) = red I c 32 (ix2 y n) := by
  unfold redb
  rw [shapeCast_ab_1ab_apply (a := 24) (b := 768), truncf_apply]

/-- The rows of device `d`, as device `c` has them in the end: the same on every device. -/
theorem outBlk_apply (y : Fin 24) (n : Fin 768) : outBlk I c d (ix2 y n) = ∑ s : Dev nD, share I s (rowAt d y) n := by
  unfold outBlk
  by_cases h : d = c
  · rw [if_pos h, h, red_total]
  · rw [if_neg h]
    exact (written _ y n).trans ((redb_apply I d y n).trans (red_total I d y n))

/-- The whole result. -/
theorem outAt_apply (r n : Fin 768) : outAt I c (ix2 r n) = ∑ s : Dev nD, share I s r n := by
  unfold outAt
  refine (outBlk_apply I c _ _ _).trans ?_
  refine Finset.sum_congr rfl fun s _ => ?_
  congr 1
  apply Fin.ext
  show 24 * (r.val / 24) + r.val % 24 = r.val
  omega

end Cert.RunProof

end
-- ==== Proof.Network.lean ====
/-
  The equation: the shares of the 32 devices, each of 1536 of the hidden units, add up to the two layers over all 49152, which
  is what the reference computes.
-/
module

public import proofs.«01_k».proof.Proof.Total
public import proofs.«01_k».proof.Proof.Gen.ReferenceIdeal.Run
public import Idealize.ShloMosaic.Lib.Layout
public import Idealize.ShloMosaic.Lib.StackMember
public import Idealize.ShloMosaic.Lib.IdealHost

@[expose] public section

set_option maxRecDepth 20000

noncomputable section

namespace Cert.RunProof

open Idealize.ShloMosaic
open Idealize.ShloMosaic.ValueIdx
open Cert.KernelIdeal (nD)
open Idealize.ShloMosaic.StackMember (dotGeneral_plain_apply)

variable (x : FVec Ideal ⟨2, ![768, 768]⟩ .bf16) (u : FVec Ideal ⟨2, ![768, 49152]⟩ .bf16) (v : FVec Ideal ⟨2, ![49152, 768]⟩ .bf16)

/-- Device `s`'s columns of the first matrix and rows of the second. -/
abbrev colsOf (s : Fin 32) : FVec Ideal ⟨2, ![768, 1536]⟩ .bf16 := Layout.block ⟨2, ![768, 1536]⟩ ⟨2, ![768, 49152]⟩ 1 32 s u
abbrev rowsOf (s : Fin 32) : FVec Ideal ⟨2, ![1536, 768]⟩ .bf16 := Layout.block ⟨2, ![1536, 768]⟩ ⟨2, ![49152, 768]⟩ 0 32 s v

/-- Hidden unit `h` of device `s`. -/
def unit (s : Fin 32) (h : Fin 1536) : Fin 49152 := ⟨s.val * 1536 + h.val, by omega⟩

theorem colsOf_apply (s : Fin 32) (j : Fin 768) (h : Fin 1536) : colsOf u s (ix2 j h) = u (ix2 j (unit s h)) :=
  congrArg u (funext fun a => Fin.ext (by match a with | ⟨0, _⟩ => rfl | ⟨1, _⟩ => rfl))

theorem rowsOf_apply (s : Fin 32) (h : Fin 1536) (n : Fin 768) : rowsOf v s (ix2 h n) = v (ix2 (unit s h) n) :=
  congrArg v (funext fun a => Fin.ext (by match a with | ⟨0, _⟩ => rfl | ⟨1, _⟩ => rfl))

/-- A sum over all hidden units, device by device. -/
theorem sum_units (f : Fin 49152 → EReal) : ∑ s : Fin 32, ∑ h : Fin 1536, f (unit s h) = ∑ k : Fin 49152, f k := by
  rw [← Fintype.sum_prod_type']
  refine Fintype.sum_equiv (finProdFinEquiv (m := 32) (n := 1536)) _ _ fun p => ?_
  congr 1
  apply Fin.ext
  show p.1.val * 1536 + p.2.val = p.2.val + 1536 * p.1.val
  omega

/-- The shares add up to the whole. -/
theorem sum_shares (r n : Fin 768) : ∑ s : Fin 32, net x (colsOf u s) (rowsOf v s) r n = net x u v r n := by
  unfold net
  rw [← sum_units]
  refine Finset.sum_congr rfl fun s _ => Finset.sum_congr rfl fun h _ => ?_
  rw [rowsOf_apply]
  congr 2
  exact Finset.sum_congr rfl fun j _ => by rw [colsOf_apply]

section Reference
open Cert.ReferenceIdeal Cert.ReferenceIdeal.Gen

/-- What the reference's lines compute. -/
abbrev refOut : FVec Ideal S768x768 .f32 :=
  Host.dotGeneral dot_S768x49152_S49152x768_S768x768_1_0_0_1_n_n none
    (maximumf (Host.dotGeneral dot_S768x768_S768x49152_S768x49152_1_0_0_1_n_n none (extf .f32 x bitsLt_bf16_f32) (extf .f32 u bitsLt_bf16_f32))
      (broadcastInDim S768x49152 ![] bcast_S_S768x49152 (constant S_ .f32 0x00000000#32)))
    (extf .f32 v bitsLt_bf16_f32)

theorem refOut_apply (r n : Fin 768) : refOut x u v (ix2 r n) = net x u v r n := by
  refine (dotGeneral_plain_apply (m := 768) (k := 49152) (n := 768) none _ _ r n).trans ?_
  unfold net
  refine Finset.sum_congr rfl fun h _ => ?_
  rw [extf_apply, maximumf_apply]
  refine congrArg₂ (fun a b => max a b * v (ix2 h n)) ?_ ?_
  · exact dotGeneral_plain_apply (m := 768) (k := 768) (n := 49152) none _ _ r h
  · exact zero_f32

end Reference

/-- Devices that hold the whole first operand and their blocks of the other two end with what the reference computes. -/
theorem outAt_eq (I : Ins Ideal) (hx : ∀ s, I.x s = x) (hu : ∀ s, I.w1 s = colsOf u s) (hv : ∀ s, I.w2 s = rowsOf v s) (c : Dev nD) :
    outAt I c = refOut x u v := by
  funext j
  obtain ⟨r, n, rfl⟩ : ∃ r n : Fin 768, j = ix2 r n := ⟨j 0, j 1, eq_ix2 j⟩
  rw [outAt_apply, refOut_apply, ← sum_shares]
  refine Finset.sum_congr rfl fun s _ => ?_
  unfold share
  rw [hx, hu, hv]

end Cert.RunProof

end
-- ==== Proof.lean ====
/- The claims of this certificate, put together from the runs in Proof/. -/
module

public import proofs.«01_k».proof.Defs
public import proofs.«01_k».proof.Proof.Frames
public import proofs.«01_k».proof.Proof.Result
public import proofs.«01_k».proof.Proof.Network
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem
open Cert.RunProof

/-- Every device ends with the reference's array. -/
theorem values_agree : Cert.algebraic_KernelIdeal_ReferenceIdeal := fun m g m' g' _ hagree => by
  refine ⟨refOut _ _ _, ?_, (θ_run Cert.ReferenceIdeal.defs _ _).mono (fun _ h => h 0) (Cert.ReferenceIdeal.Value.run (F := Ideal) m' g')⟩
  refine (θ_run Cert.KernelIdeal.defs _ _).mono (fun _ h c => ⟨(h.1 c).1.trans ?_, (h.1 c).2⟩) (run_args (F := Ideal) m g)
  rw [result_eq]
  exact outAt_eq _ _ _ (ins m) (fun s => (ins_x m s).trans (hagree s).1) (fun s => (ins_w1 m s).trans (hagree s).2.1)
    (fun s => (ins_w2 m s).trans (hagree s).2.2) c

theorem claim : Cert.Claim := ⟨Cert.Kernel.Gen.facts, Cert.KernelIdeal.Gen.facts, Cert.ReferenceIdeal.Gen.facts,
  frame_kernel, frame_ideal, frame_reference, trivial, values_agree⟩

end Cert.Proof

end
